-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite3 [hPre_all_finite3 : Cert.Pre_all_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite3 [hPre_all_finite3 : Cert.Pre_all_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_all_finite3 [hKernel3Ideal : Cert.Kernel3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_all_finite3 [hReference3Ideal : Cert.Reference3Ideal.Facts] [hPre_all_finite3 : Cert.Pre_all_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_all_finite3 [hKernel3Ideal : Cert.Kernel3Ideal.Facts] [hReference3Ideal : Cert.Reference3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_all_finite : Cert.Pre_all_finite.Facts) (hPre_all_finite2 : Cert.Pre_all_finite2.Facts) (hPre_all_finite3 : Cert.Pre_all_finite3.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Kernel3Ideal_pre_all_finite3 (hKernel3Ideal := hKernel3Ideal) (hPre_all_finite3 := hPre_all_finite3)
    ∧ quiescent_Reference3Ideal (hReference3Ideal := hReference3Ideal)
    ∧ quiescent_Reference3Ideal_pre_all_finite3 (hReference3Ideal := hReference3Ideal) (hPre_all_finite3 := hPre_all_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal_pre_all_finite3 (hKernel3Ideal := hKernel3Ideal) (hReference3Ideal := hReference3Ideal) (hPre_all_finite3 := hPre_all_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_all_finite.lean ====
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x8x96 .f32) (main_arg1 : FVec F S16384x8x96 .f32) (main_arg2 : FVec F S16384x8x64 .f32) (main_arg3 : FVec F S16384x512 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_all_finite2.lean ====
abbrev S16384x8x96 : Shape := ⟨3, ![16384, 8, 96]⟩
abbrev S16384x8x64 : Shape := ⟨3, ![16384, 8, 64]⟩
abbrev S96 : Shape := ⟨1, ![96]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S16384x8x96 .f32) (main_arg1 : FVec F S16384x8x96 .f32) (main_arg2 : FVec F S16384x8x64 .f32) (main_arg3 : FVec F S96 .f32) (main_arg4 : FVec F S96 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_v13 main_v16
-- ==== Pre_all_finite3.lean ====
abbrev S16384x1024 : Shape := ⟨2, ![16384, 1024]⟩
abbrev S1024 : Shape := ⟨1, ![1024]⟩
abbrev S1024x7328 : Shape := ⟨2, ![1024, 7328]⟩
abbrev S16384x7328 : Shape := ⟨2, ![16384, 7328]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x7328 : S_.BroadcastsInDim S1024x7328 (![] : Fin 0 → Fin S1024x7328.rank)
  reducesTo_S1024x7328_S_d0_1 : S1024x7328.ReducesTo [0, 1] S_
  bcast_S_S16384x7328 : S_.BroadcastsInDim S16384x7328 (![] : Fin 0 → Fin S16384x7328.rank)
  reducesTo_S16384x7328_S_d0_1 : S16384x7328.ReducesTo [0, 1] S_

variable [Facts]

def fn_part1 {F : FTy → Type} [FloatOps F] (main_arg4 : FVec F S16384x1024 .f32) (main_v13 : IVec S_ 1) (main_v16 : IVec S16384x7328 1) : IVec S_ 1 :=
  let main_c_5 : IVec S_ 1 := constantI S_ 1 1#1
  let main_v17 : IVec S_ 1 := (fun x v => Host.reduce IntOp.andi x v reducesTo_S16384x7328_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S1024 .f32) (main_arg2 : FVec F S1024x7328 .f32) (main_arg3 : FVec F S16384x7328 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7328 .f32 := Host.absf main_arg2
  let main_cst_2 : FVec F S_ .f32 := constant S_ .f32 0x7F800000#32
  let main_v10 : FVec F S1024x7328 .f32 := broadcastInDim S1024x7328 ![] bcast_S_S1024x7328 main_cst_2
  let main_v11 : IVec S1024x7328 1 := cmpf .olt main_v9 main_v10
  let main_c_3 : IVec S_ 1 := constantI S_ 1 1#1
  let main_v12 : IVec S_ 1 := (fun x v => Host.reduce IntOp.andi x v reducesTo_S1024x7328_S_d0_1 h_S_) main_v11 main_c_3
  let main_v13 : IVec S_ 1 := andi main_v8 main_v12
  let main_v14 : FVec F S16384x7328 .f32 := Host.absf main_arg3
  let main_cst_4 : FVec F S_ .f32 := constant S_ .f32 0x7F800000#32
  let main_v15 : FVec F S16384x7328 .f32 := broadcastInDim S16384x7328 ![] bcast_S_S16384x7328 main_cst_4
  let main_v16 : IVec S16384x7328 1 := cmpf .olt main_v14 main_v15
  fn_part1 (F := F) main_arg4 main_v13 main_v16
-- ==== Kernel.lean ====
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x8x128 : Shape := ⟨3, ![16384, 8, 128]⟩
abbrev S16384x1024 : Shape := ⟨2, ![16384, 1024]⟩
abbrev S1024x16384 : Shape := ⟨2, ![1024, 16384]⟩
abbrev S512x128 : Shape := ⟨2, ![512, 128]⟩
abbrev S128x512 : Shape := ⟨2, ![128, 512]⟩
abbrev S16384x128 : Shape := ⟨2, ![16384, 128]⟩
abbrev S1x512x1 : Shape := ⟨3, ![1, 512, 1]⟩
abbrev S128x16384 : Shape := ⟨2, ![128, 16384]⟩
abbrev S2 : Shape := ⟨1, ![2]⟩
abbrev S512x1 : Shape := ⟨2, ![512, 1]⟩
abbrev S4096x128 : Shape := ⟨2, ![4096, 128]⟩
abbrev S512x4096 : Shape := ⟨2, ![512, 4096]⟩
abbrev S128x4096 : Shape := ⟨2, ![128, 4096]⟩
abbrev S1 : Shape := ⟨1, ![1]⟩

abbrev nBuf : Space → Nat
  | .hbm => 56
  | .vmem => 21
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x512, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .f32⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S8x16384x1, .f32⟩
  | .hbm, ⟨17, _⟩ => ⟨S8x16384x1, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x64x16384, .f32⟩
  | .hbm, ⟨22, _⟩ => ⟨S16384x8x64, .f32⟩
  | .hbm, ⟨23, _⟩ => ⟨S16384x8x64, .f32⟩
  | .hbm, ⟨24, _⟩ => ⟨S16384x8x64, .f32⟩
  | .hbm, ⟨25, _⟩ => ⟨S_, .f32⟩
  | .hbm, ⟨26, _⟩ => ⟨S16384x8, .f32⟩
  | .hbm, ⟨27, _⟩ => ⟨S8x16384, .f32⟩
  | .hbm, ⟨28, _⟩ => ⟨S8x16384x1, .f32⟩
  | .hbm, ⟨29, _⟩ => ⟨S_, .i32⟩
  | .hbm, ⟨30, _⟩ => ⟨S_, .f32⟩
  | .hbm, ⟨31, _⟩ => ⟨S16384x8x128, .f32⟩
  | .hbm, ⟨32, _⟩ => ⟨S16384x1024, .f32⟩
  | .hbm, ⟨33, _⟩ => ⟨S_, .i32⟩
  | .hbm, ⟨34, _⟩ => ⟨S_, .f32⟩
  | .hbm, ⟨35, _⟩ => ⟨S16384x8x128, .f32⟩
  | .hbm, ⟨36, _⟩ => ⟨S16384x1024, .f32⟩
  | .hbm, ⟨37, _⟩ => ⟨S_, .i32⟩
  | .hbm, ⟨38, _⟩ => ⟨S_, .f32⟩
  | .hbm, ⟨39, _⟩ => ⟨S16384x8x128, .f32⟩
  | .hbm, ⟨40, _⟩ => ⟨S16384x1024, .f32⟩
  | .hbm, ⟨41, _⟩ => ⟨S_, .i32⟩
  | .hbm, ⟨42, _⟩ => ⟨S_, .f32⟩
  | .hbm, ⟨43, _⟩ => ⟨S16384x8x128, .f32⟩
  | .hbm, ⟨44, _⟩ => ⟨S16384x1024, .f32⟩
  | .hbm, ⟨45, _⟩ => ⟨S16384x1024, .bf16⟩
  | .hbm, ⟨46, _⟩ => ⟨S16384x1024, .bf16⟩
  | .hbm, ⟨47, _⟩ => ⟨S16384x1024, .bf16⟩
  | .hbm, ⟨48, _⟩ => ⟨S16384x1024, .bf16⟩
  | .hbm, ⟨49, _⟩ => ⟨S1024x16384, .f32⟩
  | .hbm, ⟨50, _⟩ => ⟨S1024x16384, .bf16⟩
  | .hbm, ⟨51, _⟩ => ⟨S1024x16384, .f32⟩
  | .hbm, ⟨52, _⟩ => ⟨S1024x16384, .bf16⟩
  | .hbm, ⟨53, _⟩ => ⟨S16384x1024, .f32⟩
  | .hbm, ⟨54, _⟩ => ⟨S1024x16384, .f32⟩
  | .hbm, ⟨55, _⟩ => ⟨S1024x16384, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S16384x128, .bf16⟩
  | .local _ .vmem, ⟨9, _⟩ => ⟨S16384x128, .bf16⟩
  | .local _ .vmem, ⟨10, _⟩ => ⟨S16384x128, .bf16⟩
  | .local _ .vmem, ⟨11, _⟩ => ⟨S16384x128, .bf16⟩
  | .local _ .vmem, ⟨12, _⟩ => ⟨S1x512x1, .f32⟩
  | .local _ .vmem, ⟨13, _⟩ => ⟨S1x512x1, .f32⟩
  | .local _ .vmem, ⟨14, _⟩ => ⟨S1x512x1, .f32⟩
  | .local _ .vmem, ⟨15, _⟩ => ⟨S1x512x1, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S128x16384, .f32⟩
  | .local _ .vmem, ⟨20, _⟩ => ⟨S128x16384, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call1_v0 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_call2_v0 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_call3_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

@[reducible] def k0_t1_loop : Scf.Loop 32 :=
  let c0_i32_16 : BitVec 32 := 0#32
  let c4_i32 : BitVec 32 := 4#32
  let v19 : BitVec 32 := Scalar.addi c0_i32_16 c4_i32
  let c1_i32 : BitVec 32 := 1#32
  ⟨c0_i32_16, v19, c1_i32⟩
def k0_mult1 (k0_t1 : Fin k0_t1_loop.trips) : BitVec 32 :=
  let c0_i32_16 : BitVec 32 := 0#32
  let c1_i32 : BitVec 32 := 1#32
  let arg17 : BitVec 32 := Scf.iv c0_i32_16 c1_i32 k0_t1
  let c4096_i32 : BitVec 32 := 4096#32
  let v25 : BitVec 32 := Scalar.muli arg17 c4096_i32
  v25
def k0_off1 (k0_t1 : Fin k0_t1_loop.trips) : Fin 2 → Nat :=
  let c0_i32_16 : BitVec 32 := 0#32
  let c1_i32 : BitVec 32 := 1#32
  let arg17 : BitVec 32 := Scf.iv c0_i32_16 c1_i32 k0_t1
  let c4096_i32 : BitVec 32 := 4096#32
  let v25 : BitVec 32 := Scalar.muli arg17 c4096_i32
  let v26 : BitVec 32 := v25
  let v27 : Index := Scalar.indexCast v26
  let c0_23 : Index := 0#32
  ![v27.toNat, 0]
def k0_off2 (k0_t1 : Fin k0_t1_loop.trips) : Fin 2 → Nat :=
  let c0_32 : Index := 0#32
  let c0_i32_16 : BitVec 32 := 0#32
  let c1_i32 : BitVec 32 := 1#32
  let arg17 : BitVec 32 := Scf.iv c0_i32_16 c1_i32 k0_t1
  let c4096_i32 : BitVec 32 := 4096#32
  let v25 : BitVec 32 := Scalar.muli arg17 c4096_i32
  let v26 : BitVec 32 := v25
  let v48 : Index := Scalar.indexCast v26
  ![0, v48.toNat]
def k0_cond2 (i : grid0.Coords) : BitVec 1 :=
  let arg1 : BitVec 32 := BitVec.ofNat 32 (i 1).val
  let c31_i32 : BitVec 32 := 31#32
  let v22 : BitVec 1 := Scalar.cmpi .eq arg1 c31_i32
  let v23 : BitVec 32 := Scalar.extui v22
  let c0_i32_22 : BitVec 32 := 0#32
  let v24 : BitVec 1 := Scalar.cmpi .ne v23 c0_i32_22
  v24

def k0_mult2 (i : grid0.Coords) : BitVec 32 :=
  let arg0 : BitVec 32 := BitVec.ofNat 32 (i 0).val
  let c128_i32 : BitVec 32 := 128#32
  let v25 : BitVec 32 := Scalar.muli arg0 c128_i32
  v25
def k0_off3 (i : grid0.Coords) : Fin 2 → Nat :=
  let arg0 : BitVec 32 := BitVec.ofNat 32 (i 0).val
  let c128_i32 : BitVec 32 := 128#32
  let v25 : BitVec 32 := Scalar.muli arg0 c128_i32
  let v26 : BitVec 32 := v25
  let c0_i32_24 : BitVec 32 := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x8x96 : Shape := ⟨3, ![16384, 8, 96]⟩
abbrev S16384x8x64 : Shape := ⟨3, ![16384, 8, 64]⟩
abbrev S16384x512 : Shape := ⟨2, ![16384, 512]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩
abbrev S16384x8x128 : Shape := ⟨3, ![16384, 8, 128]⟩
abbrev S16384x1024 : Shape := ⟨2, ![16384, 1024]⟩
abbrev S1024x16384 : Shape := ⟨2, ![1024, 16384]⟩

abbrev nBuf : Space → Nat
  | .hbm => 86
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x512, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .i1⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S_, .f32⟩
  | .hbm, ⟨17, _⟩ => ⟨S8x16384, .f32⟩
  | .hbm, ⟨18, _⟩ => ⟨S8x16384, .f32⟩
  | .hbm, ⟨19, _⟩ => ⟨S_, .f32⟩
  | .hbm, ⟨20, _⟩ => ⟨S8x16384, .f32⟩
  | .hbm, ⟨21, _⟩ => ⟨S8x16384, .i1⟩
  | .hbm, ⟨22, _⟩ => ⟨S_, .f32⟩
  | .hbm, ⟨23, _⟩ => ⟨S8x16384, .f32⟩
  | .hbm, ⟨24, _⟩ => ⟨S8x16384, .i1⟩
  | .hbm, ⟨25, _⟩ => ⟨S_, .f32⟩
  | .hbm, ⟨26, _⟩ => ⟨S8x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x1, .f32⟩
  | .hbm, ⟨43, _⟩ => ⟨S_, .f32⟩
  | .hbm, ⟨44, _⟩ => ⟨S8x16384x1, .f32⟩
  | .hbm, ⟨45, _⟩ => ⟨S8x16384x1, .f32⟩
  | .hbm, ⟨46, _⟩ => ⟨S8x64x16384, .f32⟩
  | .hbm, ⟨47, _⟩ => ⟨S16384x8x64, .f32⟩
  | .hbm, ⟨48, _⟩ => ⟨S16384x512, .f32⟩
  | .hbm, ⟨49, _⟩ => ⟨S16384x8x64, .f32⟩
  | .hbm, ⟨50, _⟩ => ⟨S8x64x16384, .f32⟩
  | .hbm, ⟨51, _⟩ => ⟨S8x16384x16384, .f32⟩
  | .hbm, ⟨52, _⟩ => ⟨S8x64x16384, .f32⟩
  | .hbm, ⟨53, _⟩ => ⟨S16384x8x64, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x1, .f32⟩
  | .hbm, ⟨61, _⟩ => ⟨S8x16384x16384, .f32⟩
  | .hbm, ⟨62, _⟩ => ⟨S8x16384x16384, .f32⟩
  | .hbm, ⟨63, _⟩ => ⟨S_, .f32⟩
  | .hbm, ⟨64, _⟩ => ⟨S8x16384, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S8x16384x96, .f32⟩
  | .hbm, ⟨69, _⟩ => ⟨S16384x8x96, .f32⟩
  | .hbm, ⟨70, _⟩ => ⟨S8x16384x96, .f32⟩
  | .hbm, ⟨71, _⟩ => ⟨S16384x8x96, .f32⟩
  | .hbm, ⟨72, _⟩ => ⟨S_, .i32⟩
  | .hbm, ⟨73, _⟩ => ⟨S_, .f32⟩
  | .hbm, ⟨74, _⟩ => ⟨S16384x8x128, .f32⟩
  | .hbm, ⟨75, _⟩ => ⟨S16384x1024, .f32⟩
  | .hbm, ⟨76, _⟩ => ⟨S_, .i32⟩
  | .hbm, ⟨77, _⟩ => ⟨S_, .f32⟩
  | .hbm, ⟨78, _⟩ => ⟨S16384x8x128, .f32⟩
  | .hbm, ⟨79, _⟩ => ⟨S16384x1024, .f32⟩
  | .hbm, ⟨80, _⟩ => ⟨S1024x16384, .f32⟩
  | .hbm, ⟨81, _⟩ => ⟨S_, .i32⟩
  | .hbm, ⟨82, _⟩ => ⟨S_, .f32⟩
  | .hbm, ⟨83, _⟩ => ⟨S16384x8x128, .f32⟩
  | .hbm, ⟨84, _⟩ => ⟨S16384x1024, .f32⟩
  | .hbm, ⟨85, _⟩ => ⟨S1024x16384, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c : Ref sig .tc := ⟨.hbm, 72, rfl⟩
abbrev main_call0_v0 : Ref sig .tc := ⟨.hbm, 73, rfl⟩
abbrev main_v55 : Ref sig .tc := ⟨.hbm, 74, rfl⟩
abbrev main_v56 : Ref sig .tc := ⟨.hbm, 75, rfl⟩
abbrev main_c_12 : Ref sig .tc := ⟨.hbm, 76, rfl⟩
abbrev main_call1_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_call2_v0 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Kernel2.lean ====
abbrev S16384x8x96 : Shape := ⟨3, ![16384, 8, 96]⟩
abbrev S16384x8x64 : Shape := ⟨3, ![16384, 8, 64]⟩
abbrev S96 : Shape := ⟨1, ![96]⟩
abbrev S_ : Shape := ⟨0, ![]⟩
abbrev S16384x8x128 : Shape := ⟨3, ![16384, 8, 128]⟩
abbrev S16384x1024 : Shape := ⟨2, ![16384, 1024]⟩
abbrev S1 : Shape := ⟨1, ![1]⟩
abbrev S1x1 : Shape := ⟨2, ![1, 1]⟩
abbrev S1x128 : Shape := ⟨2, ![1, 128]⟩
abbrev S1024x16384 : Shape := ⟨2, ![1024, 16384]⟩
abbrev S8x16384x1 : Shape := ⟨3, ![8, 16384, 1]⟩
abbrev S128x1024 : Shape := ⟨2, ![128, 1024]⟩
abbrev S16384x128 : Shape := ⟨2, ![16384, 128]⟩
abbrev S128x16384 : Shape := ⟨2, ![128, 16384]⟩
abbrev S1024x128 : Shape := ⟨2, ![1024, 128]⟩
abbrev S1x1024x1 : Shape := ⟨3, ![1, 1024, 1]⟩
abbrev S1x1024 : Shape := ⟨2, ![1, 1024]⟩
abbrev S1x1x1 : Shape := ⟨3, ![1, 1, 1]⟩
abbrev S8192x128 : Shape := ⟨2, ![8192, 128]⟩
abbrev S8192x1024 : Shape := ⟨2, ![8192, 1024]⟩
abbrev S1024 : Shape := ⟨1, ![1024]⟩
abbrev S128x8192 : Shape := ⟨2, ![128, 8192]⟩
abbrev S1024x1 : Shape := ⟨2, ![1024, 1]⟩

abbrev nBuf : Space → Nat
  | .hbm => 44
  | .vmem => 14
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S96, .f32⟩
  | .hbm, ⟨4, _⟩ => ⟨S96, .f32⟩
  | .hbm, ⟨5, _⟩ => ⟨S_, .f32⟩
  | .hbm, ⟨6, _⟩ => ⟨S16384x8x96, .f32⟩
  | .hbm, ⟨7, _⟩ => ⟨S16384x8x96, .f32⟩
  | .hbm, ⟨8, _⟩ => ⟨S_, .i32⟩
  | .hbm, ⟨9, _⟩ => ⟨S_, .f32⟩
  | .hbm, ⟨10, _⟩ => ⟨S16384x8x128, .f32⟩
  | .hbm, ⟨11, _⟩ => ⟨S16384x1024, .f32⟩
  | .hbm, ⟨12, _⟩ => ⟨S96, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S96, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1x1, .f32⟩
  | .hbm, ⟨28, _⟩ => ⟨S1x128, .f32⟩
  | .hbm, ⟨29, _⟩ => ⟨S1024x16384, .f32⟩
  | .hbm, ⟨30, _⟩ => ⟨S1024x16384, .bf16⟩
  | .hbm, ⟨31, _⟩ => ⟨S_, .i32⟩
  | .hbm, ⟨32, _⟩ => ⟨S_, .f32⟩
  | .hbm, ⟨33, _⟩ => ⟨S16384x8x128, .f32⟩
  | .hbm, ⟨34, _⟩ => ⟨S16384x1024, .f32⟩
  | .hbm, ⟨35, _⟩ => ⟨S16384x1024, .bf16⟩
  | .hbm, ⟨36, _⟩ => ⟨S_, .i32⟩
  | .hbm, ⟨37, _⟩ => ⟨S_, .f32⟩
  | .hbm, ⟨38, _⟩ => ⟨S16384x8x128, .f32⟩
  | .hbm, ⟨39, _⟩ => ⟨S16384x1024, .f32⟩
  | .hbm, ⟨40, _⟩ => ⟨S1024x16384, .f32⟩
  | .hbm, ⟨41, _⟩ => ⟨S1024x16384, .bf16⟩
  | .hbm, ⟨42, _⟩ => ⟨S16384x1024, .f32⟩
  | .hbm, ⟨43, _⟩ => ⟨S8x16384x1, .f32⟩
  | .local _ .vmem, ⟨0, _⟩ => ⟨S128x1024, .bf16⟩
  | .local _ .vmem, ⟨1, _⟩ => ⟨S128x1024, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x16384, .bf16⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1x1024x1, .f32⟩
  | .local _ .vmem, ⟨10, _⟩ => ⟨S1x1024x1, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_24 : BitVec 32 := 0#32
  let c2_i32 : BitVec 32 := 2#32
  let v39 : BitVec 32 := Scalar.addi c0_i32_24 c2_i32
  let c1_i32 : BitVec 32 := 1#32
  ⟨c0_i32_24, v39, c1_i32⟩
def k0_mult1 (k0_t1 : Fin k0_t1_loop.trips) : BitVec 32 :=
  let c0_i32_24 : BitVec 32 := 0#32
  let c1_i32 : BitVec 32 := 1#32
  let arg11 : BitVec 32 := Scf.iv c0_i32_24 c1_i32 k0_t1
  let c8192_i32 : BitVec 32 := 8192#32
  let v45 : BitVec 32 := Scalar.muli arg11 c8192_i32
  v45
def k0_off1 (k0_t1 : Fin k0_t1_loop.trips) : Fin 2 → Nat :=
  let c0_i32_24 : BitVec 32 := 0#32
  let c1_i32 : BitVec 32 := 1#32
  let arg11 : BitVec 32 := Scf.iv c0_i32_24 c1_i32 k0_t1
  let c8192_i32 : BitVec 32 := 8192#32
  let v45 : BitVec 32 := Scalar.muli arg11 c8192_i32
  let v46 : BitVec 32 := v45
  let v47 : Index := Scalar.indexCast v46
  let c0_28 : Index := 0#32
  ![v47.toNat, 0]
def k0_mult2 (k0_t1 : Fin k0_t1_loop.trips) : BitVec 32 :=
  let c0_i32_24 : BitVec 32 := 0#32
  let c1_i32 : BitVec 32 := 1#32
  let arg11 : BitVec 32 := Scf.iv c0_i32_24 c1_i32 k0_t1
  let c8192_i32_37 : BitVec 32 := 8192#32
  let v62 : BitVec 32 := Scalar.muli arg11 c8192_i32_37
  v62
def k0_off2 (k0_t1 : Fin k0_t1_loop.trips) : Fin 2 → Nat :=
  let c0_38 : Index := 0#32
  let c0_i32_24 : BitVec 32 := 0#32
  let c1_i32 : BitVec 32 := 1#32
  let arg11 : BitVec 32 := Scf.iv c0_i32_24 c1_i32 k0_t1
  let c8192_i32_37 : BitVec 32 := 8192#32
  let v62 : BitVec 32 := Scalar.muli arg11 c8192_i32_37
  let v63 : BitVec 32 := v62
  let v64 : Index := Scalar.indexCast v63
  ![0, v64.toNat]
@[reducible] def k0_t2_loop : Scf.Loop 32 :=
  let c0_i32_27 : BitVec 32 := 0#32
  let c2_i32 : BitVec 32 := 2#32
  let v43 : BitVec 32 := Scalar.addi c0_i32_27 c2_i32
  let c1_i32 : BitVec 32 := 1#32
  ⟨c0_i32_27, v43, c1_i32⟩
def k0_mult3 (k0_t2 : Fin k0_t2_loop.trips) : BitVec 32 :=
  let c0_i32_27 : BitVec 32 := 0#32
  let c1_i32 : BitVec 32 := 1#32
  let arg11 : BitVec 32 := Scf.iv c0_i32_27 c1_i32 k0_t2
  let c8192_i32 : BitVec 32 := 8192#32
  let v44 : BitVec 32 := Scalar.muli arg11 c8192_i32
  v44
def k0_off3 (k0_t2 : Fin k0_t2_loop.trips) : Fin 2 → Nat :=
  let c0_i32_27 : BitVec 32 := 0#32
  let c1_i32 : BitVec 32 := 1#32
  let arg11 : BitVec 32 := Scf.iv c0_i32_27 c1_i32 k0_t2
  let c8192_i32 : BitVec 32 := 8192#32
  let v44 : BitVec 32 := Scalar.muli arg11 c8192_i32
  let v45 : BitVec 32 := v44
  let v46 : Index := Scalar.indexCast v45
  let c0_29 : Index := 0#32
  ![v46.toNat, 0]
def k0_mult4 (k0_t2 : Fin k0_t2_loop.trips) : BitVec 32 :=
  let c0_i32_27 : BitVec 32 := 0#32
  let c1_i32 : BitVec 32 := 1#32
  let arg11 : BitVec 32 := Scf.iv c0_i32_27 c1_i32 k0_t2
  let c8192_i32_41 : BitVec 32 := 8192#32
  let v70 : BitVec 32 := Scalar.muli arg11 c8192_i32_41
  v70
def k0_off4 (k0_t2 : Fin k0_t2_loop.trips) : Fin 2 → Nat :=
  let c0_42 : Index := 0#32
  let c0_i32_27 : BitVec 32 := 0#32
  let c1_i32 : BitVec 32 := 1#32
  let arg11 : BitVec 32 := Scf.iv c0_i32_27 c1_i32 k0_t2
  let c8192_i32_41 : BitVec 32 := 8192#32
  let v70 : BitVec 32 := Scalar.muli arg11 c8192_i32_41
  let v71 : BitVec 32 := v70
  let v72 : Index := Scalar.indexCast v71
  ![0, v72.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x8x96 : Shape := ⟨3, ![16384, 8, 96]⟩
abbrev S16384x8x64 : Shape := ⟨3, ![16384, 8, 64]⟩
abbrev S96 : Shape := ⟨1, ![96]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8x128 : Shape := ⟨3, ![16384, 8, 128]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S96, .f32⟩
  | .hbm, ⟨4, _⟩ => ⟨S96, .f32⟩
  | .hbm, ⟨5, _⟩ => ⟨S_, .f32⟩
  | .hbm, ⟨6, _⟩ => ⟨S16384x8x96, .f32⟩
  | .hbm, ⟨7, _⟩ => ⟨S16384x8x96, .f32⟩
  | .hbm, ⟨8, _⟩ => ⟨S8x16384x16384, .f32⟩
  | .hbm, ⟨9, _⟩ => ⟨S_, .f32⟩
  | .hbm, ⟨10, _⟩ => ⟨S8x16384, .f32⟩
  | .hbm, ⟨11, _⟩ => ⟨S_, .f32⟩
  | .hbm, ⟨12, _⟩ => ⟨S8x16384, .f32⟩
  | .hbm, ⟨13, _⟩ => ⟨S8x16384, .f32⟩
  | .hbm, ⟨14, _⟩ => ⟨S8x16384x1, .f32⟩
  | .hbm, ⟨15, _⟩ => ⟨S8x16384x16384, .f32⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x64x16384, .f32⟩
  | .hbm, ⟨24, _⟩ => ⟨S16384x8x64, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S8x16384x1, .f32⟩
  | .hbm, ⟨34, _⟩ => ⟨S8x16384x1, .f32⟩
  | .hbm, ⟨35, _⟩ => ⟨S8x16384x1, .f32⟩
  | .hbm, ⟨36, _⟩ => ⟨S_, .i32⟩
  | .hbm, ⟨37, _⟩ => ⟨S_, .f32⟩
  | .hbm, ⟨38, _⟩ => ⟨S16384x8x128, .f32⟩
  | .hbm, ⟨39, _⟩ => ⟨S16384x1024, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x7328 : Shape := ⟨2, ![1024, 7328]⟩
abbrev S16384x7328 : Shape := ⟨2, ![16384, 7328]⟩
abbrev S16384x512 : Shape := ⟨2, ![16384, 512]⟩
abbrev S16384x8x64 : Shape := ⟨3, ![16384, 8, 64]⟩
abbrev S_ : Shape := ⟨0, ![]⟩
abbrev S16384x8x128 : Shape := ⟨3, ![16384, 8, 128]⟩
abbrev S16384x32 : Shape := ⟨2, ![16384, 32]⟩
abbrev S16384x128 : Shape := ⟨2, ![16384, 128]⟩
abbrev S16384x256 : Shape := ⟨2, ![16384, 256]⟩
abbrev S16384x3072 : Shape := ⟨2, ![16384, 3072]⟩
abbrev S16384x384 : Shape := ⟨2, ![16384, 384]⟩
abbrev S16384x8192 : Shape := ⟨2, ![16384, 8192]⟩
abbrev S16384x6144 : Shape := ⟨2, ![16384, 6144]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x32 : Shape := ⟨2, ![1024, 32]⟩
abbrev S1024x128 : Shape := ⟨2, ![1024, 128]⟩
abbrev S1024x256 : Shape := ⟨2, ![1024, 256]⟩
abbrev S1024x3072 : Shape := ⟨2, ![1024, 3072]⟩
abbrev S1024x384 : Shape := ⟨2, ![1024, 384]⟩
abbrev S1024x8192 : Shape := ⟨2, ![1024, 8192]⟩
abbrev S8192x1024 : Shape := ⟨2, ![8192, 1024]⟩
abbrev S1x1024 : Shape := ⟨2, ![1, 1024]⟩
abbrev S512x6144 : Shape := ⟨2, ![512, 6144]⟩
abbrev S512x1024 : Shape := ⟨2, ![512, 1024]⟩
abbrev S6144x1024 : Shape := ⟨2, ![6144, 1024]⟩
abbrev S512 : Shape := ⟨1, ![512]⟩
abbrev S512x1 : Shape := ⟨2, ![512, 1]⟩

abbrev nBuf : Space → Nat
  | .hbm => 58
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7328, .f32⟩
  | .hbm, ⟨3, _⟩ => ⟨S16384x7328, .f32⟩
  | .hbm, ⟨4, _⟩ => ⟨S16384x1024, .f32⟩
  | .hbm, ⟨5, _⟩ => ⟨S16384x512, .f32⟩
  | .hbm, ⟨6, _⟩ => ⟨S16384x8x64, .f32⟩
  | .hbm, ⟨7, _⟩ => ⟨S_, .i32⟩
  | .hbm, ⟨8, _⟩ => ⟨S_, .f32⟩
  | .hbm, ⟨9, _⟩ => ⟨S16384x8x128, .f32⟩
  | .hbm, ⟨10, _⟩ => ⟨S16384x1024, .f32⟩
  | .hbm, ⟨11, _⟩ => ⟨S16384x32, .f32⟩
  | .hbm, ⟨12, _⟩ => ⟨S_, .i32⟩
  | .hbm, ⟨13, _⟩ => ⟨S_, .f32⟩
  | .hbm, ⟨14, _⟩ => ⟨S16384x128, .f32⟩
  | .hbm, ⟨15, _⟩ => ⟨S_, .f32⟩
  | .hbm, ⟨16, _⟩ => ⟨S16384x256, .f32⟩
  | .hbm, ⟨17, _⟩ => ⟨S16384x3072, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x384, .f32⟩
  | .hbm, ⟨25, _⟩ => ⟨S16384x256, .f32⟩
  | .hbm, ⟨26, _⟩ => ⟨S16384x8192, .f32⟩
  | .hbm, ⟨27, _⟩ => ⟨S16384x8192, .bf16⟩
  | .hbm, ⟨28, _⟩ => ⟨S16384x6144, .bf16⟩
  | .hbm, ⟨29, _⟩ => ⟨S16384x1024, .bf16⟩
  | .hbm, ⟨30, _⟩ => ⟨S16384x1024, .bf16⟩
  | .hbm, ⟨31, _⟩ => ⟨S1024x512, .f32⟩
  | .hbm, ⟨32, _⟩ => ⟨S1024x8x64, .f32⟩
  | .hbm, ⟨33, _⟩ => ⟨S_, .i32⟩
  | .hbm, ⟨34, _⟩ => ⟨S_, .f32⟩
  | .hbm, ⟨35, _⟩ => ⟨S1024x8x128, .f32⟩
  | .hbm, ⟨36, _⟩ => ⟨S1024x1024, .f32⟩
  | .hbm, ⟨37, _⟩ => ⟨S1024x32, .f32⟩
  | .hbm, ⟨38, _⟩ => ⟨S_, .i32⟩
  | .hbm, ⟨39, _⟩ => ⟨S_, .f32⟩
  | .hbm, ⟨40, _⟩ => ⟨S1024x128, .f32⟩
  | .hbm, ⟨41, _⟩ => ⟨S_, .f32⟩
  | .hbm, ⟨42, _⟩ => ⟨S1024x256, .f32⟩
  | .hbm, ⟨43, _⟩ => ⟨S1024x3072, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S1024x384, .f32⟩
  | .hbm, ⟨51, _⟩ => ⟨S1024x256, .f32⟩
  | .hbm, ⟨52, _⟩ => ⟨S1024x8192, .f32⟩
  | .hbm, ⟨53, _⟩ => ⟨S8192x1024, .f32⟩
  | .hbm, ⟨54, _⟩ => ⟨S8192x1024, .bf16⟩
  | .hbm, ⟨55, _⟩ => ⟨S1x1024, .f32⟩
  | .hbm, ⟨56, _⟩ => ⟨S16384x1024, .f32⟩
  | .hbm, ⟨57, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8192x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_call3_v0 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S16384x1024 : Shape := ⟨2, ![16384, 1024]⟩
abbrev S1024 : Shape := ⟨1, ![1024]⟩
abbrev S1024x7328 : Shape := ⟨2, ![1024, 7328]⟩
abbrev S16384x7328 : Shape := ⟨2, ![16384, 7328]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7328, .f32⟩
  | .hbm, ⟨3, _⟩ => ⟨S16384x7328, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x7328, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S16384x6144 : Shape := ⟨2, ![16384, 6144]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x6144, .f32⟩
  | .hbm, ⟨2, _⟩ => ⟨S16384x1024, .bf16⟩
  | .hbm, ⟨3, _⟩ => ⟨S16384x6144, .bf16⟩
  | .hbm, ⟨4, _⟩ => ⟨S1024x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x6144 : Shape := ⟨2, ![16384, 6144]⟩
abbrev S1024x16384 : Shape := ⟨2, ![1024, 16384]⟩
abbrev S1024x6144 : Shape := ⟨2, ![1024, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x6144, .f32⟩
  | .hbm, ⟨2, _⟩ => ⟨S1024x16384, .f32⟩
  | .hbm, ⟨3, _⟩ => ⟨S1024x6144, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x8192 : Shape := ⟨2, ![1024, 8192]⟩
abbrev S1x1024 : Shape := ⟨2, ![1, 1024]⟩
abbrev S16384x8192 : Shape := ⟨2, ![16384, 8192]⟩
abbrev S512x1024 : Shape := ⟨2, ![512, 1024]⟩
abbrev S512x8192 : Shape := ⟨2, ![512, 8192]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .f32⟩
  | .hbm, ⟨3, _⟩ => ⟨S1x1024, .f32⟩
  | .hbm, ⟨4, _⟩ => ⟨S1024x8192, .bf16⟩
  | .hbm, ⟨5, _⟩ => ⟨S16384x8192, .bf16⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8192, .bf16⟩
  | .local _ .vmem, ⟨4, _⟩ => ⟨S512x8192, .bf16⟩
  | .local _ .vmem, ⟨5, _⟩ => ⟨S512x8192, .bf16⟩
  | .local _ .vmem, ⟨6, _⟩ => ⟨S512x1024, .bf16⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x1024 : Shape := ⟨2, ![16384, 1024]⟩
abbrev S1024 : Shape := ⟨1, ![1024]⟩
abbrev S1024x8192 : Shape := ⟨2, ![1024, 8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8192 : Shape := ⟨2, ![16384, 8192]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8192, .f32⟩
  | .hbm, ⟨20, _⟩ => ⟨S16384x8192, .bf16⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x16384, .f32⟩
  | .hbm, ⟨3, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S16384x1024 : Shape := ⟨2, ![16384, 1024]⟩
abbrev S16384x3072 : Shape := ⟨2, ![16384, 3072]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x1024, .bf16⟩
  | .hbm, ⟨3, _⟩ => ⟨S16384x3072, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S16384x3072 : Shape := ⟨2, ![16384, 3072]⟩
abbrev S1024x16384 : Shape := ⟨2, ![1024, 16384]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S1024x16384, .f32⟩
  | .hbm, ⟨3, _⟩ => ⟨S16384x1024, .f32⟩
  | .hbm, ⟨4, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S16384x512 : Shape := ⟨2, ![16384, 512]⟩
abbrev S16384x3072 : Shape := ⟨2, ![16384, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x3072, .f32⟩
  | .hbm, ⟨2, _⟩ => ⟨S16384x512, .bf16⟩
  | .hbm, ⟨3, _⟩ => ⟨S16384x3072, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x512 : Shape := ⟨2, ![16384, 512]⟩
abbrev S16384x3072 : Shape := ⟨2, ![16384, 3072]⟩
abbrev S512x16384 : Shape := ⟨2, ![512, 16384]⟩
abbrev S16384x1024 : Shape := ⟨2, ![16384, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x3072, .f32⟩
  | .hbm, ⟨2, _⟩ => ⟨S512x16384, .f32⟩
  | .hbm, ⟨3, _⟩ => ⟨S16384x1024, .f32⟩
  | .hbm, ⟨4, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x512 : Shape := ⟨2, ![16384, 512]⟩
abbrev S16384x3072 : Shape := ⟨2, ![16384, 3072]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x3072, .f32⟩
  | .hbm, ⟨2, _⟩ => ⟨S16384x512, .bf16⟩
  | .hbm, ⟨3, _⟩ => ⟨S16384x3072, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x512 : Shape := ⟨2, ![16384, 512]⟩
abbrev S16384x3072 : Shape := ⟨2, ![16384, 3072]⟩
abbrev S512x16384 : Shape := ⟨2, ![512, 16384]⟩
abbrev S16384x1024 : Shape := ⟨2, ![16384, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x3072, .f32⟩
  | .hbm, ⟨2, _⟩ => ⟨S512x16384, .f32⟩
  | .hbm, ⟨3, _⟩ => ⟨S16384x1024, .f32⟩
  | .hbm, ⟨4, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x16384, .f32⟩
  | .hbm, ⟨3, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S16384x384 : Shape := ⟨2, ![16384, 384]⟩
abbrev S16384x1024 : Shape := ⟨2, ![16384, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x384, .f32⟩
  | .hbm, ⟨1, _⟩ => ⟨S16384x1024, .f32⟩
  | .hbm, ⟨2, _⟩ => ⟨S16384x384, .bf16⟩
  | .hbm, ⟨3, _⟩ => ⟨S16384x1024, .bf16⟩
  | .hbm, ⟨4, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16384x384 : Shape := ⟨2, ![16384, 384]⟩
abbrev S16384x1024 : Shape := ⟨2, ![16384, 1024]⟩
abbrev S384x16384 : Shape := ⟨2, ![384, 16384]⟩
abbrev S384x1024 : Shape := ⟨2, ![384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x1024, .f32⟩
  | .hbm, ⟨2, _⟩ => ⟨S384x16384, .f32⟩
  | .hbm, ⟨3, _⟩ => ⟨S384x1024, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x256, .bf16⟩
  | .hbm, ⟨3, _⟩ => ⟨S16384x1024, .bf16⟩
  | .hbm, ⟨4, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16384x256 : Shape := ⟨2, ![16384, 256]⟩
abbrev S16384x1024 : Shape := ⟨2, ![16384, 1024]⟩
abbrev S256x16384 : Shape := ⟨2, ![256, 16384]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S256x16384, .f32⟩
  | .hbm, ⟨3, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Trip.lean ====
/-
  One grid point of the attention gradient's kernel as a plain function of vectors, over any float values: what a trip
  of the loop over the column chunks does to the three accumulators, what the four trips do, and that the memrefs the
  loop leaves read exactly that.
-/
module

public import proofs.«01_k».proof.Proof.Gen.KernelIdeal.Loops
public import Idealize.ShloMosaic.Lib.VecWindow

@[expose] public section

set_option maxRecDepth 16384

noncomputable section

namespace Cert.AttnBwd

open Idealize.ShloMosaic Idealize.ShloMosaic.TcCoe Idealize.SL.Sem
open Cert.KernelIdeal Cert.KernelIdeal.Gen

variable {F : FTy → Type} [FloatOps F]

/-- The three accumulators: the row tile's part of dq, and the head's dk and dv (transposed). -/
abbrev Acc (F : FTy → Type) := Vec F S512x128 .f32 × Vec F S128x16384 .f32 × Vec F S128x16384 .f32

/-- What a point reads: the tile's rows of q and do, their transposes, the head's k and v, and the tile's lse and delta. -/
structure Ins (F : FTy → Type) where
  q : Vec F S512x128 .bf16
  dO : Vec F S512x128 .bf16
  qT : Vec F S128x512 .bf16
  dOT : Vec F S128x512 .bf16
  k : Vec F S16384x128 .bf16
  v : Vec F S16384x128 .bf16
  lse : Vec F S1x512x1 .f32
  delta : Vec F S1x512x1 .f32

/-- Chunk `c`'s 4096 rows of k or v. -/
def chunkRows (x : Vec F S16384x128 .bf16) (c : Fin 4) : Vec F S4096x128 .bf16 :=
  VecWindow.window (s := S16384x128) x ![4096 * c.val, 0] S4096x128.size (fun a => by have := c.isLt; fin_cases a <;> simp [S4096x128, S16384x128] <;> omega)

/-- Chunk `c`'s 4096 columns of an accumulator. -/
def chunkCols (x : Vec F S128x16384 .f32) (c : Fin 4) : Vec F S128x4096 .f32 :=
  VecWindow.window (s := S128x16384) x ![0, 4096 * c.val] S128x4096.size (fun a => by have := c.isLt; fin_cases a <;> simp [S128x4096, S128x16384] <;> omega)

/-- One trip: chunk `c`'s contributions added to the three accumulators. -/
def trip (x : Ins F) (c : Fin 4) (s : Acc F) : Acc F :=
  (k0_pay4 (k0_pay10 x.q) (k0_pay11 x.dO) (k0_pay14 x.lse) (k0_pay15 x.delta) (chunkRows x.k c) (chunkRows x.v c) s.1,
   VecWindow.put (s := S128x16384) s.2.1 ![0, 4096 * c.val] S128x4096.size
     (k0_pay6 (k0_pay10 x.q) (k0_pay11 x.dO) (k0_pay12 x.qT) (k0_pay14 x.lse) (k0_pay15 x.delta) (chunkRows x.k c) (chunkRows x.v c) (chunkCols s.2.1 c)),
   VecWindow.put (s := S128x16384) s.2.2 ![0, 4096 * c.val] S128x4096.size
     (k0_pay5 (k0_pay10 x.q) (k0_pay13 x.dOT) (k0_pay14 x.lse) (chunkRows x.k c) (chunkCols s.2.2 c)))

/-- The accumulators after `n` trips from `s`. -/
def trips (x : Ins F) (s : Acc F) : ℕ → Acc F
  | 0 => s
  | n + 1 => if h : n < 4 then trip x ⟨n, h⟩ (trips x s n) else trips x s n

/-- What a grid point leaves in the accumulators: its dq tile started from zero, the other two from what was there. -/
def point (x : Ins F) (a b : Vec F S128x16384 .f32) : Acc F := trips x (k0_pay9, a, b) 4

/-- A result held in memory, with the rows of the point's head put to `w`. -/
def putHead (i : grid0.Coords) (f : Vec F S1024x16384 .f32) (w : Vec F S128x16384 .f32) : Vec F S1024x16384 .f32 :=
  VecWindow.put (s := S1024x16384) f (k0_off3 i) S128x16384.size w

theorem trips_succ (x : Ins F) (s : Acc F) (c : Fin 4) : trips x s (c.val + 1) = trip x c (trips x s c.val) := dif_pos c.isLt

theorem loop_trips : k0_t1_loop.trips = 4 := by decide

theorem off1_eq (k : Fin k0_t1_loop.trips) : k0_off1 k = ![4096 * k.val, 0] := by
  revert k; decide +kernel

theorem off2_eq (k : Fin k0_t1_loop.trips) : k0_off2 k = ![0, 4096 * k.val] := by
  revert k; decide +kernel

section Loop

variable (𝒱 : Variants) (c : Dev nD) (bd : Option 𝒱.V) (i : grid0.Coords)
  (arg2 : Memref sig .tc .vmem S512x128 .bf16) (harg2 : arg2.IsWhole) (arg3 : Memref sig .tc .vmem S512x128 .bf16) (harg3 : arg3.IsWhole)
  (arg4 : Memref sig .tc .vmem S128x512 .bf16) (harg4 : arg4.IsWhole) (arg5 : Memref sig .tc .vmem S128x512 .bf16) (harg5 : arg5.IsWhole)
  (arg6 : Memref sig .tc .vmem S16384x128 .bf16) (harg6 : arg6.IsWhole) (arg7 : Memref sig .tc .vmem S16384x128 .bf16) (harg7 : arg7.IsWhole)
  (arg8 : Memref sig .tc .vmem S1x512x1 .f32) (harg8 : arg8.IsWhole) (arg9 : Memref sig .tc .vmem S1x512x1 .f32) (harg9 : arg9.IsWhole)
  (arg10 : Memref sig .tc .vmem S512x128 .f32) (harg10 : arg10.IsWhole)
  (arg11 : Memref sig .tc .hbm S1024x16384 .f32) (harg11 : arg11.IsWhole) (arg12 : Memref sig .tc .hbm S1024x16384 .f32) (harg12 : arg12.IsWhole)
  (arg13 : Memref sig .tc .vmem S512x128 .f32) (harg13 : arg13.IsWhole) (arg14 : Memref sig .tc .vmem S128x16384 .f32) (harg14 : arg14.IsWhole)
  (arg15 : Memref sig .tc .vmem S128x16384 .f32) (harg15 : arg15.IsWhole) (arg16 : DmaSems sig S2) (x : Ins F)
  (X6 : BufTy.Contents (Elt F) arg6.view.ty) (X7 : BufTy.Contents (Elt F) arg7.view.ty)

set_option maxHeartbeats 1000000 in
/-- One trip's stores, read back: the trip of the values found. -/
theorem trip_read (h6 : arg6.view.read (Elt F) X6 = x.k) (h7 : arg7.view.read (Elt F) X7 = x.v) (k : Fin k0_t1_loop.trips)
    (f13 : BufTy.Contents (Elt F) arg13.view.ty) (f14 : BufTy.Contents (Elt F) arg14.view.ty) (f15 : BufTy.Contents (Elt F) arg15.view.ty) :
    let L := tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 x.q x.dO x.qT x.dOT x.lse x.delta X6 X7 k f13 f14 f15
    (arg13.view.read (Elt F) (arg13.view.writes (Elt F) f13 L.1), arg14.view.read (Elt F) (arg14.view.writes (Elt F) f14 L.2.1),
      arg15.view.read (Elt F) (arg15.view.writes (Elt F) f15 L.2.2))
      = trip x ⟨k.val, loop_trips ▸ k.isLt⟩ (arg13.view.read (Elt F) f13, arg14.view.read (Elt F) f14, arg15.view.read (Elt F) f15) := by
  intro L
  subst L
  unfold tripL_k0_t1 trip_k0_t1
  dsimp only
  have e6 : arg6.view.readAt (Elt F) (Rect.unit (s := S16384x128) (k0_off1 k) S4096x128.size (k0_off1_inb k)).toLoadRect X6 = chunkRows x.k ⟨k.val, loop_trips ▸ k.isLt⟩ := by
    rw [View.readAt_unit arg6.view X6 (k0_off1_inb k) (off1_eq k) (off1_eq k ▸ k0_off1_inb k), h6]; rfl
  have e7 : arg7.view.readAt (Elt F) (Rect.unit (s := S16384x128) (k0_off1 k) S4096x128.size (k0_off1_inb k)).toLoadRect X7 = chunkRows x.v ⟨k.val, loop_trips ▸ k.isLt⟩ := by
    rw [View.readAt_unit arg7.view X7 (k0_off1_inb k) (off1_eq k) (off1_eq k ▸ k0_off1_inb k), h7]; rfl
  have e14 : arg14.view.readAt (Elt F) (Rect.unit (s := S128x16384) (k0_off2 k) S128x4096.size (k0_off2_inb k)).toLoadRect f14 = chunkCols (arg14.view.read (Elt F) f14) ⟨k.val, loop_trips ▸ k.isLt⟩ := by
    rw [View.readAt_unit arg14.view f14 (k0_off2_inb k) (off2_eq k) (off2_eq k ▸ k0_off2_inb k)]; rfl
  have e15 : arg15.view.readAt (Elt F) (Rect.unit (s := S128x16384) (k0_off2 k) S128x4096.size (k0_off2_inb k)).toLoadRect f15 = chunkCols (arg15.view.read (Elt F) f15) ⟨k.val, loop_trips ▸ k.isLt⟩ := by
    rw [View.readAt_unit arg15.view f15 (k0_off2_inb k) (off2_eq k) (off2_eq k ▸ k0_off2_inb k)]; rfl
  have e13 : arg13.view.readAt (Elt F) (Rect.unit (s := S512x128) ![0, 0] S512x128.size inb_S512x128_S512x128_0_0).toLoadRect f13 = arg13.view.read (Elt F) f13 :=
    View.readAt_full arg13.view f13 inb_S512x128_S512x128_0_0
  unfold trip
  refine Prod.ext ?_ (Prod.ext ?_ ?_)
  · dsimp only
    refine (View.read_writes_full arg13.view f13 inb_S512x128_S512x128_0_0 _ []).trans ?_
    exact congr (congr (congrArg (k0_pay4 (k0_pay10 x.q) (k0_pay11 x.dO) (k0_pay14 x.lse) (k0_pay15 x.delta)) e6) e7) e13
  · dsimp only
    refine (View.read_writes_cons_put arg14.view f14 (k0_off2_inb k) _ [] (off2_eq k)).trans ?_
    exact congrArg (VecWindow.put _ _ _) (congr (congr (congrArg (k0_pay6 (k0_pay10 x.q) (k0_pay11 x.dO) (k0_pay12 x.qT) (k0_pay14 x.lse) (k0_pay15 x.delta)) e6) e7) e14)
  · dsimp only
    refine (View.read_writes_cons_put arg15.view f15 (k0_off2_inb k) _ [] (off2_eq k)).trans ?_
    exact congrArg (VecWindow.put _ _ _) (congr (congrArg (k0_pay5 (k0_pay10 x.q) (k0_pay13 x.dOT) (k0_pay14 x.lse)) e6) e15)

set_option maxHeartbeats 1000000 in
/-- What the loop leaves after `n` trips, read back: the trips of the values it started from. -/
theorem loop_read (h6 : arg6.view.read (Elt F) X6 = x.k) (h7 : arg7.view.read (Elt F) X7 = x.v)
    (f13 : BufTy.Contents (Elt F) arg13.view.ty) (f14 : BufTy.Contents (Elt F) arg14.view.ty) (f15 : BufTy.Contents (Elt F) arg15.view.ty) (n : ℕ) (hn : n ≤ 4) :
    let L := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 x.q x.dO x.qT x.dOT x.lse x.delta X6 X7 f13 f14 f15 n
    (arg13.view.read (Elt F) (arg13.view.writes (Elt F) f13 L.1), arg14.view.read (Elt F) (arg14.view.writes (Elt F) f14 L.2.1),
      arg15.view.read (Elt F) (arg15.view.writes (Elt F) f15 L.2.2))
      = trips x (arg13.view.read (Elt F) f13, arg14.view.read (Elt F) f14, arg15.view.read (Elt F) f15) n := by
  induction n with
  | zero => rfl
  | succ n ih =>
    intro L
    subst L
    have ih := ih (by omega)
    dsimp only at ih
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 x.q x.dO x.qT x.dOT x.lse x.delta X6 X7 f13 f14 f15 ⟨n, by rw [loop_trips]; omega⟩
    rw [show pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 x.q x.dO x.qT x.dOT x.lse x.delta X6 X7 f13 f14 f15 (n + 1) = _ from e]
    rw [trips_succ x _ ⟨n, by omega⟩, ← ih]
    dsimp only
    rw [View.writes_append, View.writes_append, View.writes_append]
    exact trip_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 x X6 X7 h6 h7 ⟨n, by rw [loop_trips]; omega⟩ _ _ _

/-- What the whole loop leaves, read back, when the tile's accumulator was zero at its entry: the grid point's values. -/
theorem loop_end (h6 : arg6.view.read (Elt F) X6 = x.k) (h7 : arg7.view.read (Elt F) X7 = x.v)
    {v7 v9 : Vec F S512x128 .bf16} {v11 v13 : Vec F S128x512 .bf16} {v15 v17 : Vec F S1x512x1 .f32}
    (e7 : v7 = x.q) (e9 : v9 = x.dO) (e11 : v11 = x.qT) (e13 : v13 = x.dOT) (e15 : v15 = x.lse) (e17 : v17 = x.delta)
    {f13 : BufTy.Contents (Elt F) arg13.view.ty} {f14 : BufTy.Contents (Elt F) arg14.view.ty} {f15 : BufTy.Contents (Elt F) arg15.view.ty}
    {a b : Vec F S128x16384 .f32} (g13 : arg13.view.read (Elt F) f13 = k0_pay9) (g14 : arg14.view.read (Elt F) f14 = a) (g15 : arg15.view.read (Elt F) f15 = b)
    {n : ℕ} (hn : n = 4) :
    let L := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 v7 v9 v11 v13 v15 v17 X6 X7 f13 f14 f15 n
    arg13.view.read (Elt F) (arg13.view.writes (Elt F) f13 L.1) = (point x a b).1
      ∧ arg14.view.read (Elt F) (arg14.view.writes (Elt F) f14 L.2.1) = (point x a b).2.1
      ∧ arg15.view.read (Elt F) (arg15.view.writes (Elt F) f15 L.2.2) = (point x a b).2.2 := by
  subst e7 e9 e11 e13 e15 e17 g14 g15 hn
  have e := loop_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 x X6 X7 h6 h7 f13 f14 f15 4 le_rfl
  rw [g13] at e
  exact ⟨congrArg (fun s => s.1) e, congrArg (fun s => s.2.1) e, congrArg (fun s => s.2.2) e⟩

end Loop

end Cert.AttnBwd
end
-- ==== Proof.State.lean ====
/-
  The launch with every array named: what the accumulators and the two results left in memory hold before each
  grid point, over any values.
-/
module

public import proofs.«01_k».proof.Proof.Trip
public import proofs.«01_k».proof.Proof.Gen.KernelIdeal.Frame.Runs
public import Idealize.ShloMosaic.Lib.Pipeline.FrameValue
public import Idealize.ShloMosaic.Lib.Claim

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is held before each point -/

/-- The blocks of the eight inputs at a grid point. -/
def ins (c : Dev nD) (t : Fin cfg0.N) : Ins F :=
  ⟨iblk m c 0 t, iblk m c 1 t, iblk m c 2 t, iblk m c 3 t, iblk m c 4 t, iblk m c 5 t, iblk m c 6 t, iblk m c 7 t⟩

/-- What is carried between points: the two accumulators, and the two results left in memory. -/
structure St (F : FTy → Type) where
  a : Vec F S128x16384 .f32
  b : Vec F S128x16384 .f32
  fk : Vec F S1024x16384 .f32
  fv : Vec F S1024x16384 .f32

/-- What the body computes at point `t` from the carried values: a head's first row tile starts the accumulators from zero. -/
def at_ (c : Dev nD) (t : Fin cfg0.N) (s : St F) : Acc F :=
  point (ins m c t) (if t.val % 32 = 0 then k0_pay7 else s.a) (if t.val % 32 = 0 then k0_pay8 else s.b)

/-- The carried values after point `t`: a head's last row tile copies the accumulators out to the head's rows. -/
def next (c : Dev nD) (t : Fin cfg0.N) (s : St F) : St F where
  a := (at_ m c t s).2.1
  b := (at_ m c t s).2.2
  fk := if t.val % 32 = 31 then putHead (grid0.coords t) s.fk (at_ m c t s).2.1 else s.fk
  fv := if t.val % 32 = 31 then putHead (grid0.coords t) s.fv (at_ m c t s).2.2 else s.fv

/-- The carried values before point `n`. -/
def state (c : Dev nD) : ℕ → St F
  | 0 => ⟨k0_pay7, k0_pay8, V m c main_v37_1, V m c main_v37_2⟩
  | n + 1 => if h : n < cfg0.N then next m c ⟨n, h⟩ (state c n) else state c n

theorem state_succ (c : Dev nD) (t : Fin cfg0.N) : state m c (t.val + 1) = next m c t (state m c t.val) := dif_pos t.isLt

/-- The invariant before point `n`: the accumulators at their carried values (anything at a head's first tile), the
    two results at theirs, the copies' semaphores at zero. -/
def Inv (c : Dev nD) (n : ℕ) : sProp 𝕄 :=
  iprop((∃ d, owns (c : Thread nD τ) scM0_0 fullShare d)
    ∗ (∃ a, ⌜¬n % 32 = 0 → a = (state m c n).a⌝ ∗ owns (c : Thread nD τ) scM0_1 fullShare a)
    ∗ (∃ b, ⌜¬n % 32 = 0 → b = (state m c n).b⌝ ∗ owns (c : Thread nD τ) scM0_2 fullShare b)
    ∗ (∃ r, prngReg c r) ∗ semVal ((c : Thread nD τ), SemLoc.dma 18) 0 ∗ semVal ((c : Thread nD τ), SemLoc.dma 19) 0
    ∗ hbPt0 c hbM0_0 (state m c n).fk ∗ hbPt0 c hbM0_1 (state m c n).fv)

/-- What the two results left in memory hold at the end. -/
def G (c : Dev nD) : (b : Ref sig .tc) → Buf (Elt F) ((c : Thread nD τ).loc b) :=
  Function.update (Function.update (V m c) main_v37_1 (state m c cfg0.N).fk) main_v37_2 (state m c cfg0.N).fv

/-! ## The proof data -/

/-- The arrays as the launch finds them; each input's block; the dq block of each point; the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (at_ m c t (state m c t.val)).1
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (at_ m c t (state m c t.val)).1 := by dsimp only [dats]

end Cert.AttnBwd
end
-- ==== Proof.RunA.lean ====
/-
  One grid point of a head's first row tile: the accumulators start from zero.
-/
module

public import proofs.«01_k».proof.Proof.Trip
public import proofs.«01_k».proof.Proof.Gen.KernelIdeal.Frame.Runs

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at a head's first row tile, from anything in the accumulators: it ends holding its inputs as they were, its dq block, its two carried accumulators at the values of `point` started from zero, and the two results left in memory unchanged. -/
theorem runA (c : Dev nD) (i : grid0.Coords)
    (arg2 : Memref sig .tc .vmem S512x128 .bf16) (harg2 : arg2.IsWhole) (arg3 : Memref sig .tc .vmem S512x128 .bf16) (harg3 : arg3.IsWhole)
    (arg4 : Memref sig .tc .vmem S128x512 .bf16) (harg4 : arg4.IsWhole) (arg5 : Memref sig .tc .vmem S128x512 .bf16) (harg5 : arg5.IsWhole)
    (arg6 : Memref sig .tc .vmem S16384x128 .bf16) (harg6 : arg6.IsWhole) (arg7 : Memref sig .tc .vmem S16384x128 .bf16) (harg7 : arg7.IsWhole)
    (arg8 : Memref sig .tc .vmem S1x512x1 .f32) (harg8 : arg8.IsWhole) (arg9 : Memref sig .tc .vmem S1x512x1 .f32) (harg9 : arg9.IsWhole)
    (arg10 : Memref sig .tc .vmem S512x128 .f32) (harg10 : arg10.IsWhole) (arg13 : Memref sig .tc .vmem S512x128 .f32) (harg13 : arg13.IsWhole)
    (arg14 : Memref sig .tc .vmem S128x16384 .f32) (harg14 : arg14.IsWhole) (arg15 : Memref sig .tc .vmem S128x16384 .f32) (harg15 : arg15.IsWhole)
    (hc0 : cond0_0 i) (hc1 : ¬cond0_1 i) (x : Ins F)
    (fw0 : HbBuf0 (F := F) c hbM0_0) (fw1 : HbBuf0 (F := F) c hbM0_1) (W : Waits sig Unit) (K : PUnit → sProp 𝕄) :
    iprop(owns (c : Thread nD τ) arg2 fullShare x.q ∗ owns (c : Thread nD τ) arg3 fullShare x.dO ∗ owns (c : Thread nD τ) arg4 fullShare x.qT ∗ owns (c : Thread nD τ) arg5 fullShare x.dOT ∗ owns (c : Thread nD τ) arg6 fullShare x.k ∗ owns (c : Thread nD τ) arg7 fullShare x.v ∗ owns (c : Thread nD τ) arg8 fullShare x.lse ∗ owns (c : Thread nD τ) arg9 fullShare x.delta
        ∗ (∃ d, owns (c : Thread nD τ) arg10 fullShare d) ∗ (∃ d, owns (c : Thread nD τ) arg13 fullShare d) ∗ (∃ d, owns (c : Thread nD τ) arg14 fullShare d) ∗ (∃ d, owns (c : Thread nD τ) arg15 fullShare d)
        ∗ semVal ((c : Thread nD τ), SemLoc.dma 18) 0 ∗ semVal ((c : Thread nD τ), SemLoc.dma 19) 0 ∗ hbPt0 c hbM0_0 fw0 ∗ hbPt0 c hbM0_1 fw1 ∗ owes (c : Thread nD τ) 0 W
        ∗ (iprop(owns (c : Thread nD τ) arg2 fullShare x.q ∗ owns (c : Thread nD τ) arg3 fullShare x.dO ∗ owns (c : Thread nD τ) arg4 fullShare x.qT ∗ owns (c : Thread nD τ) arg5 fullShare x.dOT ∗ owns (c : Thread nD τ) arg6 fullShare x.k ∗ owns (c : Thread nD τ) arg7 fullShare x.v ∗ owns (c : Thread nD τ) arg8 fullShare x.lse ∗ owns (c : Thread nD τ) arg9 fullShare x.delta
            ∗ owns (c : Thread nD τ) arg10 fullShare (point x k0_pay7 k0_pay8).1 ∗ (∃ d, owns (c : Thread nD τ) arg13 fullShare d)
            ∗ owns (c : Thread nD τ) arg14 fullShare (point x k0_pay7 k0_pay8).2.1 ∗ owns (c : Thread nD τ) arg15 fullShare (point x k0_pay7 k0_pay8).2.2
            ∗ semVal ((c : Thread nD τ), SemLoc.dma 18) 0 ∗ semVal ((c : Thread nD τ), SemLoc.dma 19) 0 ∗ hbPt0 c hbM0_0 fw0 ∗ hbPt0 c hbM0_1 fw1 ∗ (∃ W', owes (c : Thread nD τ) 0 W')) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 (Memref.whole main_v37_1) (Memref.isWhole_whole _) (Memref.whole main_v37_2) (Memref.isWhole_whole _) arg13 harg13 arg14 harg14 arg15 harg15 cc0_scratch3) K := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hq0, Hq1, Hh0, Hh1, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1)
  sl_step
  have E := loop_end Variants.none c none i arg2 harg2 arg3 harg3 arg4 harg4 arg5 harg5 arg6 harg6 arg7 harg7 arg8 harg8 arg9 harg9 arg10 harg10 (Memref.whole main_v37_1) (Memref.isWhole_whole _) (Memref.whole main_v37_2) (Memref.isWhole_whole _) arg13 harg13 arg14 harg14 arg15 harg15 cc0_scratch3 x (harg6.unread x.k) (harg7.unread x.v)
    (harg6.read_unread x.k) (harg7.read_unread x.v)
    ((View.readAt_full arg2.view _ inb_S512x128_S512x128_0_0).trans (harg2.read_unread x.q))
    ((View.readAt_full arg3.view _ inb_S512x128_S512x128_0_0).trans (harg3.read_unread x.dO))
    ((View.readAt_full arg4.view _ inb_S128x512_S128x512_0_0).trans (harg4.read_unread x.qT))
    ((View.readAt_full arg5.view _ inb_S128x512_S128x512_0_0).trans (harg5.read_unread x.dOT))
    ((View.readAt_full arg8.view _ inb_S1x512x1_S1x512x1_0_0_0).trans (harg8.read_unread x.lse))
    ((View.readAt_full arg9.view _ inb_S1x512x1_S1x512x1_0_0_0).trans (harg9.read_unread x.delta))
    (View.read_writes_full (Val := Elt F) arg13.view arg13.view.junk inb_S512x128_S512x128_0_0 (k0_pay9 (F := F)) [])
    (View.read_writes_full (Val := Elt F) arg14.view arg14.view.junk inb_S128x16384_S128x16384_0_0 (k0_pay7 (F := F)) []) (View.read_writes_full (Val := Elt F) arg15.view arg15.view.junk inb_S128x16384_S128x16384_0_0 (k0_pay8 (F := F)) []) (n := Scf.trips k0_t1_loop.lb k0_t1_loop.ub k0_t1_loop.st) loop_trips
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full arg10.view _ inb_S512x128_S512x128_0_0 _ []).trans ((View.readAt_full arg13.view _ inb_S512x128_S512x128_0_0).trans ?_)
    exact (congrArg (arg13.view.read (Elt F)) (View.writes_append ..)).trans E.1
  isplitl [HS0]
  · iexists _, _; isplitr; swap; · iexact HS0
    ipureintro; rfl
  isplitl [HS1]
  · iexists _; isplitr; swap; · iexact HS1
    ipureintro; exact (congrArg (arg14.view.read (Elt F)) (View.writes_append ..)).trans E.2.1
  isplitl [HS2]
  · iexists _; isplitr; swap; · iexact HS2
    ipureintro; exact (congrArg (arg15.view.read (Elt F)) (View.writes_append ..)).trans E.2.2
  isplitl [Hq0]; · iexact Hq0
  isplitl [Hq1]; · iexact Hq1
  isplitl [Hh0]; · iexact Hh0
  isplitl [Hh1]; · iexact Hh1
  iexists _; iexact HW

end Cert.AttnBwd
end
-- ==== Proof.RunB.lean ====
/-
  One grid point of a row tile that is neither a head's first nor its last.
-/
module

public import proofs.«01_k».proof.Proof.Trip
public import proofs.«01_k».proof.Proof.Gen.KernelIdeal.Frame.Runs

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

set_option maxHeartbeats 1000000 in
/-- The body at a row tile between a head's first and last, from accumulators `a`, `b`: it ends holding its inputs as they were, its dq block, its two carried accumulators at the values of `point`, and the two results left in memory unchanged. -/
theorem runB (c : Dev nD) (i : grid0.Coords)
    (arg2 : Memref sig .tc .vmem S512x128 .bf16) (harg2 : arg2.IsWhole) (arg3 : Memref sig .tc .vmem S512x128 .bf16) (harg3 : arg3.IsWhole)
    (arg4 : Memref sig .tc .vmem S128x512 .bf16) (harg4 : arg4.IsWhole) (arg5 : Memref sig .tc .vmem S128x512 .bf16) (harg5 : arg5.IsWhole)
    (arg6 : Memref sig .tc .vmem S16384x128 .bf16) (harg6 : arg6.IsWhole) (arg7 : Memref sig .tc .vmem S16384x128 .bf16) (harg7 : arg7.IsWhole)
    (arg8 : Memref sig .tc .vmem S1x512x1 .f32) (harg8 : arg8.IsWhole) (arg9 : Memref sig .tc .vmem S1x512x1 .f32) (harg9 : arg9.IsWhole)
    (arg10 : Memref sig .tc .vmem S512x128 .f32) (harg10 : arg10.IsWhole) (arg13 : Memref sig .tc .vmem S512x128 .f32) (harg13 : arg13.IsWhole)
    (arg14 : Memref sig .tc .vmem S128x16384 .f32) (harg14 : arg14.IsWhole) (arg15 : Memref sig .tc .vmem S128x16384 .f32) (harg15 : arg15.IsWhole)
    (hc0 : ¬cond0_0 i) (hc1 : ¬cond0_1 i) (x : Ins F) (a b : Vec F S128x16384 .f32)
    (fw0 : HbBuf0 (F := F) c hbM0_0) (fw1 : HbBuf0 (F := F) c hbM0_1) (W : Waits sig Unit) (K : PUnit → sProp 𝕄) :
    iprop(owns (c : Thread nD τ) arg2 fullShare x.q ∗ owns (c : Thread nD τ) arg3 fullShare x.dO ∗ owns (c : Thread nD τ) arg4 fullShare x.qT ∗ owns (c : Thread nD τ) arg5 fullShare x.dOT ∗ owns (c : Thread nD τ) arg6 fullShare x.k ∗ owns (c : Thread nD τ) arg7 fullShare x.v ∗ owns (c : Thread nD τ) arg8 fullShare x.lse ∗ owns (c : Thread nD τ) arg9 fullShare x.delta
        ∗ (∃ d, owns (c : Thread nD τ) arg10 fullShare d) ∗ (∃ d, owns (c : Thread nD τ) arg13 fullShare d) ∗ owns (c : Thread nD τ) arg14 fullShare a ∗ owns (c : Thread nD τ) arg15 fullShare b
        ∗ semVal ((c : Thread nD τ), SemLoc.dma 18) 0 ∗ semVal ((c : Thread nD τ), SemLoc.dma 19) 0 ∗ hbPt0 c hbM0_0 fw0 ∗ hbPt0 c hbM0_1 fw1 ∗ owes (c : Thread nD τ) 0 W
        ∗ (iprop(owns (c : Thread nD τ) arg2 fullShare x.q ∗ owns (c : Thread nD τ) arg3 fullShare x.dO ∗ owns (c : Thread nD τ) arg4 fullShare x.qT ∗ owns (c : Thread nD τ) arg5 fullShare x.dOT ∗ owns (c : Thread nD τ) arg6 fullShare x.k ∗ owns (c : Thread nD τ) arg7 fullShare x.v ∗ owns (c : Thread nD τ) arg8 fullShare x.lse ∗ owns (c : Thread nD τ) arg9 fullShare x.delta
            ∗ owns (c : Thread nD τ) arg10 fullShare (point x a b).1 ∗ (∃ d, owns (c : Thread nD τ) arg13 fullShare d)
            ∗ owns (c : Thread nD τ) arg14 fullShare (point x a b).2.1 ∗ owns (c : Thread nD τ) arg15 fullShare (point x a b).2.2
            ∗ semVal ((c : Thread nD τ), SemLoc.dma 18) 0 ∗ semVal ((c : Thread nD τ), SemLoc.dma 19) 0 ∗ hbPt0 c hbM0_0 fw0 ∗ hbPt0 c hbM0_1 fw1 ∗ (∃ W', owes (c : Thread nD τ) 0 W')) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 (Memref.whole main_v37_1) (Memref.isWhole_whole _) (Memref.whole main_v37_2) (Memref.isWhole_whole _) arg13 harg13 arg14 harg14 arg15 harg15 cc0_scratch3) K := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%fs2, %hfs2, HS2⟩, Hq0, Hq1, Hh0, Hh1, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg14.eq_unread hfs1; obtain rfl := harg15.eq_unread hfs2
  sl_exec (disch := first | sl_exact hc0 | sl_exact hc1)
  sl_step
  have E := loop_end Variants.none c none i arg2 harg2 arg3 harg3 arg4 harg4 arg5 harg5 arg6 harg6 arg7 harg7 arg8 harg8 arg9 harg9 arg10 harg10 (Memref.whole main_v37_1) (Memref.isWhole_whole _) (Memref.whole main_v37_2) (Memref.isWhole_whole _) arg13 harg13 arg14 harg14 arg15 harg15 cc0_scratch3 x (harg6.unread x.k) (harg7.unread x.v)
    (harg6.read_unread x.k) (harg7.read_unread x.v)
    ((View.readAt_full arg2.view _ inb_S512x128_S512x128_0_0).trans (harg2.read_unread x.q))
    ((View.readAt_full arg3.view _ inb_S512x128_S512x128_0_0).trans (harg3.read_unread x.dO))
    ((View.readAt_full arg4.view _ inb_S128x512_S128x512_0_0).trans (harg4.read_unread x.qT))
    ((View.readAt_full arg5.view _ inb_S128x512_S128x512_0_0).trans (harg5.read_unread x.dOT))
    ((View.readAt_full arg8.view _ inb_S1x512x1_S1x512x1_0_0_0).trans (harg8.read_unread x.lse))
    ((View.readAt_full arg9.view _ inb_S1x512x1_S1x512x1_0_0_0).trans (harg9.read_unread x.delta))
    (View.read_writes_full (Val := Elt F) arg13.view arg13.view.junk inb_S512x128_S512x128_0_0 (k0_pay9 (F := F)) [])
    (harg14.read_unread a) (harg15.read_unread b) (n := Scf.trips k0_t1_loop.lb k0_t1_loop.ub k0_t1_loop.st) loop_trips
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full arg10.view _ inb_S512x128_S512x128_0_0 _ []).trans ((View.readAt_full arg13.view _ inb_S512x128_S512x128_0_0).trans ?_)
    exact (congrArg (arg13.view.read (Elt F)) (View.writes_append ..)).trans E.1
  isplitl [HS0]
  · iexists _, _; isplitr; swap; · iexact HS0
    ipureintro; rfl
  isplitl [HS1]
  · iexists _; isplitr; swap; · iexact HS1
    ipureintro; exact E.2.1
  isplitl [HS2]
  · iexists _; isplitr; swap; · iexact HS2
    ipureintro; exact E.2.2
  isplitl [Hq0]; · iexact Hq0
  isplitl [Hq1]; · iexact Hq1
  isplitl [Hh0]; · iexact Hh0
  isplitl [Hh1]; · iexact Hh1
  iexists _; iexact HW

end Cert.AttnBwd
end
-- ==== Proof.RunC.lean ====
/-
  One grid point of a head's last row tile: the two accumulators are copied out to the head's rows of the results.
-/
module

public import proofs.«01_k».proof.Proof.Trip
public import proofs.«01_k».proof.Proof.Gen.KernelIdeal.Frame.Runs

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- A copy into a unit-stride rectangle of a whole buffer, as the buffer's contents. -/
theorem copied {sig : RefSig} {κ : Kind} {Val : EltTy → Type} (b : Ref sig κ) (f : b.ty.Contents Val) {off size : Fin b.ty.shape.rank → ℕ}
    (inb : ∀ a, off a + size a ≤ b.ty.shape.size a) (h) (w : (Rect.unit off size inb).shape.Idx → Val b.ty.elt) :
    View.write Val ((Memref.whole b).slice (Rect.unit off size inb) h).view f w Finset.univ = VecWindow.put (s := b.ty.shape) f off size w :=
  View.read_writes_cons_put (Memref.whole b).view f inb w [] rfl

/-- A head's rows of the first result, overwritten by a copy. -/
theorem head_copied_1 (i : grid0.Coords) (f : BufTy.Contents (Elt F) main_v37_1.ty) (inb : ∀ a, (k0_off3 i) a + ![128, 16384] a ≤ main_v37_1.ty.shape.size a) (h) (w : Vec F S128x16384 .f32) :
    View.write (Elt F) ((Memref.whole main_v37_1).slice (Rect.unit (k0_off3 i) ![128, 16384] inb) h).view f w Finset.univ = putHead i f w :=
  copied main_v37_1 f inb h w

/-- A head's rows of the second result, overwritten by a copy. -/
theorem head_copied_2 (i : grid0.Coords) (f : BufTy.Contents (Elt F) main_v37_2.ty) (inb : ∀ a, (k0_off3 i) a + ![128, 16384] a ≤ main_v37_2.ty.shape.size a) (h) (w : Vec F S128x16384 .f32) :
    View.write (Elt F) ((Memref.whole main_v37_2).slice (Rect.unit (k0_off3 i) ![128, 16384] inb) h).view f w Finset.univ = putHead i f w :=
  copied main_v37_2 f inb h w

set_option maxHeartbeats 1000000 in
/-- The body at a head's last row tile, from accumulators `a`, `b`: it ends holding its inputs as they were, its dq block, its two carried accumulators at the values of `point`, and the head's rows of the two results put to the accumulators. -/
theorem runC (c : Dev nD) (i : grid0.Coords)
    (arg2 : Memref sig .tc .vmem S512x128 .bf16) (harg2 : arg2.IsWhole) (arg3 : Memref sig .tc .vmem S512x128 .bf16) (harg3 : arg3.IsWhole)
    (arg4 : Memref sig .tc .vmem S128x512 .bf16) (harg4 : arg4.IsWhole) (arg5 : Memref sig .tc .vmem S128x512 .bf16) (harg5 : arg5.IsWhole)
    (arg6 : Memref sig .tc .vmem S16384x128 .bf16) (harg6 : arg6.IsWhole) (arg7 : Memref sig .tc .vmem S16384x128 .bf16) (harg7 : arg7.IsWhole)
    (arg8 : Memref sig .tc .vmem S1x512x1 .f32) (harg8 : arg8.IsWhole) (arg9 : Memref sig .tc .vmem S1x512x1 .f32) (harg9 : arg9.IsWhole)
    (arg10 : Memref sig .tc .vmem S512x128 .f32) (harg10 : arg10.IsWhole) (arg13 : Memref sig .tc .vmem S512x128 .f32) (harg13 : arg13.IsWhole)
    (arg14 : Memref sig .tc .vmem S128x16384 .f32) (harg14 : arg14.IsWhole) (arg15 : Memref sig .tc .vmem S128x16384 .f32) (harg15 : arg15.IsWhole)
    (hc0 : ¬cond0_0 i) (hc1 : cond0_1 i) (x : Ins F) (a b : Vec F S128x16384 .f32)
    (fw0 : HbBuf0 (F := F) c hbM0_0) (fw1 : HbBuf0 (F := F) c hbM0_1) (W : Waits sig Unit) (K : PUnit → sProp 𝕄) :
    iprop(owns (c : Thread nD τ) arg2 fullShare x.q ∗ owns (c : Thread nD τ) arg3 fullShare x.dO ∗ owns (c : Thread nD τ) arg4 fullShare x.qT ∗ owns (c : Thread nD τ) arg5 fullShare x.dOT ∗ owns (c : Thread nD τ) arg6 fullShare x.k ∗ owns (c : Thread nD τ) arg7 fullShare x.v ∗ owns (c : Thread nD τ) arg8 fullShare x.lse ∗ owns (c : Thread nD τ) arg9 fullShare x.delta
        ∗ (∃ d, owns (c : Thread nD τ) arg10 fullShare d) ∗ (∃ d, owns (c : Thread nD τ) arg13 fullShare d) ∗ owns (c : Thread nD τ) arg14 fullShare a ∗ owns (c : Thread nD τ) arg15 fullShare b
        ∗ semVal ((c : Thread nD τ), SemLoc.dma 18) 0 ∗ semVal ((c : Thread nD τ), SemLoc.dma 19) 0 ∗ hbPt0 c hbM0_0 fw0 ∗ hbPt0 c hbM0_1 fw1 ∗ owes (c : Thread nD τ) 0 W
        ∗ (iprop(owns (c : Thread nD τ) arg2 fullShare x.q ∗ owns (c : Thread nD τ) arg3 fullShare x.dO ∗ owns (c : Thread nD τ) arg4 fullShare x.qT ∗ owns (c : Thread nD τ) arg5 fullShare x.dOT ∗ owns (c : Thread nD τ) arg6 fullShare x.k ∗ owns (c : Thread nD τ) arg7 fullShare x.v ∗ owns (c : Thread nD τ) arg8 fullShare x.lse ∗ owns (c : Thread nD τ) arg9 fullShare x.delta
            ∗ owns (c : Thread nD τ) arg10 fullShare (point x a b).1 ∗ (∃ d, owns (c : Thread nD τ) arg13 fullShare d)
            ∗ owns (c : Thread nD τ) arg14 fullShare (point x a b).2.1 ∗ owns (c : Thread nD τ) arg15 fullShare (point x a b).2.2
            ∗ semVal ((c : Thread nD τ), SemLoc.dma 18) 0 ∗ semVal ((c : Thread nD τ), SemLoc.dma 19) 0 ∗ (∃ f, ⌜f = putHead i fw0 (point x a b).2.1⌝ ∗ hbPt0 c hbM0_0 f) ∗ (∃ f, ⌜f = putHead i fw1 (point x a b).2.2⌝ ∗ hbPt0 c hbM0_1 f) ∗ (∃ W', owes (c : Thread nD τ) 0 W')) -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 (Memref.whole main_v37_1) (Memref.isWhole_whole _) (Memref.whole main_v37_2) (Memref.isWhole_whole _) arg13 harg13 arg14 harg14 arg15 harg15 cc0_scratch3) K := by
  simp only [cc0_attn_bwd_eq_skeleton]; unfold cc0_attn_bwd_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%fs2, %hfs2, HS2⟩, Hq0, Hq1, Hh0, Hh1, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg14.eq_unread hfs1; obtain rfl := harg15.eq_unread hfs2
  sl_exec (disch := first | sl_exact hc0 | sl_exact hc1)
  sl_step
  have E := loop_end Variants.none c none i arg2 harg2 arg3 harg3 arg4 harg4 arg5 harg5 arg6 harg6 arg7 harg7 arg8 harg8 arg9 harg9 arg10 harg10 (Memref.whole main_v37_1) (Memref.isWhole_whole _) (Memref.whole main_v37_2) (Memref.isWhole_whole _) arg13 harg13 arg14 harg14 arg15 harg15 cc0_scratch3 x (harg6.unread x.k) (harg7.unread x.v)
    (harg6.read_unread x.k) (harg7.read_unread x.v)
    ((View.readAt_full arg2.view _ inb_S512x128_S512x128_0_0).trans (harg2.read_unread x.q))
    ((View.readAt_full arg3.view _ inb_S512x128_S512x128_0_0).trans (harg3.read_unread x.dO))
    ((View.readAt_full arg4.view _ inb_S128x512_S128x512_0_0).trans (harg4.read_unread x.qT))
    ((View.readAt_full arg5.view _ inb_S128x512_S128x512_0_0).trans (harg5.read_unread x.dOT))
    ((View.readAt_full arg8.view _ inb_S1x512x1_S1x512x1_0_0_0).trans (harg8.read_unread x.lse))
    ((View.readAt_full arg9.view _ inb_S1x512x1_S1x512x1_0_0_0).trans (harg9.read_unread x.delta))
    (View.read_writes_full (Val := Elt F) arg13.view arg13.view.junk inb_S512x128_S512x128_0_0 (k0_pay9 (F := F)) [])
    (harg14.read_unread a) (harg15.read_unread b) (n := Scf.trips k0_t1_loop.lb k0_t1_loop.ub k0_t1_loop.st) loop_trips
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full arg10.view _ inb_S512x128_S512x128_0_0 _ []).trans ((View.readAt_full arg13.view _ inb_S512x128_S512x128_0_0).trans ?_)
    exact (congrArg (arg13.view.read (Elt F)) (View.writes_append ..)).trans E.1
  isplitl [HS0]
  · iexists _, _; isplitr; swap; · iexact HS0
    ipureintro; rfl
  isplitl [HS1]
  · iexists _; isplitr; swap; · iexact HS1
    ipureintro; exact E.2.1
  isplitl [HS2]
  · iexists _; isplitr; swap; · iexact HS2
    ipureintro; exact E.2.2
  isplitl [Hq0]; · iexact Hq0
  isplitl [Hq1]; · iexact Hq1
  isplitl [Hh0]
  · iexists _; isplitr; swap; · iexact Hh0
    ipureintro
    unfold _root_.Cert.AttnBwd.runC.sl.Hh0_w0 _root_.Cert.AttnBwd.runC.sl.dma3
    exact (head_copied_1 i fw0 _ _ _).trans (congrArg (putHead i fw0) E.2.1)
  isplitl [Hh1]
  · iexists _; isplitr; swap; · iexact Hh1
    ipureintro
    exact (head_copied_2 i fw1 _ _ _).trans (congrArg (putHead i fw1) E.2.2)
  iexists _; iexact HW

end Cert.AttnBwd
end
-- ==== Proof.Run.lean ====
/-
  The body's obligation at each grid point, and the run of @main with its results named, over any values.
-/
module

public import proofs.«01_k».proof.Proof.State
public import proofs.«01_k».proof.Proof.RunA
public import proofs.«01_k».proof.Proof.RunB
public import proofs.«01_k».proof.Proof.RunC
public import Idealize.ShloMosaic.Lib.Pipeline.FrameValue
public import Idealize.ShloMosaic.Lib.Claim

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## The body at each point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at a head's first tile takes the invariant before it to the invariant after it. -/
theorem sound_first (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = Inv m c (t.val + 1) from rfl, show (dats m 0 c).Φ t.castSucc = Inv m c t.val from rfl,
    after_0, after_1, after_2, after_3, after_4, after_5, after_6, after_7, after_8]
  unfold Inv
  rw [state_succ]
  unfold Dat.owesAt Pipeline.owesWithin
  rw [show (dats m 0 c).owed t.castSucc = 0 from rfl, show (dats m 0 c).owed t.succ = 0 from rfl]
  have hN : t.val < 256 := lt_of_lt_of_eq t.isLt (show cfg0.N = 256 from N_0)
  iintro ⟨⟨HS0, ⟨%a, %ha, HS1⟩, ⟨%b, %hb, HS2⟩, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold next at_
  dsimp only
  simp only [if_pos h0, if_neg (show ¬t.val % 32 = 31 by omega)]
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => by have := (hcond0_1 t).mp h; omega) (ins m c t) (state m c t.val).fk (state m c t.val).fv W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexists _; iexact HS1
  isplitl [HS2]; · iexists _; iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, HS0, HS1, HS2, Hq0, Hq1, Hh0, Hh1, ⟨%W', HW'⟩⟩
  isplitl [HS0 HS1 HS2 Hg Hq0 Hq1 Hh0 Hh1]
  · isplitl [HS0]; · iexact HS0
    isplitl [HS1]
    · iexists _; isplitr; swap; · iexact HS1
      ipureintro; intro _; rfl
    isplitl [HS2]
    · iexists _; isplitr; swap; · iexact HS2
      ipureintro; intro _; rfl
    isplitl [Hg]; · iexact Hg
    isplitl [Hq0]; · iexact Hq0
    isplitl [Hq1]; · iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at a head's last tile, likewise. -/
theorem sound_last (c : Dev nD) (t : Fin cfg0.N) (h0 : ¬t.val % 32 = 0) (h1 : t.val % 32 = 31) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = Inv m c (t.val + 1) from rfl, show (dats m 0 c).Φ t.castSucc = Inv m c t.val from rfl,
    after_0, after_1, after_2, after_3, after_4, after_5, after_6, after_7, after_8]
  unfold Inv
  rw [state_succ]
  unfold Dat.owesAt Pipeline.owesWithin
  rw [show (dats m 0 c).owed t.castSucc = 0 from rfl, show (dats m 0 c).owed t.succ = 0 from rfl]
  have hN : t.val < 256 := lt_of_lt_of_eq t.isLt (show cfg0.N = 256 from N_0)
  iintro ⟨⟨HS0, ⟨%a, %ha, HS1⟩, ⟨%b, %hb, HS2⟩, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold next at_
  dsimp only
  simp only [if_neg h0, if_pos h1]
  obtain rfl := ha h0; obtain rfl := hb h0
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (ins m c t) (state m c t.val).a (state m c t.val).b (state m c t.val).fk (state m c t.val).fv W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, HS0, HS1, HS2, Hq0, Hq1, ⟨%fk, %hfk, Hh0⟩, ⟨%fv, %hfv, Hh1⟩, ⟨%W', HW'⟩⟩
  obtain rfl := hfk; obtain rfl := hfv
  isplitl [HS0 HS1 HS2 Hg Hq0 Hq1 Hh0 Hh1]
  · isplitl [HS0]; · iexact HS0
    isplitl [HS1]
    · iexists _; isplitr; swap; · iexact HS1
      ipureintro; intro _; rfl
    isplitl [HS2]
    · iexists _; isplitr; swap; · iexact HS2
      ipureintro; intro _; rfl
    isplitl [Hg]; · iexact Hg
    isplitl [Hq0]; · iexact Hq0
    isplitl [Hq1]; · iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at any other tile, likewise. -/
theorem sound_mid (c : Dev nD) (t : Fin cfg0.N) (h0 : ¬t.val % 32 = 0) (h1 : ¬t.val % 32 = 31) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = Inv m c (t.val + 1) from rfl, show (dats m 0 c).Φ t.castSucc = Inv m c t.val from rfl,
    after_0, after_1, after_2, after_3, after_4, after_5, after_6, after_7, after_8]
  unfold Inv
  rw [state_succ]
  unfold Dat.owesAt Pipeline.owesWithin
  rw [show (dats m 0 c).owed t.castSucc = 0 from rfl, show (dats m 0 c).owed t.succ = 0 from rfl]
  have hN : t.val < 256 := lt_of_lt_of_eq t.isLt (show cfg0.N = 256 from N_0)
  iintro ⟨⟨HS0, ⟨%a, %ha, HS1⟩, ⟨%b, %hb, HS2⟩, Hg, Hq0, Hq1, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold next at_
  dsimp only
  simp only [if_neg h0, if_neg h1]
  obtain rfl := ha h0; obtain rfl := hb h0
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (ins m c t) (state m c t.val).a (state m c t.val).b (state m c t.val).fk (state m c t.val).fv W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, HS0, HS1, HS2, Hq0, Hq1, Hh0, Hh1, ⟨%W', HW'⟩⟩
  isplitl [HS0 HS1 HS2 Hg Hq0 Hq1 Hh0 Hh1]
  · isplitl [HS0]; · iexact HS0
    isplitl [HS1]
    · iexists _; isplitr; swap; · iexact HS1
      ipureintro; intro _; rfl
    isplitl [HS2]
    · iexists _; isplitr; swap; · iexact HS2
      ipureintro; intro _; rfl
    isplitl [Hg]; · iexact Hg
    isplitl [Hq0]; · iexact Hq0
    isplitl [Hq1]; · iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point takes the invariant before it to the invariant after it. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_first m c t h0
  by_cases h1 : t.val % 32 = 31
  · exact sound_last m c t h0 h1
  · exact sound_mid m c t h0 h1

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The two ends of the invariant -/

/-- What the launch hands over and takes back, listed, for given contents of the two results. -/
theorem ends_eq (c : Dev nD) (g : (c : Dev nD) → (b : Ref sig .tc) → Buf (Elt F) ((c : Thread nD τ).loc b)) :
    (Pipeline.ΦDRG osem0 spec0 H0 R0 (V m) g c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 18) 0 ∗ semVal ((c : Thread nD τ), SemLoc.dma 19) 0) ∗ iprop(emp) ∗ iprop(hbPt0 c hbM0_0 (g c main_v37_1) ∗ hbPt0 c hbM0_1 (g c main_v37_2))) := by
  rw [Pipeline.ΦDRG_eq, scopedRest0_eq, ownSems00_eq, hbmPts0_eq]
  unfold Pipeline.routed
  rw [BI.bigSep_eq_bigSepL_of_eq [main_v37_1, main_v37_2] (by decide) (by decide)]
  simp only [scM0_0, scM0_1, scM0_2, owns_whole]; rfl

theorem G_1 (c : Dev nD) : G m c main_v37_1 = (state m c cfg0.N).fk := by
  unfold G; rw [Function.update_of_ne (by decide), Function.update_self]

theorem G_2 (c : Dev nD) : G m c main_v37_2 = (state m c cfg0.N).fv := by
  unfold G; rw [Function.update_self]

theorem hin (c : Dev nD) : Pipeline.ΦDRG osem0 spec0 H0 R0 (V m) (V m) c ⊢ (dats m 0 c).Φ 0 := by
  rw [show (dats m 0 c).Φ 0 = Inv m c 0 from rfl, ends_eq]
  unfold Inv
  iintro ⟨⟨HS0, ⟨%a, HS1⟩, ⟨%b, HS2⟩⟩, Hg, ⟨Hq0, Hq1⟩, -, ⟨Hh0, Hh1⟩⟩
  isplitl [HS0]; · iexact HS0
  isplitl [HS1]
  · iexists a; isplitr; · ipureintro; exact fun h => absurd rfl h
    iexact HS1
  isplitl [HS2]
  · iexists b; isplitr; · ipureintro; exact fun h => absurd rfl h
    iexact HS2
  isplitl [Hg]; · iexact Hg
  isplitl [Hq0]; · iexact Hq0
  isplitl [Hq1]; · iexact Hq1
  isplitl [Hh0]; · iexact Hh0
  iexact Hh1

theorem hout (c : Dev nD) : (dats m 0 c).Φ (Fin.last cfg0.N) ⊢ Pipeline.ΦDRG osem0 spec0 H0 R0 (V m) (G m) c := by
  rw [show (dats m 0 c).Φ (Fin.last cfg0.N) = Inv m c cfg0.N from rfl, ends_eq, G_1, G_2]
  unfold Inv
  iintro ⟨HS0, ⟨%a, -, HS1⟩, ⟨%b, -, HS2⟩, Hg, Hq0, Hq1, Hh0, Hh1⟩
  isplitl [HS0 HS1 HS2]
  · isplitl [HS0]; · iexact HS0
    isplitl [HS1]; · iexists a; iexact HS1
    iexists b; iexact HS2
  isplitl [Hg]; · iexact Hg
  isplitl [Hq0 Hq1]
  · isplitl [Hq0]; · iexact Hq0
    iexact Hq1
  isplitr; · iempintro
  isplitl [Hh0]; · iexact Hh0
  iexact Hh1

/-! ## The run and the frame -/

set_option backward.isDefEq.respectTransparency.types false in
/-- Every weakly fair execution of @main ends with every array at what the proof data say, the two results left in
    memory at `G`, and all semaphores at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := hin m) (hout := hout m)

/-- The frame: the four arguments end as they were, the semaphores at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1.toR) (run_main m ρ)))
    ((θ_run defs _ _).mono (fun _ h => h.2) (run_main m ρ))

/-- What the three results hold after the run, with the arguments as they were. -/
theorem run_results : θ_run defs (onTc (τ := τ) (main (F := F))) ⟨m, fun _ => 0, ρ⟩ (fun r => ∀ c : Dev nD,
      r.2.mem ((c.tc : Thread nD τ).loc main_v37_0) = (dats m 0 c).arrAt 8 cfg0.N
      ∧ r.2.mem ((c.tc : Thread nD τ).loc main_v37_1) = (state m c cfg0.N).fk
      ∧ r.2.mem ((c.tc : Thread nD τ).loc main_v37_2) = (state m c cfg0.N).fv) :=
  (θ_run defs _ _).mono (fun r h c => ⟨(h.1.toR c).1 8, (h.1.written c (by decide)).trans (G_1 m c), (h.1.written c (by decide)).trans (G_2 m c)⟩) (run_main m ρ)

end Cert.AttnBwd
end
-- ==== Proof.Point.lean ====
/-
  What one grid point computes, over the extended reals: its tile of dq is the whole sum over the head's keys, and the
  two carried accumulators gain, at every key, the sum over the tile's rows.
-/
module

public import proofs.«01_k».proof.Proof.Trip
public import Idealize.ShloMosaic.Lib.MatmulPlain
public import Idealize.ShloMosaic.Lib.Pipeline.Value
public import Idealize.ShloMosaic.Lib.IdealHost

@[expose] public section

set_option maxRecDepth 16384

noncomputable section

namespace Cert.AttnBwd

open Idealize.ShloMosaic Idealize.ShloMosaic.TcCoe Idealize.ShloMosaic.ValueIdx
open Cert.KernelIdeal Cert.KernelIdeal.Gen

/-- A tile's weight of row `r` at key `j`: the exponential of the score less the row's log-sum-exp. -/
def pr (x : Ins Ideal) (r : Fin 512) (j : Fin 16384) : EReal :=
  Ideal.exp ((∑ d : Fin 128, x.q (ix2 r d) * x.k (ix2 j d)) - x.lse (ix3 0 r 0))

/-- A tile's gradient of the score of row `r` at key `j`. -/
def ds (x : Ins Ideal) (r : Fin 512) (j : Fin 16384) : EReal :=
  pr x r j * ((∑ d : Fin 128, x.dO (ix2 r d) * x.v (ix2 j d)) - x.delta (ix3 0 r 0))

/-- Key `j` of chunk `c`. -/
def jc (c : Fin 4) (j : Fin 4096) : Fin 16384 := ⟨4096 * c.val + j.val, by omega⟩

theorem chunkRows_apply (x : Vec Ideal S16384x128 .bf16) (c : Fin 4) (j : Fin 4096) (d : Fin 128) :
    chunkRows x c (ix2 j d) = x (ix2 (jc c j) d) := by
  refine congrArg x (funext fun a => Fin.ext ?_)
  match a with
  | ⟨0, _⟩ => show 4096 * c.val + 1 * j.val = 4096 * c.val + j.val; omega
  | ⟨1, _⟩ => show 0 + 1 * d.val = d.val; omega

theorem chunkCols_apply (x : Vec Ideal S128x16384 .f32) (c : Fin 4) (d : Fin 128) (j : Fin 4096) :
    chunkCols x c (ix2 d j) = x (ix2 d (jc c j)) := by
  refine congrArg x (funext fun a => Fin.ext ?_)
  match a with
  | ⟨0, _⟩ => show 0 + 1 * d.val = d.val; omega
  | ⟨1, _⟩ => show 4096 * c.val + 1 * j.val = 4096 * c.val + j.val; omega

theorem column_apply (v : Vec Ideal S1x512x1 .f32) (r : Fin 512) (j : Fin 4096) :
    broadcastTo S512x4096 (shapeCast S512x1 v shapeCasts_S1x512x1_S512x1) broadcasts_S512x1_S512x4096 (ix2 r j) = v (ix3 0 r 0) := by
  rw [broadcastTo_apply _ _ (ix2 r j) (ix2 r 0) (fun a => by match a with | ⟨0, _⟩ => rfl | ⟨1, _⟩ => rfl)]
  refine (shapeCast_dropUnit_apply ![512, 1] v _ _).trans (congrArg v (funext fun a => ?_))
  match a with
  | ⟨0, _⟩ => rfl
  | ⟨1, _⟩ => rfl
  | ⟨2, _⟩ => rfl

theorem pay2_apply (x : Ins Ideal) (c : Fin 4) (r : Fin 512) (j : Fin 4096) :
    k0_pay2 (k0_pay10 x.q) (k0_pay14 x.lse) (chunkRows x.k c) (ix2 r j) = pr x r (jc c j) := by
  unfold k0_pay2 k0_pay1 k0_pay10 k0_pay14
  simp only [shapeCast_self]
  show Ideal.exp (FloatOps.matmul (F := Ideal) (DotDims.transposedRhs 512 128 4096) none x.q (chunkRows x.k c) (constant S512x4096 .f32 0x00000000#32) (ix2 r j) - broadcastTo S512x4096 (shapeCast S512x1 x.lse shapeCasts_S1x512x1_S512x1) broadcasts_S512x1_S512x4096 (ix2 r j)) = _
  rw [column_apply, Ideal.matmul_transposedRhs_apply]
  simp only [chunkRows_apply]
  rw [show (constant (F := Ideal) S512x4096 .f32 0x00000000#32 (ix2 r j) : EReal) = 0 from Ideal.ofBits_zero_f32, zero_add]
  rfl

theorem pay3_apply (x : Ins Ideal) (c : Fin 4) (r : Fin 512) (j : Fin 4096) :
    k0_pay3 (k0_pay10 x.q) (k0_pay11 x.dO) (k0_pay14 x.lse) (k0_pay15 x.delta) (chunkRows x.k c) (chunkRows x.v c) (ix2 r j) = ds x r (jc c j) := by
  unfold k0_pay3 k0_pay11 k0_pay15
  simp only [shapeCast_self]
  show k0_pay2 (k0_pay10 x.q) (k0_pay14 x.lse) (chunkRows x.k c) (ix2 r j) * (FloatOps.matmul (F := Ideal) (DotDims.transposedRhs 512 128 4096) none x.dO (chunkRows x.v c) (constant S512x4096 .f32 0x00000000#32) (ix2 r j) - broadcastTo S512x4096 (shapeCast S512x1 x.delta shapeCasts_S1x512x1_S512x1) broadcasts_S512x1_S512x4096 (ix2 r j)) = _
  rw [pay2_apply, column_apply, Ideal.matmul_transposedRhs_apply]
  simp only [chunkRows_apply]
  rw [show (constant (F := Ideal) S512x4096 .f32 0x00000000#32 (ix2 r j) : EReal) = 0 from Ideal.ofBits_zero_f32, zero_add]
  rfl

/-- A trip adds to the tile of dq the chunk's keys. -/
theorem trip_dq (x : Ins Ideal) (c : Fin 4) (s : Acc Ideal) (r : Fin 512) (d : Fin 128) :
    (trip x c s).1 (ix2 r d) = s.1 (ix2 r d) + ∑ j : Fin 4096, ds x r (jc c j) * x.k (ix2 (jc c j) d) := by
  unfold trip k0_pay4 k0_pay1
  simp only [shapeCast_self]
  show s.1 (ix2 r d) + FloatOps.matmul (F := Ideal) (DotDims.plain 512 4096 128) none (k0_pay3 (k0_pay10 x.q) (k0_pay11 x.dO) (k0_pay14 x.lse) (k0_pay15 x.delta) (chunkRows x.k c) (chunkRows x.v c)) (chunkRows x.k c) (constant S512x128 .f32 0x00000000#32) (ix2 r d) = _
  rw [Ideal.matmul_plain_apply]
  simp only [chunkRows_apply, pay3_apply]
  rw [show (constant (F := Ideal) S512x128 .f32 0x00000000#32 (ix2 r d) : EReal) = 0 from Ideal.ofBits_zero_f32, zero_add]

theorem pay6_apply (x : Ins Ideal) (c : Fin 4) (a : Vec Ideal S128x4096 .f32) (d : Fin 128) (j : Fin 4096) :
    k0_pay6 (k0_pay10 x.q) (k0_pay11 x.dO) (k0_pay12 x.qT) (k0_pay14 x.lse) (k0_pay15 x.delta) (chunkRows x.k c) (chunkRows x.v c) a (ix2 d j)
      = a (ix2 d j) + ∑ r : Fin 512, x.qT (ix2 d r) * ds x r (jc c j) := by
  unfold k0_pay6 k0_pay12
  simp only [shapeCast_self]
  show a (ix2 d j) + FloatOps.matmul (F := Ideal) (DotDims.plain 128 512 4096) none x.qT (k0_pay3 (k0_pay10 x.q) (k0_pay11 x.dO) (k0_pay14 x.lse) (k0_pay15 x.delta) (chunkRows x.k c) (chunkRows x.v c)) (constant S128x4096 .f32 0x00000000#32) (ix2 d j) = _
  rw [Ideal.matmul_plain_apply]
  simp only [pay3_apply]
  rw [show (constant (F := Ideal) S128x4096 .f32 0x00000000#32 (ix2 d j) : EReal) = 0 from Ideal.ofBits_zero_f32, zero_add]

theorem pay5_apply (x : Ins Ideal) (c : Fin 4) (a : Vec Ideal S128x4096 .f32) (d : Fin 128) (j : Fin 4096) :
    k0_pay5 (k0_pay10 x.q) (k0_pay13 x.dOT) (k0_pay14 x.lse) (chunkRows x.k c) a (ix2 d j)
      = a (ix2 d j) + ∑ r : Fin 512, x.dOT (ix2 d r) * pr x r (jc c j) := by
  unfold k0_pay5 k0_pay13
  simp only [shapeCast_self]
  show a (ix2 d j) + FloatOps.matmul (F := Ideal) (DotDims.plain 128 512 4096) none (φ₁ := .bf16) (φ₂ := .bf16) x.dOT (k0_pay2 (k0_pay10 x.q) (k0_pay14 x.lse) (chunkRows x.k c)) (constant S128x4096 .f32 0x00000000#32) (ix2 d j) = _
  rw [Ideal.matmul_plain_apply]
  simp only [pay2_apply]
  rw [show (constant (F := Ideal) S128x4096 .f32 0x00000000#32 (ix2 d j) : EReal) = 0 from Ideal.ofBits_zero_f32, zero_add]

/-- Columns put into an accumulator, at one of the chunk's keys and at any other. -/
theorem putCols_apply (f : Vec Ideal S128x16384 .f32) (c : Fin 4) (w : Vec Ideal S128x4096 .f32) (d : Fin 128) (j : Fin 4096) :
    VecWindow.put (s := S128x16384) f ![0, 4096 * c.val] S128x4096.size w (ix2 d (jc c j)) = w (ix2 d j) := by
  unfold VecWindow.put
  have hm : ∀ a : Fin 2, (![0, 4096 * c.val] : Fin 2 → ℕ) a ≤ ((ix2 d (jc c j) : S128x16384.Idx) a).val ∧ ((ix2 d (jc c j) : S128x16384.Idx) a).val < (![0, 4096 * c.val] : Fin 2 → ℕ) a + S128x4096.size a := fun a => by
    match a with
    | ⟨0, _⟩ => exact ⟨Nat.zero_le _, by show d.val < 0 + 128; omega⟩
    | ⟨1, _⟩ => exact ⟨by show 4096 * c.val ≤ 4096 * c.val + j.val; omega, by show 4096 * c.val + j.val < 4096 * c.val + 4096; omega⟩
  rw [dif_pos hm]
  refine congrArg w (funext fun a => Fin.ext ?_)
  match a with
  | ⟨0, _⟩ => show d.val - 0 = d.val; omega
  | ⟨1, _⟩ => show 4096 * c.val + j.val - 4096 * c.val = j.val; omega

theorem putCols_other (f : Vec Ideal S128x16384 .f32) (c c' : Fin 4) (hc : c' ≠ c) (w : Vec Ideal S128x4096 .f32) (d : Fin 128) (j : Fin 4096) :
    VecWindow.put (s := S128x16384) f ![0, 4096 * c.val] S128x4096.size w (ix2 d (jc c' j)) = f (ix2 d (jc c' j)) := by
  unfold VecWindow.put
  refine dif_neg fun hm => hc (Fin.ext ?_)
  have h1 : 4096 * c.val ≤ 4096 * c'.val + j.val ∧ 4096 * c'.val + j.val < 4096 * c.val + 4096 := hm 1
  omega

/-- A trip adds to the carried dk, at the chunk's keys, the sum over the tile's rows. -/
theorem trip_dk (x : Ins Ideal) (c : Fin 4) (s : Acc Ideal) (d : Fin 128) (j : Fin 4096) :
    (trip x c s).2.1 (ix2 d (jc c j)) = s.2.1 (ix2 d (jc c j)) + ∑ r : Fin 512, x.qT (ix2 d r) * ds x r (jc c j) :=
  (putCols_apply _ c _ d j).trans ((pay6_apply x c _ d j).trans (by rw [chunkCols_apply]))

/-- A trip leaves the carried dk at the other keys. -/
theorem trip_dk_other (x : Ins Ideal) (c c' : Fin 4) (hc : c' ≠ c) (s : Acc Ideal) (d : Fin 128) (j : Fin 4096) :
    (trip x c s).2.1 (ix2 d (jc c' j)) = s.2.1 (ix2 d (jc c' j)) := putCols_other _ c c' hc _ d j

/-- A trip adds to the carried dv, at the chunk's keys, the sum over the tile's rows. -/
theorem trip_dv (x : Ins Ideal) (c : Fin 4) (s : Acc Ideal) (d : Fin 128) (j : Fin 4096) :
    (trip x c s).2.2 (ix2 d (jc c j)) = s.2.2 (ix2 d (jc c j)) + ∑ r : Fin 512, x.dOT (ix2 d r) * pr x r (jc c j) :=
  (putCols_apply _ c _ d j).trans ((pay5_apply x c _ d j).trans (by rw [chunkCols_apply]))

/-- A trip leaves the carried dv at the other keys. -/
theorem trip_dv_other (x : Ins Ideal) (c c' : Fin 4) (hc : c' ≠ c) (s : Acc Ideal) (d : Fin 128) (j : Fin 4096) :
    (trip x c s).2.2 (ix2 d (jc c' j)) = s.2.2 (ix2 d (jc c' j)) := putCols_other _ c c' hc _ d j

theorem jc_split (j : Fin 16384) : ∃ c j', j = jc c j' :=
  ⟨⟨j.val / 4096, by omega⟩, ⟨j.val % 4096, by omega⟩, Fin.ext (by show j.val = 4096 * (j.val / 4096) + j.val % 4096; omega)⟩

/-- The keys' sum by chunks. -/
theorem sum_chunks (f : Fin 16384 → EReal) : ∑ c : Fin 4, ∑ j : Fin 4096, f (jc c j) = ∑ j : Fin 16384, f j := by
  rw [← Finset.sum_product', Finset.univ_product_univ]
  refine Fintype.sum_equiv (finProdFinEquiv (m := 4) (n := 4096)) _ _ fun p => congrArg f (Fin.ext ?_)
  show 4096 * p.1.val + p.2.val = p.2.val + 4096 * p.1.val
  omega

theorem point_eq (x : Ins Ideal) (a b : Vec Ideal S128x16384 .f32) :
    point x a b = trip x 3 (trip x 2 (trip x 1 (trip x 0 (k0_pay9 (F := Ideal), a, b)))) := rfl

/-- A point's tile of dq: the sum over all the head's keys. -/
theorem point_dq (x : Ins Ideal) (a b : Vec Ideal S128x16384 .f32) (r : Fin 512) (d : Fin 128) :
    (point x a b).1 (ix2 r d) = ∑ j : Fin 16384, ds x r j * x.k (ix2 j d) := by
  rw [point_eq, trip_dq, trip_dq, trip_dq, trip_dq, ← sum_chunks (fun j => ds x r j * x.k (ix2 j d)), Fin.sum_univ_four]
  have h0 : ((k0_pay9 (F := Ideal)) (ix2 r d) : EReal) = 0 := by
    unfold k0_pay9
    rw [shapeCast_self]
    exact Ideal.ofBits_zero_f32
  show (k0_pay9 (F := Ideal)) (ix2 r d) + _ + _ + _ + _ = _
  rw [h0, zero_add]

/-- A point's dk: what was there and the sum over the tile's rows. -/
theorem point_dk (x : Ins Ideal) (a b : Vec Ideal S128x16384 .f32) (d : Fin 128) (j : Fin 16384) :
    (point x a b).2.1 (ix2 d j) = a (ix2 d j) + ∑ r : Fin 512, x.qT (ix2 d r) * ds x r j := by
  obtain ⟨c, j', rfl⟩ := jc_split j
  rw [point_eq]
  fin_cases c
  · refine (trip_dk_other x 3 0 (by decide) _ d j').trans ((trip_dk_other x 2 0 (by decide) _ d j').trans ((trip_dk_other x 1 0 (by decide) _ d j').trans (trip_dk x 0 _ d j')))
  · refine (trip_dk_other x 3 1 (by decide) _ d j').trans ((trip_dk_other x 2 1 (by decide) _ d j').trans ((trip_dk x 1 _ d j').trans (congrArg (· + _) (trip_dk_other x 0 1 (by decide) _ d j'))))
  · refine (trip_dk_other x 3 2 (by decide) _ d j').trans ((trip_dk x 2 _ d j').trans (congrArg (· + _) ((trip_dk_other x 1 2 (by decide) _ d j').trans (trip_dk_other x 0 2 (by decide) _ d j'))))
  · refine (trip_dk x 3 _ d j').trans (congrArg (· + _) ((trip_dk_other x 2 3 (by decide) _ d j').trans ((trip_dk_other x 1 3 (by decide) _ d j').trans (trip_dk_other x 0 3 (by decide) _ d j'))))

/-- A point's dv: what was there and the sum over the tile's rows. -/
theorem point_dv (x : Ins Ideal) (a b : Vec Ideal S128x16384 .f32) (d : Fin 128) (j : Fin 16384) :
    (point x a b).2.2 (ix2 d j) = b (ix2 d j) + ∑ r : Fin 512, x.dOT (ix2 d r) * pr x r j := by
  obtain ⟨c, j', rfl⟩ := jc_split j
  rw [point_eq]
  fin_cases c
  · refine (trip_dv_other x 3 0 (by decide) _ d j').trans ((trip_dv_other x 2 0 (by decide) _ d j').trans ((trip_dv_other x 1 0 (by decide) _ d j').trans (trip_dv x 0 _ d j')))
  · refine (trip_dv_other x 3 1 (by decide) _ d j').trans ((trip_dv_other x 2 1 (by decide) _ d j').trans ((trip_dv x 1 _ d j').trans (congrArg (· + _) (trip_dv_other x 0 1 (by decide) _ d j'))))
  · refine (trip_dv_other x 3 2 (by decide) _ d j').trans ((trip_dv x 2 _ d j').trans (congrArg (· + _) ((trip_dv_other x 1 2 (by decide) _ d j').trans (trip_dv_other x 0 2 (by decide) _ d j'))))
  · refine (trip_dv x 3 _ d j').trans (congrArg (· + _) ((trip_dv_other x 2 3 (by decide) _ d j').trans ((trip_dv_other x 1 3 (by decide) _ d j').trans (trip_dv_other x 0 3 (by decide) _ d j'))))

/-- The two accumulators start from zero. -/
theorem start_dk (i : S128x16384.Idx) : ((k0_pay7 (F := Ideal)) i : EReal) = 0 := by
  unfold k0_pay7
  rw [shapeCast_self]
  exact Ideal.ofBits_zero_f32

theorem start_dv (i : S128x16384.Idx) : ((k0_pay8 (F := Ideal)) i : EReal) = 0 := by
  unfold k0_pay8
  rw [shapeCast_self]
  exact Ideal.ofBits_zero_f32

end Cert.AttnBwd
end
-- ==== Proof.Blocks.lean ====
/-
  The arrays the launch reads and the blocks of them a grid point finds: which element of which array each is; and the
  weights and the scores' gradient as functions of the arrays.
-/
module

public import proofs.«01_k».proof.Proof.State
public import proofs.«01_k».proof.Proof.Point
public import proofs.«01_k».proof.Proof.Gen.KernelIdeal.Points
public import Idealize.ShloMosaic.Lib.Pipeline.ValueKit

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx
open Idealize.ShloMosaic.Pipeline (Dat)
open Cert.KernelIdeal Cert.KernelIdeal.Gen

/-! ## The arrays and their blocks -/

variable (m : (ℓ : Loc nD τ sig) → Buf (Elt Ideal) ℓ)

/-- The eight arrays the launch reads: q, do, their transposes, k, v, the rows' log-sum-exp and delta. -/
abbrev aq (c : Dev nD) : S16384x1024.Idx → EReal := V m c main_v29
abbrev ado (c : Dev nD) : S16384x1024.Idx → EReal := V m c main_v32
abbrev aqt (c : Dev nD) : S1024x16384.Idx → EReal := V m c main_v34
abbrev adot (c : Dev nD) : S1024x16384.Idx → EReal := V m c main_v36
abbrev ak (c : Dev nD) : S16384x1024.Idx → EReal := V m c main_v30
abbrev av (c : Dev nD) : S16384x1024.Idx → EReal := V m c main_v31
abbrev alse (c : Dev nD) : S8x16384x1.Idx → EReal := V m c main_v11
abbrev adelta (c : Dev nD) : S8x16384x1.Idx → EReal := V m c main_v20

/-- Head `h`'s lane `d`, and tile `i`'s row `r`, in the arrays. -/
abbrev lane (h : Fin 8) (d : Fin 128) : Fin 1024 := ⟨128 * h.val + d.val, by omega⟩
abbrev trow (i : Fin 32) (r : Fin 512) : Fin 16384 := ⟨512 * i.val + r.val, by omega⟩

/-- The point's head and row tile. -/
theorem coords_0 (t : Fin cfg0.N) : (grid0.coords t 0).val = t.val / 32 := by
  have h : ∀ t : Fin grid0.N, (grid0.coords t 0).val = t.val / 32 := by decide +kernel
  exact h t
theorem coords_1 (t : Fin cfg0.N) : (grid0.coords t 1).val = t.val % 32 := by
  have h : ∀ t : Fin grid0.N, (grid0.coords t 1).val = t.val % 32 := by decide +kernel
  exact h t

/-- The point of head `h` and tile `i`. -/
def pt (h : Fin 8) (i : Fin 32) : Fin cfg0.N := ⟨32 * h.val + i.val, by have : cfg0.N = 256 := N_0; omega⟩

theorem pt_split (t : Fin cfg0.N) : ∃ h i, t = pt h i := by
  have hN : cfg0.N = 256 := N_0
  have ht := t.isLt
  exact ⟨⟨t.val / 32, by omega⟩, ⟨t.val % 32, by omega⟩, Fin.ext (by show t.val = 32 * (t.val / 32) + t.val % 32; omega)⟩

theorem index_0 : ∀ t : Fin grid0.N, win0_0.index t 0 = t.val % 32 ∧ win0_0.index t 1 = t.val / 32 := by decide +kernel
theorem index_1 : ∀ t : Fin grid0.N, win0_1.index t 0 = t.val % 32 ∧ win0_1.index t 1 = t.val / 32 := by decide +kernel
theorem index_2 : ∀ t : Fin grid0.N, win0_2.index t 0 = t.val / 32 ∧ win0_2.index t 1 = t.val % 32 := by decide +kernel
theorem index_3 : ∀ t : Fin grid0.N, win0_3.index t 0 = t.val / 32 ∧ win0_3.index t 1 = t.val % 32 := by decide +kernel
theorem index_4 : ∀ t : Fin grid0.N, win0_4.index t 0 = 0 ∧ win0_4.index t 1 = t.val / 32 := by decide +kernel
theorem index_5 : ∀ t : Fin grid0.N, win0_5.index t 0 = 0 ∧ win0_5.index t 1 = t.val / 32 := by decide +kernel
theorem index_6 : ∀ t : Fin grid0.N, win0_6.index t 0 = t.val / 32 ∧ win0_6.index t 1 = t.val % 32 ∧ win0_6.index t 2 = 0 := by decide +kernel
theorem index_7 : ∀ t : Fin grid0.N, win0_7.index t 0 = t.val / 32 ∧ win0_7.index t 1 = t.val % 32 ∧ win0_7.index t 2 = 0 := by decide +kernel
theorem index_8 : ∀ t : Fin grid0.N, win0_8.index t 0 = t.val % 32 ∧ win0_8.index t 1 = t.val / 32 := by decide +kernel

variable (c : Dev nD) (h : Fin 8) (i : Fin 32)

theorem pt_div : (pt h i).val / 32 = h.val := by show (32 * h.val + i.val) / 32 = h.val; omega
theorem pt_mod : (pt h i).val % 32 = i.val := by show (32 * h.val + i.val) % 32 = i.val; omega

/-! Each block, at the coordinates of its array. -/

theorem ins_q (r : Fin 512) (d : Fin 128) : (ins m c (pt h i)).q (ix2 r d) = aq m c (ix2 (trow i r) (lane h d)) := by
  show iblk m c 0 (pt h i) (ix2 r d) = _
  blk_simp [iblk]
  refine congrArg (V m c main_v29) (funext fun a => Fin.ext ?_)
  match a with
  | ⟨0, _⟩ => blk_simp; rw [(index_0 _).1, pt_mod]; show i.val * 512 + r.val = 512 * i.val + r.val; omega
  | ⟨1, _⟩ => blk_simp; rw [(index_0 _).2, pt_div]; show h.val * 128 + d.val = 128 * h.val + d.val; omega

theorem ins_do (r : Fin 512) (d : Fin 128) : (ins m c (pt h i)).dO (ix2 r d) = ado m c (ix2 (trow i r) (lane h d)) := by
  show iblk m c 1 (pt h i) (ix2 r d) = _
  blk_simp [iblk]
  refine congrArg (V m c main_v32) (funext fun a => Fin.ext ?_)
  match a with
  | ⟨0, _⟩ => blk_simp; rw [(index_1 _).1, pt_mod]; show i.val * 512 + r.val = 512 * i.val + r.val; omega
  | ⟨1, _⟩ => blk_simp; rw [(index_1 _).2, pt_div]; show h.val * 128 + d.val = 128 * h.val + d.val; omega

theorem ins_qT (d : Fin 128) (r : Fin 512) : (ins m c (pt h i)).qT (ix2 d r) = aqt m c (ix2 (lane h d) (trow i r)) := by
  show iblk m c 2 (pt h i) (ix2 d r) = _
  blk_simp [iblk]
  refine congrArg (V m c main_v34) (funext fun a => Fin.ext ?_)
  match a with
  | ⟨0, _⟩ => blk_simp; rw [(index_2 _).1, pt_div]; show h.val * 128 + d.val = 128 * h.val + d.val; omega
  | ⟨1, _⟩ => blk_simp; rw [(index_2 _).2, pt_mod]; show i.val * 512 + r.val = 512 * i.val + r.val; omega

theorem ins_dOT (d : Fin 128) (r : Fin 512) : (ins m c (pt h i)).dOT (ix2 d r) = adot m c (ix2 (lane h d) (trow i r)) := by
  show iblk m c 3 (pt h i) (ix2 d r) = _
  blk_simp [iblk]
  refine congrArg (V m c main_v36) (funext fun a => Fin.ext ?_)
  match a with
  | ⟨0, _⟩ => blk_simp; rw [(index_3 _).1, pt_div]; show h.val * 128 + d.val = 128 * h.val + d.val; omega
  | ⟨1, _⟩ => blk_simp; rw [(index_3 _).2, pt_mod]; show i.val * 512 + r.val = 512 * i.val + r.val; omega

theorem ins_k (j : Fin 16384) (d : Fin 128) : (ins m c (pt h i)).k (ix2 j d) = ak m c (ix2 j (lane h d)) := by
  show iblk m c 4 (pt h i) (ix2 j d) = _
  blk_simp [iblk]
  refine congrArg (V m c main_v30) (funext fun a => Fin.ext ?_)
  match a with
  | ⟨0, _⟩ => blk_simp; rw [(index_4 _).1]; show 0 * 16384 + j.val = j.val; omega
  | ⟨1, _⟩ => blk_simp; rw [(index_4 _).2, pt_div]; show h.val * 128 + d.val = 128 * h.val + d.val; omega

theorem ins_v (j : Fin 16384) (d : Fin 128) : (ins m c (pt h i)).v (ix2 j d) = av m c (ix2 j (lane h d)) := by
  show iblk m c 5 (pt h i) (ix2 j d) = _
  blk_simp [iblk]
  refine congrArg (V m c main_v31) (funext fun a => Fin.ext ?_)
  match a with
  | ⟨0, _⟩ => blk_simp; rw [(index_5 _).1]; show 0 * 16384 + j.val = j.val; omega
  | ⟨1, _⟩ => blk_simp; rw [(index_5 _).2, pt_div]; show h.val * 128 + d.val = 128 * h.val + d.val; omega

theorem emb_6 (r : Fin 512) : ((cfg0.win 6).blk (pt h i)).view.emb (ix3 0 r 0 : S1x512x1.Idx) = ix3 h (trow i r) 0 := by
  refine funext fun a => Fin.ext ?_
  match a with
  | ⟨0, _⟩ => blk_simp; rw [(index_6 _).1, pt_div]
  | ⟨1, _⟩ => blk_simp; rw [(index_6 _).2.1, pt_mod]; show i.val * 512 + r.val = 512 * i.val + r.val; omega
  | ⟨2, _⟩ => blk_simp; rw [(index_6 _).2.2]

theorem read_6 (X : S8x16384x1.Idx → EReal) (r : Fin 512) :
    ((cfg0.win 6).blk (pt h i)).view.read (Elt Ideal) X (ix3 0 r 0 : S1x512x1.Idx) = X (ix3 h (trow i r) 0) := congrArg X (emb_6 h i r)

theorem ins_lse (r : Fin 512) : (ins m c (pt h i)).lse (ix3 0 r 0) = alse m c (ix3 h (trow i r) 0) := read_6 h i (V m c main_v11) r

theorem emb_7 (r : Fin 512) : ((cfg0.win 7).blk (pt h i)).view.emb (ix3 0 r 0 : S1x512x1.Idx) = ix3 h (trow i r) 0 := by
  refine funext fun a => Fin.ext ?_
  match a with
  | ⟨0, _⟩ => blk_simp; rw [(index_7 _).1, pt_div]
  | ⟨1, _⟩ => blk_simp; rw [(index_7 _).2.1, pt_mod]; show i.val * 512 + r.val = 512 * i.val + r.val; omega
  | ⟨2, _⟩ => blk_simp; rw [(index_7 _).2.2]

theorem read_7 (X : S8x16384x1.Idx → EReal) (r : Fin 512) :
    ((cfg0.win 7).blk (pt h i)).view.read (Elt Ideal) X (ix3 0 r 0 : S1x512x1.Idx) = X (ix3 h (trow i r) 0) := congrArg X (emb_7 h i r)

theorem ins_delta (r : Fin 512) : (ins m c (pt h i)).delta (ix3 0 r 0) = adelta m c (ix3 h (trow i r) 0) := read_7 h i (V m c main_v20) r

/-! ## The weights and the scores' gradient over whole arrays -/

/-- The weight of query `s` at key `j` in head `h`. -/
def wt (s j : Fin 16384) : EReal :=
  Ideal.exp ((∑ d : Fin 128, aq m c (ix2 s (lane h d)) * ak m c (ix2 j (lane h d))) - alse m c (ix3 h s 0))

/-- The gradient of the score of query `s` at key `j` in head `h`. -/
def gs (s j : Fin 16384) : EReal :=
  wt m c h s j * ((∑ d : Fin 128, ado m c (ix2 s (lane h d)) * av m c (ix2 j (lane h d))) - adelta m c (ix3 h s 0))

theorem pr_pt (r : Fin 512) (j : Fin 16384) : pr (ins m c (pt h i)) r j = wt m c h (trow i r) j := by
  unfold pr wt
  rw [ins_lse]
  simp only [ins_q, ins_k]

theorem ds_pt (r : Fin 512) (j : Fin 16384) : ds (ins m c (pt h i)) r j = gs m c h (trow i r) j := by
  unfold ds gs
  rw [ins_delta, pr_pt]
  simp only [ins_do, ins_v]

end Cert.AttnBwd
end
-- ==== Proof.Softmax.lean ====
/-
  The mathematics of one row of the attention: the softmax weights, by way of the log-sum-exp and by way of the
  division; the gradient of the scores; over the extended reals at real values. And sums over padded lanes.
-/
module

public import Idealize.ShloMosaic.PureOps.Ideal.Laws
public import Idealize.ShloMosaic.Lib.IdealHost

@[expose] public section

noncomputable section

namespace Cert.AttnBwd

open Idealize.ShloMosaic

/-! ## Sums -/

/-- A finite sum of reals, taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `N` lanes of which the first `n` hold something and the others nothing. -/
theorem sum_lanes {n N : ℕ} (hn : n ≤ N) (f : Fin n → EReal) : ∑ d : Fin N, (if h : d.val < n then f ⟨d.val, h⟩ else 0) = ∑ d : Fin n, f d := by
  obtain ⟨k, rfl⟩ := Nat.exists_eq_add_of_le hn
  rw [Fin.sum_univ_add]
  have e1 : ∀ d : Fin n, (if h : (Fin.castAdd k d).val < n then f ⟨(Fin.castAdd k d).val, h⟩ else 0) = f d := fun d => dif_pos d.isLt
  have e2 : ∀ d : Fin k, (if h : (Fin.natAdd n d).val < n then f ⟨(Fin.natAdd n d).val, h⟩ else 0) = 0 := fun d =>
    dif_neg (by show ¬n + d.val < n; omega)
  rw [Finset.sum_congr rfl fun d _ => e1 d, Finset.sum_congr rfl fun d _ => e2 d, Finset.sum_const_zero, add_zero]

/-- The maximum of finitely many reals, from minus infinity or a real on, is a real once there is one. -/
theorem foldl_max_real {ι : Type} (f : ι → EReal) (hf : ∀ i, ∃ r : ℝ, f i = r) : ∀ (l : List ι) (a : EReal),
    ((∃ r : ℝ, a = r) ∨ (a = ⊥ ∧ l ≠ [])) → ∃ r : ℝ, l.foldl (fun x i => max x (f i)) a = r
  | [], a, h => by
    rcases h with h | h
    · exact h
    · exact absurd rfl h.2
  | i :: l, a, h => by
    refine foldl_max_real f hf l _ (Or.inl ?_)
    obtain ⟨s, hs⟩ := hf i
    rcases h with ⟨r, rfl⟩ | ⟨rfl, _⟩
    · show ∃ x : ℝ, max (r : EReal) (f i) = x
      rw [hs]
      rcases le_total (r : EReal) s with h | h
      · exact ⟨s, max_eq_right h⟩
      · exact ⟨r, max_eq_left h⟩
    · exact ⟨s, by show max (⊥ : EReal) (f i) = s; rw [hs]; exact max_eq_right bot_le⟩

/-! ## One row -/

section Row

variable {J : Type} [Fintype J] [Nonempty J] (s : J → ℝ) (r : ℝ)

/-- The weights of one row of scores. -/
def softmax (j : J) : ℝ := Real.exp (s j) / ∑ i, Real.exp (s i)

theorem sum_exp_pos : 0 < ∑ i, Real.exp (s i - r) := Finset.sum_pos (fun _ _ => Real.exp_pos _) Finset.univ_nonempty

theorem sum_exp_shift : ∑ i, Real.exp (s i) = Real.exp r * ∑ i, Real.exp (s i - r) := by
  rw [Finset.mul_sum]
  exact Finset.sum_congr rfl fun i _ => by rw [← Real.exp_add]; congr 1; ring

/-- The weights do not see a shift of the scores. -/
theorem softmax_shift (j : J) : Real.exp (s j - r) / ∑ i, Real.exp (s i - r) = softmax s j := by
  unfold softmax
  rw [sum_exp_shift s r, Real.exp_sub]
  have h := sum_exp_pos s r
  have h' := Real.exp_pos r
  field_simp

theorem coe_sum_exp : ∑ i, Ideal.exp ((s i : EReal) - r) = ((∑ i, Real.exp (s i - r) : ℝ) : EReal) := by
  rw [coe_sum]
  exact Finset.sum_congr rfl fun i _ => by rw [← EReal.coe_sub, Ideal.exp_coe]

/-- The weights from the shifted log-sum-exp. -/
theorem weight_of_lse (j : J) :
    Ideal.exp ((s j : EReal) - ((r : EReal) + Ideal.log (∑ i, Ideal.exp ((s i : EReal) - r)))) = (softmax s j : EReal) := by
  have h := sum_exp_pos s r
  rw [coe_sum_exp, Ideal.log_coe, if_neg (not_le.mpr h), ← EReal.coe_add, ← EReal.coe_sub, Ideal.exp_coe, ← softmax_shift s r,
    show s j - (r + Real.log (∑ i, Real.exp (s i - r))) = (s j - r) - Real.log (∑ i, Real.exp (s i - r)) by ring, Real.exp_sub _ (Real.log _), Real.exp_log h]

/-- The weights from the division. -/
theorem weight_of_div (j : J) :
    Ideal.div (Ideal.exp ((s j : EReal) - r)) (∑ i, Ideal.exp ((s i : EReal) - r)) = (softmax s j : EReal) := by
  have h := sum_exp_pos s r
  rw [coe_sum_exp, Ideal.div_coe h.ne', ← EReal.coe_sub, Ideal.exp_coe, ← EReal.coe_mul, ← softmax_shift s r, mul_one_div]

/-- The gradient of one row's scores, given the gradient of its weights. -/
def scoreGrad (g : J → ℝ) (j : J) : ℝ := softmax s j * (g j - ∑ i, softmax s i * g i)

/-- The gradient as differentiating the division gives it: the numerator's part and the denominator's. -/
theorem grad_of_div (g : J → ℝ) (j : J) :
    (Ideal.div (g j : EReal) (∑ i, Ideal.exp ((s i : EReal) - r))
        + -(∑ k, ((g k : EReal) * Ideal.div 1 ((∑ i, Ideal.exp ((s i : EReal) - r)) * (∑ i, Ideal.exp ((s i : EReal) - r)))) * Ideal.exp ((s k : EReal) - r)))
      * Ideal.exp ((s j : EReal) - r) = (scoreGrad s g j : EReal) := by
  have h := sum_exp_pos s r
  have hs : ∀ k, softmax s k = Real.exp (s k - r) / ∑ i, Real.exp (s i - r) := fun k => (softmax_shift s r k).symm
  unfold scoreGrad
  simp only [hs]
  rw [coe_sum_exp, ← EReal.coe_mul]
  generalize (∑ i, Real.exp (s i - r)) = L at h ⊢
  rw [Ideal.div_coe h.ne', Ideal.div_coe (mul_pos h h).ne', one_mul]
  simp only [← EReal.coe_sub, Ideal.exp_coe, ← EReal.coe_mul]
  rw [← coe_sum, ← EReal.coe_neg, ← EReal.coe_add, ← EReal.coe_mul]
  refine congrArg _ ?_
  have e : ∑ k, g k * (1 / (L * L)) * Real.exp (s k - r) = (∑ k, Real.exp (s k - r) / L * g k) * (1 / L) := by
    rw [Finset.sum_mul]
    exact Finset.sum_congr rfl fun k _ => by field_simp
  rw [e]
  field_simp
  ring

end Row

end Cert.AttnBwd
end
-- ==== Proof.HostArrays.lean ====
/-
  The arrays the launch reads, as functions of the program's arguments: the scaled queries, the row maxima, the rows'
  log-sum-exp, the attention's output and delta, and the padded head layout; each read at an index.
-/
module

public import proofs.«01_k».proof.Proof.Blocks
public import proofs.«01_k».proof.Proof.Softmax
public import proofs.«01_k».proof.Proof.Gen.ReferenceIdeal.Read
public import Idealize.ShloMosaic.Lib.StableHlo.RunRead
public import Idealize.ShloMosaic.Lib.KernelVsHost

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen

/-! ## The host's operations -/

section Ops

variable (x0 x1 : S16384x8x96.Idx → EReal) (x2 : S16384x8x64.Idx → EReal) (x3 : S16384x512.Idx → EReal)

/-- The scaled queries. -/
def hq : FVec Ideal S16384x8x96 .f32 := mulf (F := Ideal) (φ := .f32) x0 (broadcastInDim S16384x8x96 ![] bcast_S_S16384x8x96 (constant S_ .f32 0x3DD105EC#32))

/-- The scores, by head, query and key. -/
def hs : FVec Ideal S8x16384x16384 .f32 := Host.dotGeneral (F := Ideal) (φ₁ := .f32) (φ₂ := .f32) dot_S16384x8x96_S16384x8x96_S8x16384x16384_2_2_0_0_1_1 none (hq x0) x1

/-- The row maxima, and as a column. -/
def hmax : FVec Ideal S8x16384 .f32 := Host.reduce FloatOps.maximumf (hs x0 x1) (constant S_ .f32 0xFF800000#32) reducesTo_S8x16384x16384_S8x16384_d2 h_S_
def hmaxc : FVec Ideal S8x16384x1 .f32 := broadcastInDim S8x16384x1 ![0, 1] bcast_S8x16384_S8x16384x1_0_1 (hmax x0 x1)

/-- The exponentials of the shifted scores. -/
def hexp : FVec Ideal S8x16384x16384 .f32 := Host.exp (subf (hs x0 x1) (broadcastInDim S8x16384x16384 ![0, 1, 2] bcast_S8x16384x1_S8x16384x16384_0_1_2 (hmaxc x0 x1)))

/-- Their row sums, as a column. -/
def hsum : FVec Ideal S8x16384x1 .f32 := broadcastInDim S8x16384x1 ![0, 1] bcast_S8x16384_S8x16384x1_0_1
  (Host.reduceAdd (hexp x0 x1) (constant S_ .f32 0x00000000#32) reducesTo_S8x16384x16384_S8x16384_d2 h_S_)

/-- The rows' log-sum-exp. -/
def hlse : FVec Ideal S8x16384x1 .f32 := addf (hmaxc x0 x1) (Host.log (hsum x0 x1))

/-- The weights. -/
def hp : FVec Ideal S8x16384x16384 .f32 := Host.divf (hexp x0 x1) (broadcastInDim S8x16384x16384 ![0, 1, 2] bcast_S8x16384x1_S8x16384x16384_0_1_2 (hsum x0 x1))

/-- The attention's output. -/
def ho : FVec Ideal S16384x8x64 .f32 := transpose S16384x8x64 [2, 0, 1]
  (Host.dotGeneral (F := Ideal) (φ₁ := .f32) (φ₂ := .f32) dot_S16384x8x64_S8x16384x16384_S8x64x16384_0_2_2_1_1_0 none x2 (hp x0 x1)) transposes_S8x64x16384_S16384x8x64_2_0_1

/-- The output's gradient by head. -/
def hdo : FVec Ideal S16384x8x64 .f32 := shapeCast S16384x8x64 x3 shapeCasts_S16384x512_S16384x8x64

/-- The output's gradient against the output, row by row. -/
def hdelta : FVec Ideal S8x16384x1 .f32 := broadcastInDim S8x16384x1 ![0, 1] bcast_S8x16384_S8x16384x1_0_1
  (transpose S8x16384 [1, 0] (Host.reduceAdd (mulf (hdo x3) (ho x0 x1 x2)) (constant S_ .f32 0x00000000#32) reducesTo_S16384x8x64_S16384x8_d2 h_S_) transposes_S16384x8_S8x16384_1_0)

/-- A head's 96 or 64 lanes padded to 128 with zeros, the heads side by side. -/
def padded96 (x : S16384x8x96.Idx → EReal) : FVec Ideal S16384x1024 .f32 := shapeCast S16384x1024
  (pad S16384x8x128 ![0, 0, 0] ![0, 0, 32] ![0, 0, 0] x (sitofp (F := Ideal) .f32 (constantI S_ 32 0#32)) pads_S16384x8x96_S16384x8x128_000_000_0320 h_S_) shapeCasts_S16384x8x128_S16384x1024
def padded64 (x : S16384x8x64.Idx → EReal) : FVec Ideal S16384x1024 .f32 := shapeCast S16384x1024
  (pad S16384x8x128 ![0, 0, 0] ![0, 0, 64] ![0, 0, 0] x (sitofp (F := Ideal) .f32 (constantI S_ 32 0#32)) pads_S16384x8x64_S16384x8x128_000_000_0640 h_S_) shapeCasts_S16384x8x128_S16384x1024

/-- … transposed. -/
def flipped (x : FVec Ideal S16384x1024 .f32) : FVec Ideal S1024x16384 .f32 := transpose S1024x16384 [1, 0] x transposes_S16384x1024_S1024x16384_1_0

end Ops

/-! ## What the launch finds -/

section Found

variable (m : (ℓ : Loc nD τ sig) → Buf (Elt Ideal) ℓ) (c : Dev nD)

/-- The four arguments. -/
abbrev a0 : S16384x8x96.Idx → EReal := m ((c : Thread nD τ).loc main_arg0)
abbrev a1 : S16384x8x96.Idx → EReal := m ((c : Thread nD τ).loc main_arg1)
abbrev a2 : S16384x8x64.Idx → EReal := m ((c : Thread nD τ).loc main_arg2)
abbrev a3 : S16384x512.Idx → EReal := m ((c : Thread nD τ).loc main_arg3)

theorem found_lse : alse m c = hlse (a0 m c) (a1 m c) := by
  simp only [alse, V, List.flatten, List.append]
  after_reads_simp
  rfl

theorem found_delta : adelta m c = hdelta (a0 m c) (a1 m c) (a2 m c) (a3 m c) := by
  simp only [adelta, V, List.flatten, List.append]
  after_reads_simp
  rfl

theorem found_q : aq m c = padded96 (hq (a0 m c)) := by
  simp only [aq, V, List.flatten, List.append]
  after_reads_simp
  rfl

theorem found_k : ak m c = padded96 (a1 m c) := by
  simp only [ak, V, List.flatten, List.append]
  after_reads_simp
  rfl

theorem found_v : av m c = padded64 (a2 m c) := by
  simp only [av, V, List.flatten, List.append]
  after_reads_simp
  rfl

theorem found_do : ado m c = padded64 (hdo (a3 m c)) := by
  simp only [ado, V, List.flatten, List.append]
  after_reads_simp
  rfl

theorem found_qt : aqt m c = flipped (padded96 (hq (a0 m c))) := by
  simp only [aqt, V, List.flatten, List.append]
  after_reads_simp
  rfl

theorem found_dot : adot m c = flipped (padded64 (hdo (a3 m c))) := by
  simp only [adot, V, List.flatten, List.append]
  after_reads_simp
  rfl

end Found

end Cert.AttnBwd
end
-- ==== Proof.HostReads.lean ====
/-
  The host's arrays read at an index: the padded layout, the scores as inner products, the row sums, the log-sum-exp, the
  weights, the output and delta.
-/
module

public import proofs.«01_k».proof.Proof.HostArrays

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen

/-! ## Layout -/

theorem pad_zero (i : S_.Idx) : sitofp (F := Ideal) .f32 (constantI S_ 32 0#32) i = 0 := by
  show (((0#32 : BitVec 32).toInt : ℝ) : EReal) = 0
  simp

/-- Side-by-side heads at lane `d` of head `h`. -/
theorem heads_apply (y : S16384x8x128.Idx → EReal) (s : Fin 16384) (h : Fin 8) (d : Fin 128) :
    shapeCast S16384x1024 y shapeCasts_S16384x8x128_S16384x1024 (ix2 s (lane h d)) = y (ix3 s h d) :=
  shapeCast_apply y shapeCasts_S16384x8x128_S16384x1024 (ix2 s (lane h d)) (ix3 s h d) (by
    rewrite [Shape.rowMajor_val_two, Shape.rowMajor_val_three]
    show (s.val * 8 + h.val) * 128 + d.val = s.val * 1024 + (128 * h.val + d.val)
    omega)

theorem padded96_apply (x : S16384x8x96.Idx → EReal) (s : Fin 16384) (h : Fin 8) (d : Fin 128) :
    padded96 x (ix2 s (lane h d)) = if hd : d.val < 96 then x (ix3 s h ⟨d.val, hd⟩) else 0 := by
  unfold padded96
  rw [heads_apply]
  by_cases hd : d.val < 96
  · rw [dif_pos hd]
    exact pad_apply_of_inside _ _ _ x _ _ _ (ix3 s h d) (ix3 s h ⟨d.val, hd⟩) fun a => by
      match a with
      | ⟨0, _⟩ => show s.val = 0 + s.val * (0 + 1); omega
      | ⟨1, _⟩ => show h.val = 0 + h.val * (0 + 1); omega
      | ⟨2, _⟩ => show d.val = 0 + d.val * (0 + 1); omega
  · rw [dif_neg hd]
    refine (pad_apply_of_not_inside _ _ _ x _ _ _ (ix3 s h d) (2 : Fin 3) fun hh => hd ?_).trans (pad_zero _)
    have h2 : (d.val - 0) / (0 + 1) < 96 := hh.2.2
    omega

theorem padded64_apply (x : S16384x8x64.Idx → EReal) (s : Fin 16384) (h : Fin 8) (d : Fin 128) :
    padded64 x (ix2 s (lane h d)) = if hd : d.val < 64 then x (ix3 s h ⟨d.val, hd⟩) else 0 := by
  unfold padded64
  rw [heads_apply]
  by_cases hd : d.val < 64
  · rw [dif_pos hd]
    exact pad_apply_of_inside _ _ _ x _ _ _ (ix3 s h d) (ix3 s h ⟨d.val, hd⟩) fun a => by
      match a with
      | ⟨0, _⟩ => show s.val = 0 + s.val * (0 + 1); omega
      | ⟨1, _⟩ => show h.val = 0 + h.val * (0 + 1); omega
      | ⟨2, _⟩ => show d.val = 0 + d.val * (0 + 1); omega
  · rw [dif_neg hd]
    refine (pad_apply_of_not_inside _ _ _ x _ _ _ (ix3 s h d) (2 : Fin 3) fun hh => hd ?_).trans (pad_zero _)
    have h2 : (d.val - 0) / (0 + 1) < 64 := hh.2.2
    omega

theorem flipped_apply (x : FVec Ideal S16384x1024 .f32) (l : Fin 1024) (s : Fin 16384) : flipped x (ix2 l s) = x (ix2 s l) := by
  unfold flipped
  exact congrArg x (funext fun a => Fin.ext (by match a with | ⟨0, _⟩ => rfl | ⟨1, _⟩ => rfl))

/-- The inner product of two padded heads is that of their real lanes. -/
theorem inner96 (x y : S16384x8x96.Idx → EReal) (s j : Fin 16384) (h : Fin 8) :
    ∑ d : Fin 128, padded96 x (ix2 s (lane h d)) * padded96 y (ix2 j (lane h d)) = ∑ d : Fin 96, x (ix3 s h d) * y (ix3 j h d) := by
  rw [← sum_lanes (show 96 ≤ 128 by omega) fun d => x (ix3 s h d) * y (ix3 j h d)]
  refine Finset.sum_congr rfl fun d _ => ?_
  rw [padded96_apply, padded96_apply]
  by_cases hd : d.val < 96
  · rw [dif_pos hd, dif_pos hd, dif_pos hd]
  · rw [dif_neg hd, dif_neg hd, dif_neg hd, zero_mul]

theorem inner64 (x y : S16384x8x64.Idx → EReal) (s j : Fin 16384) (h : Fin 8) :
    ∑ d : Fin 128, padded64 x (ix2 s (lane h d)) * padded64 y (ix2 j (lane h d)) = ∑ d : Fin 64, x (ix3 s h d) * y (ix3 j h d) := by
  rw [← sum_lanes (show 64 ≤ 128 by omega) fun d => x (ix3 s h d) * y (ix3 j h d)]
  refine Finset.sum_congr rfl fun d _ => ?_
  rw [padded64_apply, padded64_apply]
  by_cases hd : d.val < 64
  · rw [dif_pos hd, dif_pos hd, dif_pos hd]
  · rw [dif_neg hd, dif_neg hd, dif_neg hd, zero_mul]

/-! ## Rows -/

variable (x0 x1 : S16384x8x96.Idx → EReal) (x2 : S16384x8x64.Idx → EReal) (x3 : S16384x512.Idx → EReal)
variable (h : Fin 8) (q k : Fin 16384)

/-- The scale the queries are multiplied by. -/
def scaleWord : EReal := Ideal.ofBits .f32 0x3DD105EC#32

theorem hq_apply (d : Fin 96) : hq x0 (ix3 q h d) = x0 (ix3 q h d) * scaleWord := by
  show x0 (ix3 q h d) * broadcastInDim S16384x8x96 ![] bcast_S_S16384x8x96 (constant (F := Ideal) S_ .f32 0x3DD105EC#32) (ix3 q h d) = _
  rw [broadcastInDim_scalar_apply]
  rfl

theorem hs_eq : hs x0 x1 = Cert.ReferenceIdeal.Read.val_main_v2 (F := Ideal) x0 x1 := rfl

theorem hs_apply : hs x0 x1 (ix3 h q k) = ∑ d : Fin 96, hq x0 (ix3 q h d) * x1 (ix3 k h d) := by
  rw [hs_eq, Cert.ReferenceIdeal.Read.val_main_v2_apply]
  refine Finset.sum_congr rfl fun d _ => ?_
  refine congrArg₂ (· * ·) (congrArg (hq x0) (funext fun a => Fin.ext ?_)) (congrArg x1 (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

/-- A row sum along the keys. -/
theorem rowSum (y : FVec Ideal S8x16384x16384 .f32) :
    Host.reduceAdd y (constant (F := Ideal) S_ .f32 0x00000000#32) reducesTo_S8x16384x16384_S8x16384_d2 h_S_ (ix2 h q) = ∑ k : Fin 16384, y (ix3 h q k) := by
  simp only [Host.reduceAdd, Ideal.hostReduceAdd_def]
  rw [Ideal.hostReduceAdd_single reducesTo_S8x16384x16384_S8x16384_d2 (by decide)]
  refine (congrArg₂ (· + ·) (show constant (F := Ideal) S_ .f32 0x00000000#32 (Shape.Idx.first h_S_) = 0 from Ideal.ofBits_zero_f32)
    (Finset.sum_congr rfl fun k _ => ?_)).trans (zero_add _)
  exact congrArg y (funext fun a => Fin.ext (by match a with | ⟨0, _⟩ => rfl | ⟨1, _⟩ => rfl | ⟨2, _⟩ => rfl))

/-- A column over the rows, read; and a column spread over the keys, read. -/
theorem col_apply (y : S8x16384.Idx → EReal) : broadcastInDim S8x16384x1 ![0, 1] bcast_S8x16384_S8x16384x1_0_1 y (ix3 h q 0) = y (ix2 h q) :=
  broadcastInDim_apply _ bcast_S8x16384_S8x16384x1_0_1 y (ix3 h q 0) (ix2 h q) (fun a => match a with
    | ⟨0, _⟩ => by show h.val = if (8 : Nat) = 1 then 0 else h.val; rw [if_neg (by decide)]
    | ⟨1, _⟩ => by show q.val = if (16384 : Nat) = 1 then 0 else q.val; rw [if_neg (by decide)])

theorem spread_apply (y : S8x16384x1.Idx → EReal) : broadcastInDim S8x16384x16384 ![0, 1, 2] bcast_S8x16384x1_S8x16384x16384_0_1_2 y (ix3 h q k) = y (ix3 h q 0) :=
  broadcastInDim_apply _ bcast_S8x16384x1_S8x16384x16384_0_1_2 y (ix3 h q k) (ix3 h q 0) (fun a => match a with
    | ⟨0, _⟩ => by show h.val = if (8 : Nat) = 1 then 0 else h.val; rw [if_neg (by decide)]
    | ⟨1, _⟩ => by show q.val = if (16384 : Nat) = 1 then 0 else q.val; rw [if_neg (by decide)]
    | ⟨2, _⟩ => by show 0 = if (1 : Nat) = 1 then 0 else k.val; rw [if_pos rfl])

theorem hexp_apply : hexp x0 x1 (ix3 h q k) = Ideal.exp (hs x0 x1 (ix3 h q k) - hmax x0 x1 (ix2 h q)) := by
  show Ideal.exp (hs x0 x1 (ix3 h q k) - broadcastInDim S8x16384x16384 ![0, 1, 2] bcast_S8x16384x1_S8x16384x16384_0_1_2 (hmaxc x0 x1) (ix3 h q k)) = _
  rw [spread_apply]
  unfold hmaxc
  rw [col_apply]

theorem hsum_apply : hsum x0 x1 (ix3 h q 0) = ∑ k : Fin 16384, hexp x0 x1 (ix3 h q k) := by
  unfold hsum
  rw [col_apply, rowSum]

theorem log_add (y z : FVec Ideal S8x16384x1 .f32) (i : S8x16384x1.Idx) : addf y (Host.log z) i = y i + Ideal.log (z i) := rfl

theorem hlse_apply : hlse x0 x1 (ix3 h q 0) = hmax x0 x1 (ix2 h q) + Ideal.log (∑ k : Fin 16384, hexp x0 x1 (ix3 h q k)) := by
  unfold hlse
  rw [log_add, hsum_apply]
  unfold hmaxc
  rw [col_apply]

theorem hp_apply : hp x0 x1 (ix3 h q k) = Ideal.div (hexp x0 x1 (ix3 h q k)) (∑ i : Fin 16384, hexp x0 x1 (ix3 h q i)) := by
  unfold hp
  rw [hostDivf_apply, spread_apply, hsum_apply]

theorem dot_eq : dot_S16384x8x64_S8x16384x16384_S8x64x16384_0_2_2_1_1_0 = Cert.ReferenceIdeal.dot_S16384x8x64_S8x16384x16384_S8x64x16384_0_2_2_1_1_0 := rfl

theorem out_dot (x : FVec Ideal S16384x8x64 .f32) (y : FVec Ideal S8x16384x16384 .f32) (i : S8x64x16384.Idx) :
    Host.dotGeneral (F := Ideal) dot_S16384x8x64_S8x16384x16384_S8x64x16384_0_2_2_1_1_0 none x y i
    = ∑ k : Fin 16384, x (ix3 k (i 0) (i 1)) * y (ix3 (i 0) (i 2) k) := by
  rw [dot_eq]
  simp only [Host.dotGeneral]
  rw [Ideal.dotGeneral_apply, ← Equiv.sum_comp (contrEquiv1 Cert.ReferenceIdeal.dot_S16384x8x64_S8x16384x16384_S8x64x16384_0_2_2_1_1_0 16384 rfl rfl).symm]
  refine Finset.sum_congr rfl fun k _ => ?_
  have hk := contrEquiv1_symm_val Cert.ReferenceIdeal.dot_S16384x8x64_S8x16384x16384_S8x64x16384_0_2_2_1_1_0 16384 rfl rfl k
  refine congrArg₂ (· * ·) (congrArg x (funext fun a => Fin.ext ?_)) (congrArg y (funext fun a => Fin.ext ?_))
  · match a with
    | ⟨0, _⟩ => exact (Cert.ReferenceIdeal.Read.lhs_main_v31_0 _ _).trans hk
    | ⟨1, _⟩ => exact Cert.ReferenceIdeal.Read.lhs_main_v31_1 _ _
    | ⟨2, _⟩ => exact Cert.ReferenceIdeal.Read.lhs_main_v31_2 _ _
  · match a with
    | ⟨0, _⟩ => exact Cert.ReferenceIdeal.Read.rhs_main_v31_0 _ _
    | ⟨1, _⟩ => exact Cert.ReferenceIdeal.Read.rhs_main_v31_1 _ _
    | ⟨2, _⟩ => exact (Cert.ReferenceIdeal.Read.rhs_main_v31_2 _ _).trans hk

theorem hdo_apply (d : Fin 64) : hdo x3 (ix3 q h d) = x3 (ix2 q ⟨64 * h.val + d.val, by omega⟩) :=
  shapeCast_apply x3 shapeCasts_S16384x512_S16384x8x64 (ix3 q h d) (ix2 q ⟨64 * h.val + d.val, by omega⟩) (by
    rewrite [Shape.rowMajor_val_two, Shape.rowMajor_val_three]
    show q.val * 512 + (64 * h.val + d.val) = (q.val * 8 + h.val) * 64 + d.val
    omega)

theorem turned (y : S8x64x16384.Idx → EReal) (d : Fin 64) : transpose S16384x8x64 [2, 0, 1] y transposes_S8x64x16384_S16384x8x64_2_0_1 (ix3 q h d) = y (ix3 h d q) :=
  congrArg y (funext fun a => Fin.ext (by match a with | ⟨0, _⟩ => rfl | ⟨1, _⟩ => rfl | ⟨2, _⟩ => rfl))

theorem ho_apply (d : Fin 64) : ho x0 x1 x2 (ix3 q h d) = ∑ k : Fin 16384, x2 (ix3 k h d) * hp x0 x1 (ix3 h q k) := by
  unfold ho
  rw [turned, out_dot]

theorem turned_rows (y : S16384x8.Idx → EReal) : transpose S8x16384 [1, 0] y transposes_S16384x8_S8x16384_1_0 (ix2 h q) = y (ix2 q h) :=
  congrArg y (funext fun a => Fin.ext (by match a with | ⟨0, _⟩ => rfl | ⟨1, _⟩ => rfl))

/-- A row sum along a head's lanes, of a product. -/
theorem laneSum (x y : FVec Ideal S16384x8x64 .f32) :
    Host.reduceAdd (mulf x y) (constant (F := Ideal) S_ .f32 0x00000000#32) reducesTo_S16384x8x64_S16384x8_d2 h_S_ (ix2 q h) = ∑ d : Fin 64, x (ix3 q h d) * y (ix3 q h d) := by
  simp only [Host.reduceAdd, Ideal.hostReduceAdd_def]
  rw [Ideal.hostReduceAdd_single reducesTo_S16384x8x64_S16384x8_d2 (by decide)]
  refine (congrArg₂ (· + ·) (show constant (F := Ideal) S_ .f32 0x00000000#32 (Shape.Idx.first h_S_) = 0 from Ideal.ofBits_zero_f32)
    (Finset.sum_congr rfl fun d _ => ?_)).trans (zero_add _)
  show x _ * y _ = _
  refine congrArg₂ (· * ·) (congrArg x (funext fun a => Fin.ext ?_)) (congrArg y (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

theorem hdelta_apply : hdelta x0 x1 x2 x3 (ix3 h q 0) = ∑ d : Fin 64, hdo x3 (ix3 q h d) * ho x0 x1 x2 (ix3 q h d) := by
  unfold hdelta
  rw [col_apply, turned_rows, laneSum]

end Cert.AttnBwd
end
-- ==== Proof.Attention.lean ====
/-
  Attention over real arguments: the scores, the row maxima, the weights and the output's gradient against the values are
  reals, and the launch's weights and score gradients are the softmax's.
-/
module

public import proofs.«01_k».proof.Proof.HostReads

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen

/-- The scale as a real. -/
def scale : ℝ := scaleWord.toReal

theorem scaleWord_real : scaleWord = (scale : EReal) := by
  refine (EReal.coe_toReal ?_ ?_).symm <;> simp [scaleWord, Ideal.ofBits, Ideal.ieee, -EReal.coe_mul]

/-- The four arguments hold the reals `Q`, `K`, `W`, `C`: queries, keys, values and the output's gradient by head. -/
structure Holds (x0 x1 : S16384x8x96.Idx → EReal) (x2 : S16384x8x64.Idx → EReal) (x3 : S16384x512.Idx → EReal)
    (Q K : Fin 16384 → Fin 8 → Fin 96 → ℝ) (W C : Fin 16384 → Fin 8 → Fin 64 → ℝ) : Prop where
  q : ∀ s h d, x0 (ix3 s h d) = (Q s h d : EReal)
  k : ∀ s h d, x1 (ix3 s h d) = (K s h d : EReal)
  v : ∀ s h d, x2 (ix3 s h d) = (W s h d : EReal)
  g : ∀ s h d, hdo x3 (ix3 s h d) = (C s h d : EReal)

/-- The score of query `s` at key `j` in head `h`. -/
def score (Q K : Fin 16384 → Fin 8 → Fin 96 → ℝ) (h : Fin 8) (s j : Fin 16384) : ℝ := ∑ d, Q s h d * scale * K j h d

/-- The gradient of the weight of query `s` at key `j` in head `h`. -/
def dweight (W C : Fin 16384 → Fin 8 → Fin 64 → ℝ) (h : Fin 8) (s j : Fin 16384) : ℝ := ∑ d, C s h d * W j h d

section Real

variable {x0 x1 : S16384x8x96.Idx → EReal} {x2 : S16384x8x64.Idx → EReal} {x3 : S16384x512.Idx → EReal}
  {Q K : Fin 16384 → Fin 8 → Fin 96 → ℝ} {W C : Fin 16384 → Fin 8 → Fin 64 → ℝ} (H : Holds x0 x1 x2 x3 Q K W C) (h : Fin 8) (s j : Fin 16384)

include H

theorem hq_real (d : Fin 96) : hq x0 (ix3 s h d) = ((Q s h d * scale : ℝ) : EReal) := by
  rw [hq_apply, H.q, scaleWord_real, EReal.coe_mul]

theorem hs_real : hs x0 x1 (ix3 h s j) = (score Q K h s j : EReal) := by
  rw [hs_apply, score, coe_sum]
  exact Finset.sum_congr rfl fun d _ => by rw [hq_real H, H.k, ← EReal.coe_mul]

theorem hmax_real : ∃ r : ℝ, hmax x0 x1 (ix2 h s) = r := by
  unfold hmax
  rw [Host.reduce_eq_foldl]
  have hf : ∀ i, ∃ r : ℝ, hs x0 x1 i = r := fun i => ⟨score Q K (i 0) (i 1) (i 2), (congrArg (hs x0 x1) (eq_ix3 i)).trans (hs_real H (i 0) (i 1) (i 2))⟩
  generalize hs x0 x1 = y at hf ⊢
  refine foldl_max_real y hf _ _ (Or.inr ⟨by simp [constant, Ideal.ofBits, Ideal.ieee], fun e => ?_⟩)
  have hm : ix3 h s (0 : Fin 16384) ∈ ((List.finRange S8x16384x16384.numel).map S8x16384x16384.rowMajor.symm).filter fun i => reducesTo_S8x16384x16384_S8x16384_d2.drop i = ix2 h s := by
    rw [List.mem_filter]
    refine ⟨List.mem_map.2 ⟨S8x16384x16384.rowMajor (ix3 h s 0), List.mem_finRange _, Equiv.symm_apply_apply _ _⟩, decide_eq_true ?_⟩
    exact funext fun a => Fin.ext (by match a with | ⟨0, _⟩ => rfl | ⟨1, _⟩ => rfl)
  rw [e] at hm
  exact absurd hm List.not_mem_nil

theorem hexp_real (r : ℝ) (hr : hmax x0 x1 (ix2 h s) = r) : hexp x0 x1 (ix3 h s j) = Ideal.exp ((score Q K h s j : EReal) - r) := by
  rw [hexp_apply, hs_real H, hr]

theorem hp_real : hp x0 x1 (ix3 h s j) = (softmax (score Q K h s) j : EReal) := by
  obtain ⟨r, hr⟩ := hmax_real H h s
  rw [hp_apply, ← weight_of_div (score Q K h s) r j]
  simp only [hexp_real H h s _ r hr]

/-- The log-sum-exp turns a score into its weight. -/
theorem lse_real : Ideal.exp ((score Q K h s j : EReal) - hlse x0 x1 (ix3 h s 0)) = (softmax (score Q K h s) j : EReal) := by
  obtain ⟨r, hr⟩ := hmax_real H h s
  rw [hlse_apply, hr, ← weight_of_lse (score Q K h s) r j]
  simp only [hexp_real H h s _ r hr]

/-- Delta is the weights' gradient averaged by the weights. -/
theorem hdelta_real : hdelta x0 x1 x2 x3 (ix3 h s 0) = ((∑ i, softmax (score Q K h s) i * dweight W C h s i : ℝ) : EReal) := by
  rw [hdelta_apply]
  have e : ∀ d : Fin 64, hdo x3 (ix3 s h d) * ho x0 x1 x2 (ix3 s h d) = ((C s h d * ∑ i, W i h d * softmax (score Q K h s) i : ℝ) : EReal) := fun d => by
    rw [H.g, ho_apply, EReal.coe_mul, coe_sum]
    refine congrArg _ (Finset.sum_congr rfl fun i _ => ?_)
    rw [H.v, hp_real H, ← EReal.coe_mul]
  rw [Finset.sum_congr rfl fun d _ => e d, ← coe_sum]
  refine congrArg _ ?_
  simp only [dweight, Finset.mul_sum]
  rw [Finset.sum_comm]
  exact Finset.sum_congr rfl fun i _ => Finset.sum_congr rfl fun d _ => by ring

end Real

/-! ## The launch -/

section Launch

variable (m : (ℓ : Loc nD τ sig) → Buf (Elt Ideal) ℓ) (c : Dev nD) {Q K : Fin 16384 → Fin 8 → Fin 96 → ℝ} {W C : Fin 16384 → Fin 8 → Fin 64 → ℝ}
  (H : Holds (a0 m c) (a1 m c) (a2 m c) (a3 m c) Q K W C) (h : Fin 8) (s j : Fin 16384)

include H

/-- The launch's weight is the softmax's. -/
theorem wt_real : wt m c h s j = (softmax (score Q K h s) j : EReal) := by
  unfold wt
  rw [found_q, found_k, found_lse, inner96, ← hs_apply, hs_real H, lse_real H]

/-- The launch's score gradient is the softmax's. -/
theorem gs_real : gs m c h s j = (scoreGrad (score Q K h s) (dweight W C h s) j : EReal) := by
  unfold gs
  rw [wt_real m c H, found_do, found_v, found_delta, inner64, hdelta_real H]
  have e : ∑ d : Fin 64, hdo (a3 m c) (ix3 s h d) * a2 m c (ix3 j h d) = (dweight W C h s j : EReal) := by
    rw [dweight, coe_sum]
    exact Finset.sum_congr rfl fun d _ => by rw [H.g, H.v, ← EReal.coe_mul]
  rw [e, ← EReal.coe_sub, ← EReal.coe_mul]
  rfl

end Launch

end Cert.AttnBwd
end
-- ==== Proof.Reference.lean ====
/-
  The reference's operations read at an index, over its four arguments: the exponentials, the row sums, the weights, the
  gradients of the weights and of the scores, and the three results before their padding.
-/
module

public import proofs.«01_k».proof.Proof.HostReads

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen Cert.ReferenceIdeal.Read

section Indices

variable (h : Fin 8) (q k : Fin 16384)

theorem idx_21 : idx_main_v21 (ix3 h q k) = (ix3 h q 0) := funext fun a => Fin.ext (by match a with | ⟨0, _⟩ => rfl | ⟨1, _⟩ => rfl | ⟨2, _⟩ => rfl)
theorem idx_20 : idx_main_v20 (ix3 h q 0) = (ix2 h q) := funext fun a => Fin.ext (by match a with | ⟨0, _⟩ => rfl | ⟨1, _⟩ => rfl)
theorem idx_24 : idx_main_v24 (ix2 h q) k = (ix3 h q k) := funext fun a => Fin.ext (by match a with | ⟨0, _⟩ => rfl | ⟨1, _⟩ => rfl | ⟨2, _⟩ => rfl)
theorem idx_42 : idx_main_v42 (ix2 h q) k = (ix3 h q k) := funext fun a => Fin.ext (by match a with | ⟨0, _⟩ => rfl | ⟨1, _⟩ => rfl | ⟨2, _⟩ => rfl)
theorem idx_47 : idx_main_v47 (ix2 h q) 0 = (ix3 h q 0) := funext fun a => Fin.ext (by match a with | ⟨0, _⟩ => rfl | ⟨1, _⟩ => rfl | ⟨2, _⟩ => rfl)
theorem idx_25 : idx_main_v25 (ix3 h q 0) = (ix2 h q) := funext fun a => Fin.ext (by match a with | ⟨0, _⟩ => rfl | ⟨1, _⟩ => rfl)
theorem idx_26 : idx_main_v26 (ix3 h q k) = (ix3 h q 0) := funext fun a => Fin.ext (by match a with | ⟨0, _⟩ => rfl | ⟨1, _⟩ => rfl | ⟨2, _⟩ => rfl)
theorem idx_45 : idx_main_v45 (ix3 h q k) = (ix3 h q 0) := funext fun a => Fin.ext (by match a with | ⟨0, _⟩ => rfl | ⟨1, _⟩ => rfl | ⟨2, _⟩ => rfl)
theorem idx_39 : idx_main_v39 (ix3 h q k) = (ix3 h q 0) := funext fun a => Fin.ext (by match a with | ⟨0, _⟩ => rfl | ⟨1, _⟩ => rfl | ⟨2, _⟩ => rfl)
theorem idx_35 (d : Fin 64) : idx_main_v35 (ix3 h d q) = (ix3 q h d) := funext fun a => Fin.ext (by match a with | ⟨0, _⟩ => rfl | ⟨1, _⟩ => rfl | ⟨2, _⟩ => rfl)
theorem lidx_36 (d : Fin 64) : lidx_main_v36 (ix3 h q k) d = (ix3 h d q) := funext fun a => Fin.ext (by match a with | ⟨0, _⟩ => rfl | ⟨1, _⟩ => rfl | ⟨2, _⟩ => rfl)
theorem ridx_36 (d : Fin 64) : ridx_main_v36 (ix3 h q k) d = (ix3 k h d) := funext fun a => Fin.ext (by match a with | ⟨0, _⟩ => rfl | ⟨1, _⟩ => rfl | ⟨2, _⟩ => rfl)
theorem idx_43 : idx_main_v43 (ix3 h q 0) = ix2 h q := funext fun a => Fin.ext (by
  match a with
  | ⟨0, _⟩ => show ((h.val * 16384 + q.val) * 1 + 0) / 16384 = h.val; omega
  | ⟨1, _⟩ => show ((h.val * 16384 + q.val) * 1 + 0) % 16384 = q.val; omega)
theorem idx_54 (d : Fin 96) : idx_main_v54 (ix3 q h d) = (ix3 h q d) := funext fun a => Fin.ext (by match a with | ⟨0, _⟩ => rfl | ⟨1, _⟩ => rfl | ⟨2, _⟩ => rfl)
theorem idx_52 (d : Fin 96) : idx_main_v52 (ix3 q h d) = (ix3 h q d) := funext fun a => Fin.ext (by match a with | ⟨0, _⟩ => rfl | ⟨1, _⟩ => rfl | ⟨2, _⟩ => rfl)
theorem idx_38 (d : Fin 64) : idx_main_v38 (ix3 q h d) = (ix3 h d q) := funext fun a => Fin.ext (by match a with | ⟨0, _⟩ => rfl | ⟨1, _⟩ => rfl | ⟨2, _⟩ => rfl)
theorem lidx_53 (d : Fin 96) : lidx_main_v53 (ix3 h q d) k = (ix3 h q k) := funext fun a => Fin.ext (by match a with | ⟨0, _⟩ => rfl | ⟨1, _⟩ => rfl | ⟨2, _⟩ => rfl)
theorem ridx_53 (d : Fin 96) : ridx_main_v53 (ix3 h q d) k = (ix3 k h d) := funext fun a => Fin.ext (by match a with | ⟨0, _⟩ => rfl | ⟨1, _⟩ => rfl | ⟨2, _⟩ => rfl)
theorem lidx_51 (d : Fin 96) : lidx_main_v51 (ix3 h k d) q = (ix3 h q k) := funext fun a => Fin.ext (by match a with | ⟨0, _⟩ => rfl | ⟨1, _⟩ => rfl | ⟨2, _⟩ => rfl)
theorem ridx_51 (d : Fin 96) : ridx_main_v51 (ix3 h k d) q = (ix3 q h d) := funext fun a => Fin.ext (by match a with | ⟨0, _⟩ => rfl | ⟨1, _⟩ => rfl | ⟨2, _⟩ => rfl)
theorem lidx_37 (d : Fin 64) : lidx_main_v37 (ix3 h d k) q = (ix3 h d q) := funext fun a => Fin.ext (by match a with | ⟨0, _⟩ => rfl | ⟨1, _⟩ => rfl | ⟨2, _⟩ => rfl)
theorem ridx_37 (d : Fin 64) : ridx_main_v37 (ix3 h d k) q = (ix3 h q k) := funext fun a => Fin.ext (by match a with | ⟨0, _⟩ => rfl | ⟨1, _⟩ => rfl | ⟨2, _⟩ => rfl)
theorem idx_48 : idx_main_v48 (ix3 h q k) = (ix2 h q) := funext fun a => Fin.ext (by match a with | ⟨0, _⟩ => rfl | ⟨1, _⟩ => rfl)

end Indices

section Reads

variable (x0 x1 : S16384x8x96.Idx → EReal) (x2 : S16384x8x64.Idx → EReal) (x3 : S16384x512.Idx → EReal) (h : Fin 8) (q k : Fin 16384)

theorem zero_8 (i : S_.Idx) : val_main_cst_8 (F := Ideal) i = 0 := Ideal.ofBits_zero_f32
theorem zero_10 (i : S_.Idx) : val_main_cst_10 (F := Ideal) i = 0 := Ideal.ofBits_zero_f32
theorem zero_11 (i : S_.Idx) : val_main_cst_11 (F := Ideal) i = 0 := Ideal.ofBits_zero_f32
theorem hmax_eq : val_main_v3 (F := Ideal) x0 x1 = hmax x0 x1 := rfl
theorem hdo_eq : val_main_v34 (F := Ideal) x3 = hdo x3 := rfl
theorem hq_eq : val_main_v1 (F := Ideal) x0 = hq x0 := rfl

theorem ref_max : val_main_v10 (F := Ideal) x0 x1 (ix2 h q) = hmax x0 x1 (ix2 h q) := by
  have e : val_main_v9 (F := Ideal) (ix2 h q) = ⊥ := by
    rw [val_main_v9_apply, val_main_cst_2_apply]
    simp [Ideal.ofBits, Ideal.ieee]
  rw [val_main_v10_apply, Ideal.maximumf_def, e, max_eq_right bot_le, hmax_eq]

theorem ref_max_spread : val_main_v21 (F := Ideal) x0 x1 (ix3 h q k) = val_main_v20 (F := Ideal) x0 x1 (ix3 h q 0) := by
  rw [val_main_v21_apply, idx_21]

theorem ref_max_col : val_main_v20 (F := Ideal) x0 x1 (ix3 h q 0) = val_main_v10 (F := Ideal) x0 x1 (ix2 h q) := by
  rw [val_main_v20_apply, idx_20]

/-- The reference's exponential of the shifted score. -/
theorem ref_exp : val_main_v23 (F := Ideal) x0 x1 (ix3 h q k) = hexp x0 x1 (ix3 h q k) := by
  rw [hexp_apply, val_main_v23_apply, val_main_v22_apply, ref_max_spread, ref_max_col, ref_max, hs_eq]
  generalize val_main_v2 (F := Ideal) x0 x1 (ix3 h q k) = y
  generalize hmax x0 x1 (ix2 h q) = z
  rfl

theorem ref_sum : val_main_v24 (F := Ideal) x0 x1 (ix2 h q) = ∑ i : Fin 16384, hexp x0 x1 (ix3 h q i) := by
  rw [val_main_v24_apply, zero_8, zero_add]
  simp only [idx_24, ref_exp]

theorem ref_sum_col : val_main_v25 (F := Ideal) x0 x1 (ix3 h q 0) = val_main_v24 (F := Ideal) x0 x1 (ix2 h q) := by
  rw [val_main_v25_apply, idx_25]

theorem ref_sum_spread : val_main_v26 (F := Ideal) x0 x1 (ix3 h q k) = val_main_v25 (F := Ideal) x0 x1 (ix3 h q 0) := by
  rw [val_main_v26_apply, idx_26]

theorem ref_sum_spread' : val_main_v45 (F := Ideal) x0 x1 (ix3 h q k) = val_main_v25 (F := Ideal) x0 x1 (ix3 h q 0) := by
  rw [val_main_v45_apply, idx_45]

theorem ref_recip_spread : val_main_v39 (F := Ideal) x0 x1 (ix3 h q k) = val_main_v30 (F := Ideal) x0 x1 (ix3 h q 0) := by
  rw [val_main_v39_apply, idx_39]

/-- The reference's weight. -/
theorem ref_weight : val_main_v27 (F := Ideal) x0 x1 (ix3 h q k) = hp x0 x1 (ix3 h q k) := by
  rw [hp_apply, val_main_v27_apply, ref_sum_spread, ref_sum_col, ref_sum, ref_exp]
  generalize hexp x0 x1 (ix3 h q k) = y
  generalize ∑ i : Fin 16384, hexp x0 x1 (ix3 h q i) = z
  rfl

/-- The reciprocal of the row sum's square. -/
theorem ref_recip : val_main_v30 (F := Ideal) x0 x1 (ix3 h q 0)
    = Ideal.div 1 ((∑ i : Fin 16384, hexp x0 x1 (ix3 h q i)) * (∑ i : Fin 16384, hexp x0 x1 (ix3 h q i))) := by
  have e : val_main_v29 (F := Ideal) (ix3 h q 0) = 1 := by
    rw [val_main_v29_apply, val_main_cst_9_apply]
    exact Ideal.ofBits_one_f32
  rw [val_main_v30_apply, val_main_v28_apply, e, ref_sum_col, ref_sum]
  generalize ∑ i : Fin 16384, hexp x0 x1 (ix3 h q i) = z
  rfl

theorem ref_ct (d : Fin 64) : val_main_v35 (F := Ideal) x3 (ix3 h d q) = hdo x3 (ix3 q h d) := by
  rw [val_main_v35_apply, idx_35, hdo_eq]

/-- The gradient of the reference's weights. -/
theorem ref_dweight : val_main_v36 (F := Ideal) x2 x3 (ix3 h q k) = ∑ d : Fin 64, hdo x3 (ix3 q h d) * x2 (ix3 k h d) := by
  rw [val_main_v36_apply]
  simp only [lidx_36, ridx_36, ref_ct]

theorem ref_part : val_main_v41 (F := Ideal) x0 x1 x2 x3 (ix3 h q k)
    = (val_main_v36 (F := Ideal) x2 x3 (ix3 h q k) * val_main_v30 (F := Ideal) x0 x1 (ix3 h q 0)) * hexp x0 x1 (ix3 h q k) := by
  rw [val_main_v41_apply, val_main_v40_apply, ref_recip_spread, ref_exp]
  generalize val_main_v36 (F := Ideal) x2 x3 (ix3 h q k) = a
  generalize val_main_v30 (F := Ideal) x0 x1 (ix3 h q 0) = b
  generalize hexp x0 x1 (ix3 h q k) = e
  rfl

theorem ref_parts : val_main_v42 (F := Ideal) x0 x1 x2 x3 (ix2 h q)
    = ∑ i : Fin 16384, (val_main_v36 (F := Ideal) x2 x3 (ix3 h q i) * val_main_v30 (F := Ideal) x0 x1 (ix3 h q 0)) * hexp x0 x1 (ix3 h q i) := by
  rw [val_main_v42_apply, zero_10, zero_add]
  simp only [idx_42, ref_part]

theorem ref_parts_col : val_main_v43 (F := Ideal) x0 x1 x2 x3 (ix3 h q 0) = val_main_v42 (F := Ideal) x0 x1 x2 x3 (ix2 h q) := by
  rw [val_main_v43_apply, idx_43]

theorem ref_neg : val_main_v47 (F := Ideal) x0 x1 x2 x3 (ix2 h q) = -val_main_v42 (F := Ideal) x0 x1 x2 x3 (ix2 h q) := by
  rw [val_main_v47_apply, zero_11, zero_add, Fin.sum_univ_one, idx_47, val_main_v44_apply, ref_parts_col]
  generalize val_main_v42 (F := Ideal) x0 x1 x2 x3 (ix2 h q) = z
  rfl

theorem ref_neg_spread : val_main_v48 (F := Ideal) x0 x1 x2 x3 (ix3 h q k) = val_main_v47 (F := Ideal) x0 x1 x2 x3 (ix2 h q) := by
  rw [val_main_v48_apply, idx_48]

/-- The gradient of the reference's scores. -/
theorem ref_dscore : val_main_v50 (F := Ideal) x0 x1 x2 x3 (ix3 h q k)
    = (Ideal.div (val_main_v36 (F := Ideal) x2 x3 (ix3 h q k)) (∑ i : Fin 16384, hexp x0 x1 (ix3 h q i))
        + -(∑ i : Fin 16384, (val_main_v36 (F := Ideal) x2 x3 (ix3 h q i) * val_main_v30 (F := Ideal) x0 x1 (ix3 h q 0)) * hexp x0 x1 (ix3 h q i)))
      * hexp x0 x1 (ix3 h q k) := by
  rw [val_main_v50_apply, val_main_v49_apply, val_main_v46_apply, ref_neg_spread, ref_neg, ref_parts, ref_sum_spread', ref_sum_col, ref_sum, ref_exp]
  generalize ∑ i : Fin 16384, (val_main_v36 (F := Ideal) x2 x3 (ix3 h q i) * val_main_v30 (F := Ideal) x0 x1 (ix3 h q 0)) * hexp x0 x1 (ix3 h q i) = a
  generalize ∑ i : Fin 16384, hexp x0 x1 (ix3 h q i) = b
  generalize val_main_v36 (F := Ideal) x2 x3 (ix3 h q k) = g
  generalize hexp x0 x1 (ix3 h q k) = e
  rfl

/-! ## The three results before their padding -/

theorem ref_dq (d : Fin 96) : val_main_v54 (F := Ideal) x0 x1 x2 x3 (ix3 q h d) = ∑ j : Fin 16384, val_main_v50 (F := Ideal) x0 x1 x2 x3 (ix3 h q j) * x1 (ix3 j h d) := by
  rw [val_main_v54_apply, idx_54, val_main_v53_apply]
  simp only [lidx_53, ridx_53]

theorem ref_dk (d : Fin 96) : val_main_v52 (F := Ideal) x0 x1 x2 x3 (ix3 k h d) = ∑ s : Fin 16384, val_main_v50 (F := Ideal) x0 x1 x2 x3 (ix3 h s k) * hq x0 (ix3 s h d) := by
  rw [val_main_v52_apply, idx_52, val_main_v51_apply, hq_eq]
  simp only [lidx_51, ridx_51]

theorem ref_dv (d : Fin 64) : val_main_v38 (F := Ideal) x0 x1 x3 (ix3 k h d) = ∑ s : Fin 16384, hdo x3 (ix3 s h d) * hp x0 x1 (ix3 h s k) := by
  rw [val_main_v38_apply, idx_38, val_main_v37_apply]
  simp only [lidx_37, ridx_37, ref_ct, ref_weight]

theorem ref_dq_padded : val_main_v56 (F := Ideal) x0 x1 x2 x3 = padded96 (val_main_v54 (F := Ideal) x0 x1 x2 x3) := rfl

theorem ref_dk_padded : val_main_v59 (F := Ideal) x0 x1 x2 x3 = flipped (padded96 (val_main_v52 (F := Ideal) x0 x1 x2 x3)) := rfl

theorem ref_dv_padded : val_main_v62 (F := Ideal) x0 x1 x3 = flipped (padded64 (val_main_v38 (F := Ideal) x0 x1 x3)) := rfl

end Reads

end Cert.AttnBwd
end
-- ==== Proof.Arrays.lean ====
/-
  The three results of the launch, over the extended reals, as sums over the arrays the launch reads: dq over the keys,
  dk and dv over the queries.
-/
module

public import proofs.«01_k».proof.Proof.Blocks
public import Idealize.ShloMosaic.Lib.Pipeline.ValueKit

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx
open Idealize.ShloMosaic.Pipeline (Dat)
open Cert.KernelIdeal Cert.KernelIdeal.Gen

/-! ## The two fixed facts about running sums -/

/-- A sequence that restarts every 32 steps and adds `R` at each is the sum since the restart. -/
theorem restart_sum (A R : ℕ → EReal) (N : ℕ) (h : ∀ t < N, A t = (if t % 32 = 0 then 0 else A (t - 1)) + R t) :
    ∀ t < N, A t = ∑ i ∈ Finset.range (t % 32 + 1), R (32 * (t / 32) + i) := by
  intro t
  induction t with
  | zero =>
    intro ht
    rw [h 0 ht]
    simp
  | succ t ih =>
    intro ht
    rw [h _ ht]
    by_cases h0 : (t + 1) % 32 = 0
    · rw [if_pos h0, h0, zero_add, Finset.sum_range_one]
      congr 1
      omega
    · rw [if_neg h0, Nat.add_sub_cancel, ih (by omega), show (t + 1) % 32 + 1 = (t % 32 + 1) + 1 by omega, Finset.sum_range_succ _ (t % 32 + 1),
        show (t + 1) / 32 = t / 32 by omega]
      congr 2
      omega

/-- A value written only at step `32 g + 31` holds after all steps what that step wrote. -/
theorem written_once (B A : ℕ → EReal) (g : ℕ) (hg : g < 8) (h : ∀ t < 256, B (t + 1) = if t % 32 = 31 ∧ t / 32 = g then A t else B t) :
    B 256 = A (32 * g + 31) := by
  have key : ∀ n, 32 * g + 32 + n ≤ 256 → B (32 * g + 32 + n) = A (32 * g + 31) := by
    intro n
    induction n with
    | zero =>
      intro hn
      rw [show 32 * g + 32 + 0 = (32 * g + 31) + 1 by omega, h _ (by omega), if_pos ⟨by omega, by omega⟩]
    | succ n ih =>
      intro hn
      rw [show 32 * g + 32 + (n + 1) = (32 * g + 32 + n) + 1 by omega, h _ (by omega), if_neg (by omega)]
      exact ih (by omega)
  have := key (256 - (32 * g + 32)) (by omega)
  rwa [show 32 * g + 32 + (256 - (32 * g + 32)) = 256 by omega] at this

/-- The queries' sum by tiles. -/
theorem sum_tiles (f : Fin 16384 → EReal) :
    ∑ i ∈ Finset.range 32, (if h : i < 32 then ∑ r : Fin 512, f ⟨512 * i + r.val, by omega⟩ else 0) = ∑ j : Fin 16384, f j := by
  rw [← Fin.sum_univ_eq_sum_range (fun i => if h : i < 32 then ∑ r : Fin 512, f ⟨512 * i + r.val, by omega⟩ else 0) 32]
  have e : ∀ i : Fin 32, (if h : i.val < 32 then ∑ r : Fin 512, f ⟨512 * i.val + r.val, by omega⟩ else 0) = ∑ r : Fin 512, f ⟨512 * i.val + r.val, by omega⟩ := fun i => dif_pos i.isLt
  rw [Finset.sum_congr rfl fun i _ => e i, ← Finset.sum_product', Finset.univ_product_univ]
  refine Fintype.sum_equiv (finProdFinEquiv (m := 32) (n := 512)) _ _ fun p => congrArg f (Fin.ext ?_)
  show 512 * p.1.val + p.2.val = p.2.val + 512 * p.1.val
  omega

variable (m : (ℓ : Loc nD τ sig) → Buf (Elt Ideal) ℓ) (c : Dev nD) (h : Fin 8) (i : Fin 32)

/-! ## dq -/

/-- The first result. -/
def outDq : S16384x1024.Idx → EReal := fun y =>
  ∑ j : Fin 16384, gs m c ⟨(y 1).val / 128, by have h1 : (y 1).val < 1024 := (y 1).isLt; omega⟩ (y 0) j * ak m c (ix2 j (y 1))

/-- What the launch leaves in the block of point `t` is the block of `outDq`. -/
theorem left_dq (r : Fin 512) (d : Fin 128) : (at_ m c (pt h i) (state m c (pt h i).val)).1 (ix2 r d) = outDq m c (ix2 (trow i r) (lane h d)) := by
  unfold at_ outDq
  rw [point_dq]
  refine Finset.sum_congr rfl fun j _ => ?_
  rw [ds_pt, ins_k]
  have eh : (⟨((ix2 (trow i r) (lane h d) : S16384x1024.Idx) 1).val / 128, by have h1 : (lane h d).val < 1024 := (lane h d).isLt; show (lane h d).val / 128 < 8; omega⟩ : Fin 8) = h :=
    Fin.ext (by show (128 * h.val + d.val) / 128 = h.val; omega)
  rw [eh]

/-- The first result's array after the launch. -/
theorem arr_dq : (dats m 0 c).arrAt 8 cfg0.N = outDq m c := by
  refine (dats m 0 c).arrAt_eq_of_covers 8 _ (by decide +kernel) fun t _ y => ?_
  obtain ⟨h, i, rfl⟩ := pt_split t
  blk_simp
  rw [after_8]
  obtain ⟨r, d, rfl⟩ : ∃ (r : Fin 512) (d : Fin 128), y = ix2 r d := ⟨y 0, y 1, eq_ix2 y⟩
  refine (left_dq m c h i r d).trans (congrArg (outDq m c) (funext fun a => Fin.ext ?_))
  match a with
  | ⟨0, _⟩ => blk_simp; rw [(index_8 _).1, pt_mod]; show 512 * i.val + r.val = i.val * 512 + r.val; omega
  | ⟨1, _⟩ => blk_simp; rw [(index_8 _).2, pt_div]; show 128 * h.val + d.val = h.val * 128 + d.val; omega

/-! ## dk and dv -/

theorem off3_eq : ∀ t : Fin grid0.N, k0_off3 (grid0.coords t) = ![128 * (t.val / 32), 0] := by decide +kernel

/-- A head's rows put into a result, read at lane `d` of head `g`. -/
theorem putHead_apply (t : Fin cfg0.N) (f : Vec Ideal S1024x16384 .f32) (w : Vec Ideal S128x16384 .f32) (g : Fin 8) (d : Fin 128) (j : Fin 16384) :
    putHead (grid0.coords t) f w (ix2 (lane g d) j) = if t.val / 32 = g.val then w (ix2 d j) else f (ix2 (lane g d) j) := by
  unfold putHead
  rw [off3_eq t]
  unfold VecWindow.put
  by_cases hg : t.val / 32 = g.val
  · rw [if_pos hg]
    have hm : ∀ a : Fin 2, (![128 * (t.val / 32), 0] : Fin 2 → ℕ) a ≤ ((ix2 (lane g d) j : S1024x16384.Idx) a).val ∧ ((ix2 (lane g d) j : S1024x16384.Idx) a).val < (![128 * (t.val / 32), 0] : Fin 2 → ℕ) a + S128x16384.size a := fun a => by
      match a with
      | ⟨0, _⟩ => exact ⟨by show 128 * (t.val / 32) ≤ 128 * g.val + d.val; omega, by show 128 * g.val + d.val < 128 * (t.val / 32) + 128; omega⟩
      | ⟨1, _⟩ => exact ⟨Nat.zero_le _, by show j.val < 0 + 16384; omega⟩
    rw [dif_pos hm]
    refine congrArg w (funext fun a => Fin.ext ?_)
    match a with
    | ⟨0, _⟩ => show 128 * g.val + d.val - 128 * (t.val / 32) = d.val; omega
    | ⟨1, _⟩ => show j.val - 0 = j.val; omega
  · rw [if_neg hg]
    refine dif_neg fun hm => hg ?_
    have h1 : 128 * (t.val / 32) ≤ 128 * g.val + d.val ∧ 128 * g.val + d.val < 128 * (t.val / 32) + 128 := hm 0
    omega

variable (d : Fin 128) (j : Fin 16384)

theorem state_eq (t : ℕ) (ht : t < 256) : state m c (t + 1) = next m c ⟨t, by have : cfg0.N = 256 := N_0; omega⟩ (state m c t) :=
  state_succ m c ⟨t, by have : cfg0.N = 256 := N_0; omega⟩

/-- dk after the launch. -/
theorem final_dk : (state m c cfg0.N).fk (ix2 (lane h d) j) = ∑ s : Fin 16384, aqt m c (ix2 (lane h d) s) * gs m c h s j := by
  have hN : cfg0.N = 256 := N_0
  rw [hN]
  let A : ℕ → EReal := fun t => if ht : t < cfg0.N then (at_ m c ⟨t, ht⟩ (state m c t)).2.1 (ix2 d j) else 0
  let R : ℕ → EReal := fun t => if ht : t < cfg0.N then ∑ r : Fin 512, (ins m c ⟨t, ht⟩).qT (ix2 d r) * ds (ins m c ⟨t, ht⟩) r j else 0
  have hA : ∀ t < 256, A t = (if t % 32 = 0 then 0 else A (t - 1)) + R t := fun t ht => by
    have ht' : t < cfg0.N := by omega
    simp only [A, R]
    rw [dif_pos ht', dif_pos ht']
    unfold at_
    rw [point_dk]
    congr 1
    by_cases h0 : t % 32 = 0
    · rw [if_pos h0, if_pos h0]; exact start_dk _
    · rw [if_neg h0, if_neg h0, dif_pos (show t - 1 < cfg0.N by omega)]
      obtain ⟨t, rfl⟩ : ∃ n, t = n + 1 := ⟨t - 1, by omega⟩
      rw [state_eq m c t (by omega)]
      rfl
  have hB := written_once (fun t => (state m c t).fk (ix2 (lane h d) j)) A h.val h.isLt fun t ht => by
    rw [state_eq m c t ht]
    have ht' : t < cfg0.N := by omega
    simp only [A]
    rw [dif_pos ht']
    unfold next
    dsimp only
    by_cases h1 : t % 32 = 31
    · rw [if_pos h1, putHead_apply]
      by_cases h2 : t / 32 = h.val
      · rw [if_pos h2, if_pos ⟨h1, h2⟩]
      · rw [if_neg h2, if_neg (fun hh => h2 hh.2)]
    · rw [if_neg h1, if_neg (fun hh => h1 hh.1)]
  rw [hB, restart_sum A R 256 hA _ (by omega), ← sum_tiles, show (32 * h.val + 31) % 32 + 1 = 32 by omega, show (32 * h.val + 31) / 32 = h.val by omega]
  refine Finset.sum_congr rfl fun i hi => ?_
  have hi' : i < 32 := Finset.mem_range.mp hi
  simp only [R]
  rw [dif_pos (show 32 * h.val + i < cfg0.N by omega), dif_pos hi']
  refine Finset.sum_congr rfl fun r _ => ?_
  have e1 := ins_qT m c h ⟨i, hi'⟩ d r
  have e2 := ds_pt m c h ⟨i, hi'⟩ r j
  exact congrArg₂ (· * ·) e1 e2

/-- dv after the launch. -/
theorem final_dv : (state m c cfg0.N).fv (ix2 (lane h d) j) = ∑ s : Fin 16384, adot m c (ix2 (lane h d) s) * wt m c h s j := by
  have hN : cfg0.N = 256 := N_0
  rw [hN]
  let A : ℕ → EReal := fun t => if ht : t < cfg0.N then (at_ m c ⟨t, ht⟩ (state m c t)).2.2 (ix2 d j) else 0
  let R : ℕ → EReal := fun t => if ht : t < cfg0.N then ∑ r : Fin 512, (ins m c ⟨t, ht⟩).dOT (ix2 d r) * pr (ins m c ⟨t, ht⟩) r j else 0
  have hA : ∀ t < 256, A t = (if t % 32 = 0 then 0 else A (t - 1)) + R t := fun t ht => by
    have ht' : t < cfg0.N := by omega
    simp only [A, R]
    rw [dif_pos ht', dif_pos ht']
    unfold at_
    rw [point_dv]
    congr 1
    by_cases h0 : t % 32 = 0
    · rw [if_pos h0, if_pos h0]; exact start_dv _
    · rw [if_neg h0, if_neg h0, dif_pos (show t - 1 < cfg0.N by omega)]
      obtain ⟨t, rfl⟩ : ∃ n, t = n + 1 := ⟨t - 1, by omega⟩
      rw [state_eq m c t (by omega)]
      rfl
  have hB := written_once (fun t => (state m c t).fv (ix2 (lane h d) j)) A h.val h.isLt fun t ht => by
    rw [state_eq m c t ht]
    have ht' : t < cfg0.N := by omega
    simp only [A]
    rw [dif_pos ht']
    unfold next
    dsimp only
    by_cases h1 : t % 32 = 31
    · rw [if_pos h1, putHead_apply]
      by_cases h2 : t / 32 = h.val
      · rw [if_pos h2, if_pos ⟨h1, h2⟩]
      · rw [if_neg h2, if_neg (fun hh => h2 hh.2)]
    · rw [if_neg h1, if_neg (fun hh => h1 hh.1)]
  rw [hB, restart_sum A R 256 hA _ (by omega), ← sum_tiles, show (32 * h.val + 31) % 32 + 1 = 32 by omega, show (32 * h.val + 31) / 32 = h.val by omega]
  refine Finset.sum_congr rfl fun i hi => ?_
  have hi' : i < 32 := Finset.mem_range.mp hi
  simp only [R]
  rw [dif_pos (show 32 * h.val + i < cfg0.N by omega), dif_pos hi']
  refine Finset.sum_congr rfl fun r _ => ?_
  have e1 := ins_dOT m c h ⟨i, hi'⟩ d r
  have e2 := pr_pt m c h ⟨i, hi'⟩ r j
  exact congrArg₂ (· * ·) e1 e2

end Cert.AttnBwd
end
-- ==== Proof.Equation.lean ====
/-
  The equation: the launch's three results are the reference's.
-/
module

public import proofs.«01_k».proof.Proof.Attention
public import proofs.«01_k».proof.Proof.Reference
public import proofs.«01_k».proof.Proof.Arrays

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen Cert.ReferenceIdeal.Read

section Equation

/-- Every lane of the 1024 is a lane of a head. -/
theorem lane_split (l : Fin 1024) : ∃ h d, l = lane h d :=
  ⟨⟨l.val / 128, by omega⟩, ⟨l.val % 128, by omega⟩, Fin.ext (show l.val = 128 * (l.val / 128) + l.val % 128 by omega)⟩

section Real

variable {x0 x1 : S16384x8x96.Idx → EReal} {x2 : S16384x8x64.Idx → EReal} {x3 : S16384x512.Idx → EReal}
  {Q K : Fin 16384 → Fin 8 → Fin 96 → ℝ} {W C : Fin 16384 → Fin 8 → Fin 64 → ℝ} (H : Holds x0 x1 x2 x3 Q K W C) (h : Fin 8) (s j : Fin 16384)

include H

theorem ref_dweight_real : val_main_v36 (F := Ideal) x2 x3 (ix3 h s j) = (dweight W C h s j : EReal) := by
  rw [ref_dweight, dweight, coe_sum]
  exact Finset.sum_congr rfl fun d _ => by rw [H.g, H.v, ← EReal.coe_mul]

/-- The reference's score gradient is the softmax's. -/
theorem ref_dscore_real : val_main_v50 (F := Ideal) x0 x1 x2 x3 (ix3 h s j) = (scoreGrad (score Q K h s) (dweight W C h s) j : EReal) := by
  obtain ⟨r, hr⟩ := hmax_real H h s
  rw [ref_dscore, ref_recip, ← grad_of_div (score Q K h s) r (dweight W C h s) j]
  simp only [ref_dweight_real H, hexp_real H h s _ r hr]

end Real

variable (m : (ℓ : Loc nD τ sig) → Buf (Elt Ideal) ℓ) (c : Dev nD) {Q K : Fin 16384 → Fin 8 → Fin 96 → ℝ} {W C : Fin 16384 → Fin 8 → Fin 64 → ℝ}
  (H : Holds (a0 m c) (a1 m c) (a2 m c) (a3 m c) Q K W C)

include H

/-- The gradient of the queries. -/
theorem eq_dq : outDq m c = val_main_v56 (F := Ideal) (a0 m c) (a1 m c) (a2 m c) (a3 m c) := by
  funext y
  obtain ⟨s, l, rfl⟩ : ∃ s l, y = ix2 s l := ⟨y 0, y 1, eq_ix2 y⟩
  obtain ⟨h, d, rfl⟩ := lane_split l
  rw [ref_dq_padded, padded96_apply]
  have e : outDq m c (ix2 s (lane h d)) = ∑ j : Fin 16384, gs m c h s j * ak m c (ix2 j (lane h d)) := by
    have hh : (⟨(lane h d).val / 128, by have := (lane h d).isLt; omega⟩ : Fin 8) = h := Fin.ext (show (128 * h.val + d.val) / 128 = h.val by omega)
    show ∑ j : Fin 16384, gs m c ⟨(lane h d).val / 128, _⟩ s j * ak m c (ix2 j (lane h d)) = _
    rw [hh]
  rw [e, found_k]
  by_cases hd : d.val < 96
  · rw [dif_pos hd, ref_dq]
    exact Finset.sum_congr rfl fun j _ => by rw [gs_real m c H, ref_dscore_real H, padded96_apply, dif_pos hd]
  · rw [dif_neg hd]
    exact Finset.sum_eq_zero fun j _ => by rw [padded96_apply, dif_neg hd, mul_zero]

/-- The gradient of the keys. -/
theorem eq_dk : (state m c cfg0.N).fk = val_main_v59 (F := Ideal) (a0 m c) (a1 m c) (a2 m c) (a3 m c) := by
  funext y
  obtain ⟨l, j, rfl⟩ : ∃ l j, y = ix2 l j := ⟨y 0, y 1, eq_ix2 y⟩
  obtain ⟨h, d, rfl⟩ := lane_split l
  rw [ref_dk_padded, flipped_apply, padded96_apply, final_dk, found_qt]
  by_cases hd : d.val < 96
  · rw [dif_pos hd, ref_dk]
    exact Finset.sum_congr rfl fun s _ => by rw [gs_real m c H, ref_dscore_real H, flipped_apply, padded96_apply, dif_pos hd, mul_comm]
  · rw [dif_neg hd]
    exact Finset.sum_eq_zero fun s _ => by rw [flipped_apply, padded96_apply, dif_neg hd, zero_mul]

/-- The gradient of the values. -/
theorem eq_dv : (state m c cfg0.N).fv = val_main_v62 (F := Ideal) (a0 m c) (a1 m c) (a3 m c) := by
  funext y
  obtain ⟨l, j, rfl⟩ : ∃ l j, y = ix2 l j := ⟨y 0, y 1, eq_ix2 y⟩
  obtain ⟨h, d, rfl⟩ := lane_split l
  rw [ref_dv_padded, flipped_apply, padded64_apply, final_dv, found_dot]
  by_cases hd : d.val < 64
  · rw [dif_pos hd, ref_dv]
    exact Finset.sum_congr rfl fun s _ => by rw [wt_real m c H, hp_real H, flipped_apply, padded64_apply, dif_pos hd]
  · rw [dif_neg hd]
    exact Finset.sum_eq_zero fun s _ => by rw [flipped_apply, padded64_apply, dif_neg hd, zero_mul]

end Equation

end Cert.AttnBwd
end
-- ==== Proof.Finite.lean ====
/-
  The precondition read: every element of the four arguments is a real.
-/
module

public import proofs.«01_k».proof.Proof.Attention
public import proofs.«01_k».proof.Pre_all_finite
public import Idealize.ShloMosaic.Lib.ReduceAll

@[expose] public section

set_option maxRecDepth 16384

noncomputable section

namespace Cert.AttnBwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen

/-- The side conditions the precondition's operations state. -/
instance preFacts : Cert.Pre_all_finite.Facts where
  bcast_S_S16384x8x96 := bcast_S_S16384x8x96
  reducesTo_S16384x8x96_S_d0_1_2 := by decide
  h_S_ := h_S_
  bcast_S_S16384x8x64 := by decide
  reducesTo_S16384x8x64_S_d0_1_2 := by decide
  bcast_S_S16384x512 := by decide
  reducesTo_S16384x512_S_d0_1 := by decide

instance : Subsingleton S_.Idx := ⟨fun _ _ => funext fun a => a.elim0⟩

theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- An array every element of which compares below infinity in magnitude holds reals. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : ∃ r : ℝ, x i = r := by
  have h := Host.reduce_andi_all _ _ hr hu j e i
  refine real_of_olt (x i) ?_
  rw [← h]
  show _ = Ideal.cmp .olt (max (x i) (-(x i))) (broadcastInDim s ![] hb (constant (F := Ideal) S_ .f32 0x7F800000#32) i)
  rw [broadcastInDim_scalar_apply]
  rfl

theorem finite_args (x0 x1 : S16384x8x96.Idx → EReal) (x2 : S16384x8x64.Idx → EReal) (x3 : S16384x512.Idx → EReal)
    (h : Cert.Pre_all_finite.fn (F := Ideal) x0 x1 x2 x3 = fun _ => 1#1) :
    (∀ i, ∃ r : ℝ, x0 i = r) ∧ (∀ i, ∃ r : ℝ, x1 i = r) ∧ (∀ i, ∃ r : ℝ, x2 i = r) ∧ ∀ i, ∃ r : ℝ, x3 i = r := by
  have j : S_.Idx := fun a => a.elim0
  have e := congrFun h j
  obtain ⟨e, e3⟩ := IntOp.andi_eq_one.mp e
  obtain ⟨e, e2⟩ := IntOp.andi_eq_one.mp e
  obtain ⟨e0, e1⟩ := IntOp.andi_eq_one.mp e
  exact ⟨real_of_all x0 _ _ _ j e0, real_of_all x1 _ _ _ j e1, real_of_all x2 _ _ _ j e2, real_of_all x3 _ _ _ j e3⟩

/-- Arguments that satisfy the precondition hold reals. -/
theorem holds_of_finite (x0 x1 : S16384x8x96.Idx → EReal) (x2 : S16384x8x64.Idx → EReal) (x3 : S16384x512.Idx → EReal)
    (h : Cert.Pre_all_finite.fn (F := Ideal) x0 x1 x2 x3 = fun _ => 1#1) : ∃ Q K W C, Holds x0 x1 x2 x3 Q K W C := by
  obtain ⟨f0, f1, f2, f3⟩ := finite_args x0 x1 x2 x3 h
  choose r0 h0 using f0
  choose r1 h1 using f1
  choose r2 h2 using f2
  choose r3 h3 using f3
  exact ⟨fun s h d => r0 (ix3 s h d), fun s h d => r1 (ix3 s h d), fun s h d => r2 (ix3 s h d), fun s h d => r3 (ix2 s ⟨64 * h.val + d.val, by omega⟩),
    fun _ _ _ => h0 _, fun _ _ _ => h1 _, fun _ _ _ => h2 _, fun _ _ _ => by rw [hdo_apply]; exact h3 _⟩

end Cert.AttnBwd
end
-- ==== Proof.Same.lean ====
/-
  The module as written and its idealization are one program: no rewrite was applied, so the bodies and the host
  programs of the two agree word for word. A run of the one is then a run of the other.
-/
module

public import proofs.«01_k».proof.Defs
public import proofs.«01_k».proof.Proof.Gen.Kernel
public import proofs.«01_k».proof.Proof.Gen.KernelIdeal

@[expose] public section

set_option maxRecDepth 16384

noncomputable section

namespace Cert.AttnBwd

open Idealize.ShloMosaic Idealize.SL.Sem

variable {F : FTy → Type} [FloatOps F]

/-- The launch's body, at its one label. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l with
  | ⟨0, _⟩ => rfl

/-- The bodies with the launch's schedule around them. -/
theorem defs_eq : Cert.Kernel.defs (F := F) = Cert.KernelIdeal.defs (F := F) :=
  congrArg (Pipeline.defs Cert.Kernel.pcfgs) defs₀_eq

set_option maxHeartbeats 8000000 in
/-- The host programs. -/
theorem main_eq : Cert.Kernel.main (F := F) = Cert.KernelIdeal.main (F := F) := rfl

end Cert.AttnBwd

end
-- ==== Proof.FwdTrip.lean ====
/-
  One grid point of the attention's kernel as plain functions of vectors, over any float values: what a trip of each of
  its two loops over the column chunks does to the scratch arrays, what the two trips do, and that the memrefs a loop
  leaves read exactly that.
-/
module

public import proofs.«01_k».proof.Proof.Gen.Kernel2Ideal.Loops
public import Idealize.ShloMosaic.Lib.VecWindow

@[expose] public section

set_option maxRecDepth 16384

noncomputable section

namespace Cert.AttnFwd

open Idealize.ShloMosaic Idealize.ShloMosaic.TcCoe Idealize.SL.Sem
open Cert.Kernel2Ideal Cert.Kernel2Ideal.Gen

variable {F : FTy → Type} [FloatOps F]

/-- What a point reads: the tile's columns of q, the head's k and v (transposed), and the row of bounds. -/
structure Ins (F : FTy → Type) where
  qT : Vec F S128x1024 .bf16
  k : Vec F S16384x128 .bf16
  vT : Vec F S128x16384 .bf16
  b : Vec F S1x128 .f32

/-- The sum and the accumulator the first loop carries. -/
abbrev Sums (F : FTy → Type) := Vec F S1x1024 .f32 × Vec F S128x1024 .f32

/-- The maximum, the sum and the accumulator the second loop carries. -/
abbrev Online (F : FTy → Type) := Vec F S1x1024 .f32 × Vec F S1x1024 .f32 × Vec F S128x1024 .f32

/-- The bound on the scores: the first entry of its row. -/
def bnd (b : Vec F S1x128 .f32) : Vec F S1x1 .f32 :=
  VecWindow.window (s := S1x128) b ![0, 0] S1x1.size inb_S1x128_S1x1_0_0

/-- Chunk `c`'s 8192 rows of k. -/
def chunkRows (x : Vec F S16384x128 .bf16) (c : Fin 2) : Vec F S8192x128 .bf16 :=
  VecWindow.window (s := S16384x128) x ![8192 * c.val, 0] S8192x128.size (fun a => by have := c.isLt; fin_cases a <;> simp [S8192x128, S16384x128] <;> omega)

/-- Chunk `c`'s 8192 columns of v transposed. -/
def chunkCols (x : Vec F S128x16384 .bf16) (c : Fin 2) : Vec F S128x8192 .bf16 :=
  VecWindow.window (s := S128x16384) x ![0, 8192 * c.val] S128x8192.size (fun a => by have := c.isLt; fin_cases a <;> simp [S128x8192, S128x16384] <;> omega)

/-- One trip of the first loop: the exponentials below the bound, summed and applied to v. -/
def tripS (x : Ins F) (c : Fin 2) (s : Sums F) : Sums F :=
  (k0_pay14 x.qT (bnd x.b) (chunkRows x.k c) s.1, k0_pay15 x.qT (bnd x.b) (chunkRows x.k c) s.2 (chunkCols x.vT c))

/-- One trip of the second loop: the running maximum, and the sum and the accumulator rescaled to it. -/
def tripU (x : Ins F) (c : Fin 2) (s : Online F) : Online F :=
  (k0_pay18 (k0_pay3 (k0_pay8 x.qT) (chunkRows x.k c) s.1), k0_pay6 (k0_pay8 x.qT) (chunkRows x.k c) s.1 s.2.1,
   k0_pay7 (k0_pay8 x.qT) (chunkRows x.k c) s.1 s.2.2 (chunkCols x.vT c))

/-- What the first loop carries after `n` trips from `s`. -/
def tripsS (x : Ins F) (s : Sums F) : ℕ → Sums F
  | 0 => s
  | n + 1 => if h : n < 2 then tripS x ⟨n, h⟩ (tripsS x s n) else tripsS x s n

/-- What the second loop carries after `n` trips from `s`. -/
def tripsU (x : Ins F) (s : Online F) : ℕ → Online F
  | 0 => s
  | n + 1 => if h : n < 2 then tripU x ⟨n, h⟩ (tripsU x s n) else tripsU x s n

/-- What a point's first loop leaves: the sum and the accumulator from zero. -/
def endS (x : Ins F) : Sums F := tripsS x (k0_pay11, k0_pay12) 2

/-- What a point's second loop leaves: from the maximum at minus infinity, the sum and the accumulator at zero. -/
def endU (x : Ins F) : Online F := tripsU x (k0_pay17, k0_pay11, k0_pay12) 2

/-- Whether the bound admits the first loop. -/
def below (x : Ins F) : BitVec 1 := Scalar.cmpf .ole (k0_pay10 (bnd x.b)) (Scalar.ofBits .f32 0x41F00000#32)

/-- A point's tile of the output, and its tile of the log-sums. -/
def point (x : Ins F) : Vec F S1024x128 .f32 × Vec F S1x1024x1 .f32 :=
  if below x = 1#1 then (k0_pay19 (endS x).2 (endS x).1, k0_pay1 (k0_pay16 (bnd x.b)) (endS x).1)
  else (k0_pay19 (endU x).2.2 (endU x).2.1, k0_pay1 (endU x).1 (endU x).2.1)

theorem tripsS_succ (x : Ins F) (s : Sums F) (c : Fin 2) : tripsS x s (c.val + 1) = tripS x c (tripsS x s c.val) := dif_pos c.isLt
theorem tripsU_succ (x : Ins F) (s : Online F) (c : Fin 2) : tripsU x s (c.val + 1) = tripU x c (tripsU x s c.val) := dif_pos c.isLt

theorem loop1_trips : k0_t1_loop.trips = 2 := by decide
theorem loop2_trips : k0_t2_loop.trips = 2 := by decide

theorem off1_eq (k : Fin k0_t1_loop.trips) : k0_off1 k = ![8192 * k.val, 0] := by revert k; decide +kernel
theorem off2_eq (k : Fin k0_t1_loop.trips) : k0_off2 k = ![0, 8192 * k.val] := by revert k; decide +kernel
theorem off3_eq (k : Fin k0_t2_loop.trips) : k0_off3 k = ![8192 * k.val, 0] := by revert k; decide +kernel
theorem off4_eq (k : Fin k0_t2_loop.trips) : k0_off4 k = ![0, 8192 * k.val] := by revert k; decide +kernel

section Loops

variable (𝒱 : Variants) (c : Dev nD) (bd : Option 𝒱.V) (i : grid0.Coords)
  (arg2 : Memref sig .tc .vmem S128x1024 .bf16) (harg2 : arg2.IsWhole)
  (arg3 : Memref sig .tc .vmem S16384x128 .bf16) (harg3 : arg3.IsWhole)
  (arg4 : Memref sig .tc .vmem S128x16384 .bf16) (harg4 : arg4.IsWhole)
  (arg5 : Memref sig .tc .vmem S1x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S128x1024 .f32) (harg10 : arg10.IsWhole)
  (x : Ins F) (X3 : BufTy.Contents (Elt F) arg3.view.ty) (X4 : BufTy.Contents (Elt F) arg4.view.ty)

/-! ## The first loop -/

set_option maxHeartbeats 1000000 in
/-- One trip's stores, read back: the trip of the values found. -/
theorem trip1_read (h3 : arg3.view.read (Elt F) X3 = x.k) (h4 : arg4.view.read (Elt F) X4 = x.vT) (k : Fin k0_t1_loop.trips)
    (f9 : BufTy.Contents (Elt F) arg9.view.ty) (f10 : BufTy.Contents (Elt F) arg10.view.ty) :
    let L := tripL_k0_t1 (F := F) 𝒱 c bd i arg2 harg2 arg3 harg3 arg4 harg4 arg5 harg5 arg6 harg6 arg7 harg7 arg8 harg8 arg9 harg9 arg10 harg10 x.qT (bnd x.b) X3 X4 k f9 f10
    (arg9.view.read (Elt F) (arg9.view.writes (Elt F) f9 L.1), arg10.view.read (Elt F) (arg10.view.writes (Elt F) f10 L.2))
      = tripS x ⟨k.val, loop1_trips ▸ k.isLt⟩ (arg9.view.read (Elt F) f9, arg10.view.read (Elt F) f10) := by
  intro L
  subst L
  unfold tripL_k0_t1 trip_k0_t1
  dsimp only
  have e3 : arg3.view.readAt (Elt F) (Rect.unit (s := S16384x128) (k0_off1 k) S8192x128.size (k0_off1_inb k)).toLoadRect X3 = chunkRows x.k ⟨k.val, loop1_trips ▸ k.isLt⟩ := by
    rw [View.readAt_unit arg3.view X3 (k0_off1_inb k) (off1_eq k) (off1_eq k ▸ k0_off1_inb k), h3]; rfl
  have e4 : arg4.view.readAt (Elt F) (Rect.unit (s := S128x16384) (k0_off2 k) S128x8192.size (k0_off2_inb k)).toLoadRect X4 = chunkCols x.vT ⟨k.val, loop1_trips ▸ k.isLt⟩ := by
    rw [View.readAt_unit arg4.view X4 (k0_off2_inb k) (off2_eq k) (off2_eq k ▸ k0_off2_inb k), h4]; rfl
  have e9 : arg9.view.readAt (Elt F) (Rect.unit (s := S1x1024) ![0, 0] S1x1024.size inb_S1x1024_S1x1024_0_0).toLoadRect f9 = arg9.view.read (Elt F) f9 :=
    View.readAt_full arg9.view f9 inb_S1x1024_S1x1024_0_0
  have e10 : arg10.view.readAt (Elt F) (Rect.unit (s := S128x1024) ![0, 0] S128x1024.size inb_S128x1024_S128x1024_0_0).toLoadRect f10 = arg10.view.read (Elt F) f10 :=
    View.readAt_full arg10.view f10 inb_S128x1024_S128x1024_0_0
  unfold tripS
  refine Prod.ext ?_ ?_
  · dsimp only
    refine (View.read_writes_full arg9.view f9 inb_S1x1024_S1x1024_0_0 _ []).trans ?_
    exact congr (congrArg (k0_pay14 x.qT (bnd x.b)) e3) e9
  · dsimp only
    refine (View.read_writes_full arg10.view f10 inb_S128x1024_S128x1024_0_0 _ []).trans ?_
    exact congr (congr (congrArg (k0_pay15 x.qT (bnd x.b)) e3) e10) e4

set_option maxHeartbeats 1000000 in
/-- What the loop leaves after `n` trips, read back: the trips of the values it started from. -/
theorem loop1_read (h3 : arg3.view.read (Elt F) X3 = x.k) (h4 : arg4.view.read (Elt F) X4 = x.vT)
    (f9 : BufTy.Contents (Elt F) arg9.view.ty) (f10 : BufTy.Contents (Elt F) arg10.view.ty) (n : ℕ) (hn : n ≤ 2) :
    let L := pb_k0_t1 (F := F) 𝒱 c bd i arg2 harg2 arg3 harg3 arg4 harg4 arg5 harg5 arg6 harg6 arg7 harg7 arg8 harg8 arg9 harg9 arg10 harg10 x.qT (bnd x.b) X3 X4 f9 f10 n
    (arg9.view.read (Elt F) (arg9.view.writes (Elt F) f9 L.1), arg10.view.read (Elt F) (arg10.view.writes (Elt F) f10 L.2))
      = tripsS x (arg9.view.read (Elt F) f9, arg10.view.read (Elt F) f10) n := by
  induction n with
  | zero => rfl
  | succ n ih =>
    intro L
    subst L
    have ih := ih (by omega)
    dsimp only at ih
    have e := pb_k0_t1_succ (F := F) 𝒱 c bd i arg2 harg2 arg3 harg3 arg4 harg4 arg5 harg5 arg6 harg6 arg7 harg7 arg8 harg8 arg9 harg9 arg10 harg10 x.qT (bnd x.b) X3 X4 f9 f10 ⟨n, by rw [loop1_trips]; omega⟩
    rw [show pb_k0_t1 (F := F) 𝒱 c bd i arg2 harg2 arg3 harg3 arg4 harg4 arg5 harg5 arg6 harg6 arg7 harg7 arg8 harg8 arg9 harg9 arg10 harg10 x.qT (bnd x.b) X3 X4 f9 f10 (n + 1) = _ from e]
    rw [tripsS_succ x _ ⟨n, by omega⟩, ← ih]
    dsimp only
    rw [View.writes_append, View.writes_append]
    exact trip1_read 𝒱 c bd i arg2 harg2 arg3 harg3 arg4 harg4 arg5 harg5 arg6 harg6 arg7 harg7 arg8 harg8 arg9 harg9 arg10 harg10 x X3 X4 h3 h4 ⟨n, by rw [loop1_trips]; omega⟩ _ _

/-- What the whole loop leaves, read back, from zeros at its entry. -/
theorem loop1_end (h3 : arg3.view.read (Elt F) X3 = x.k) (h4 : arg4.view.read (Elt F) X4 = x.vT)
    {v0 : Vec F S128x1024 .bf16} {v2 : Vec F S1x1 .f32} (e0 : v0 = x.qT) (e2 : v2 = bnd x.b)
    {f9 : BufTy.Contents (Elt F) arg9.view.ty} {f10 : BufTy.Contents (Elt F) arg10.view.ty}
    (g9 : arg9.view.read (Elt F) f9 = k0_pay11) (g10 : arg10.view.read (Elt F) f10 = k0_pay12) {n : ℕ} (hn : n = 2) :
    let L := pb_k0_t1 (F := F) 𝒱 c bd i arg2 harg2 arg3 harg3 arg4 harg4 arg5 harg5 arg6 harg6 arg7 harg7 arg8 harg8 arg9 harg9 arg10 harg10 v0 v2 X3 X4 f9 f10 n
    arg9.view.read (Elt F) (arg9.view.writes (Elt F) f9 L.1) = (endS x).1 ∧ arg10.view.read (Elt F) (arg10.view.writes (Elt F) f10 L.2) = (endS x).2 := by
  subst e0 e2 hn
  have e := loop1_read 𝒱 c bd i arg2 harg2 arg3 harg3 arg4 harg4 arg5 harg5 arg6 harg6 arg7 harg7 arg8 harg8 arg9 harg9 arg10 harg10 x X3 X4 h3 h4 f9 f10 2 le_rfl
  rw [g9, g10] at e
  exact ⟨congrArg (fun s => s.1) e, congrArg (fun s => s.2) e⟩

/-! ## The second loop -/

set_option maxHeartbeats 1000000 in
/-- One trip's stores, read back: the trip of the values found. -/
theorem trip2_read (h3 : arg3.view.read (Elt F) X3 = x.k) (h4 : arg4.view.read (Elt F) X4 = x.vT) (k : Fin k0_t2_loop.trips)
    (f8 : BufTy.Contents (Elt F) arg8.view.ty) (f9 : BufTy.Contents (Elt F) arg9.view.ty) (f10 : BufTy.Contents (Elt F) arg10.view.ty) :
    let L := tripL_k0_t2 (F := F) 𝒱 c bd i arg2 harg2 arg3 harg3 arg4 harg4 arg5 harg5 arg6 harg6 arg7 harg7 arg8 harg8 arg9 harg9 arg10 harg10 x.qT X3 X4 k f8 f9 f10
    (arg8.view.read (Elt F) (arg8.view.writes (Elt F) f8 L.1), arg9.view.read (Elt F) (arg9.view.writes (Elt F) f9 L.2.1), arg10.view.read (Elt F) (arg10.view.writes (Elt F) f10 L.2.2))
      = tripU x ⟨k.val, loop2_trips ▸ k.isLt⟩ (arg8.view.read (Elt F) f8, arg9.view.read (Elt F) f9, arg10.view.read (Elt F) f10) := by
  intro L
  subst L
  unfold tripL_k0_t2 trip_k0_t2
  dsimp only
  have e3 : arg3.view.readAt (Elt F) (Rect.unit (s := S16384x128) (k0_off3 k) S8192x128.size (k0_off3_inb k)).toLoadRect X3 = chunkRows x.k ⟨k.val, loop2_trips ▸ k.isLt⟩ := by
    rw [View.readAt_unit arg3.view X3 (k0_off3_inb k) (off3_eq k) (off3_eq k ▸ k0_off3_inb k), h3]; rfl
  have e4 : arg4.view.readAt (Elt F) (Rect.unit (s := S128x16384) (k0_off4 k) S128x8192.size (k0_off4_inb k)).toLoadRect X4 = chunkCols x.vT ⟨k.val, loop2_trips ▸ k.isLt⟩ := by
    rw [View.readAt_unit arg4.view X4 (k0_off4_inb k) (off4_eq k) (off4_eq k ▸ k0_off4_inb k), h4]; rfl
  have e8 : arg8.view.readAt (Elt F) (Rect.unit (s := S1x1024) ![0, 0] S1x1024.size inb_S1x1024_S1x1024_0_0).toLoadRect f8 = arg8.view.read (Elt F) f8 :=
    View.readAt_full arg8.view f8 inb_S1x1024_S1x1024_0_0
  have e9 : arg9.view.readAt (Elt F) (Rect.unit (s := S1x1024) ![0, 0] S1x1024.size inb_S1x1024_S1x1024_0_0).toLoadRect f9 = arg9.view.read (Elt F) f9 :=
    View.readAt_full arg9.view f9 inb_S1x1024_S1x1024_0_0
  have e10 : arg10.view.readAt (Elt F) (Rect.unit (s := S128x1024) ![0, 0] S128x1024.size inb_S128x1024_S128x1024_0_0).toLoadRect f10 = arg10.view.read (Elt F) f10 :=
    View.readAt_full arg10.view f10 inb_S128x1024_S128x1024_0_0
  unfold tripU
  refine Prod.ext ?_ (Prod.ext ?_ ?_)
  · dsimp only
    refine (View.read_writes_full arg8.view f8 inb_S1x1024_S1x1024_0_0 _ []).trans ?_
    exact congrArg k0_pay18 (congr (congrArg (k0_pay3 (k0_pay8 x.qT)) e3) e8)
  · dsimp only
    refine (View.read_writes_full arg9.view f9 inb_S1x1024_S1x1024_0_0 _ []).trans ?_
    exact congr (congr (congrArg (k0_pay6 (k0_pay8 x.qT)) e3) e8) e9
  · dsimp only
    refine (View.read_writes_full arg10.view f10 inb_S128x1024_S128x1024_0_0 _ []).trans ?_
    exact congr (congr (congr (congrArg (k0_pay7 (k0_pay8 x.qT)) e3) e8) e10) e4

set_option maxHeartbeats 1000000 in
/-- What the loop leaves after `n` trips, read back: the trips of the values it started from. -/
theorem loop2_read (h3 : arg3.view.read (Elt F) X3 = x.k) (h4 : arg4.view.read (Elt F) X4 = x.vT)
    (f8 : BufTy.Contents (Elt F) arg8.view.ty) (f9 : BufTy.Contents (Elt F) arg9.view.ty) (f10 : BufTy.Contents (Elt F) arg10.view.ty) (n : ℕ) (hn : n ≤ 2) :
    let L := pb_k0_t2 (F := F) 𝒱 c bd i arg2 harg2 arg3 harg3 arg4 harg4 arg5 harg5 arg6 harg6 arg7 harg7 arg8 harg8 arg9 harg9 arg10 harg10 x.qT X3 X4 f8 f9 f10 n
    (arg8.view.read (Elt F) (arg8.view.writes (Elt F) f8 L.1), arg9.view.read (Elt F) (arg9.view.writes (Elt F) f9 L.2.1), arg10.view.read (Elt F) (arg10.view.writes (Elt F) f10 L.2.2))
      = tripsU x (arg8.view.read (Elt F) f8, arg9.view.read (Elt F) f9, arg10.view.read (Elt F) f10) n := by
  induction n with
  | zero => rfl
  | succ n ih =>
    intro L
    subst L
    have ih := ih (by omega)
    dsimp only at ih
    have e := pb_k0_t2_succ (F := F) 𝒱 c bd i arg2 harg2 arg3 harg3 arg4 harg4 arg5 harg5 arg6 harg6 arg7 harg7 arg8 harg8 arg9 harg9 arg10 harg10 x.qT X3 X4 f8 f9 f10 ⟨n, by rw [loop2_trips]; omega⟩
    rw [show pb_k0_t2 (F := F) 𝒱 c bd i arg2 harg2 arg3 harg3 arg4 harg4 arg5 harg5 arg6 harg6 arg7 harg7 arg8 harg8 arg9 harg9 arg10 harg10 x.qT X3 X4 f8 f9 f10 (n + 1) = _ from e]
    rw [tripsU_succ x _ ⟨n, by omega⟩, ← ih]
    dsimp only
    rw [View.writes_append, View.writes_append, View.writes_append]
    exact trip2_read 𝒱 c bd i arg2 harg2 arg3 harg3 arg4 harg4 arg5 harg5 arg6 harg6 arg7 harg7 arg8 harg8 arg9 harg9 arg10 harg10 x X3 X4 h3 h4 ⟨n, by rw [loop2_trips]; omega⟩ _ _ _

/-- What the whole loop leaves, read back, from minus infinity and zeros at its entry. -/
theorem loop2_end (h3 : arg3.view.read (Elt F) X3 = x.k) (h4 : arg4.view.read (Elt F) X4 = x.vT)
    {v0 : Vec F S128x1024 .bf16} (e0 : v0 = x.qT)
    {f8 : BufTy.Contents (Elt F) arg8.view.ty} {f9 : BufTy.Contents (Elt F) arg9.view.ty} {f10 : BufTy.Contents (Elt F) arg10.view.ty}
    (g8 : arg8.view.read (Elt F) f8 = k0_pay17) (g9 : arg9.view.read (Elt F) f9 = k0_pay11) (g10 : arg10.view.read (Elt F) f10 = k0_pay12) {n : ℕ} (hn : n = 2) :
    let L := pb_k0_t2 (F := F) 𝒱 c bd i arg2 harg2 arg3 harg3 arg4 harg4 arg5 harg5 arg6 harg6 arg7 harg7 arg8 harg8 arg9 harg9 arg10 harg10 v0 X3 X4 f8 f9 f10 n
    arg8.view.read (Elt F) (arg8.view.writes (Elt F) f8 L.1) = (endU x).1 ∧ arg9.view.read (Elt F) (arg9.view.writes (Elt F) f9 L.2.1) = (endU x).2.1
      ∧ arg10.view.read (Elt F) (arg10.view.writes (Elt F) f10 L.2.2) = (endU x).2.2 := by
  subst e0 hn
  have e := loop2_read 𝒱 c bd i arg2 harg2 arg3 harg3 arg4 harg4 arg5 harg5 arg6 harg6 arg7 harg7 arg8 harg8 arg9 harg9 arg10 harg10 x X3 X4 h3 h4 f8 f9 f10 2 le_rfl
  rw [g8, g9, g10] at e
  exact ⟨congrArg (fun s => s.1) e, congrArg (fun s => s.2.1) e, congrArg (fun s => s.2.2) e⟩

end Loops

end Cert.AttnFwd
end
-- ==== Proof.FwdRun.lean ====
/-
  One grid point of the attention: the body run through, with the first loop where the bound admits it and with the
  second where it does not.
-/
module

public import proofs.«01_k».proof.Proof.FwdTrip
public import proofs.«01_k».proof.Proof.Gen.Kernel2Ideal.Frame

@[expose] public section

set_option maxRecDepth 16384

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

theorem point_below (x : Ins F) (hb : below x = 1#1) : point x = (k0_pay19 (endS x).2 (endS x).1, k0_pay1 (k0_pay16 (bnd x.b)) (endS x).1) := if_pos hb
theorem point_above (x : Ins F) (hb : below x = 0#1) : point x = (k0_pay19 (endU x).2.2 (endU x).2.1, k0_pay1 (endU x).1 (endU x).2.1) := if_neg (by rw [hb]; decide)

set_option maxHeartbeats 1000000 in
/-- The body where the bound admits the first loop: from anything in the scratch, it ends holding its inputs as they were and its two tiles at the values of `point`. -/
theorem run_below (c : Dev nD) (i : grid0.Coords)
  (arg2 : Memref sig .tc .vmem S128x1024 .bf16) (harg2 : arg2.IsWhole)
  (arg3 : Memref sig .tc .vmem S16384x128 .bf16) (harg3 : arg3.IsWhole)
  (arg4 : Memref sig .tc .vmem S128x16384 .bf16) (harg4 : arg4.IsWhole)
  (arg5 : Memref sig .tc .vmem S1x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S128x1024 .f32) (harg10 : arg10.IsWhole)
    (x : Ins F) (hb : below x = 1#1) (K : PUnit → sProp 𝕄) :
    iprop(owns (c : Thread nD τ) arg2 fullShare x.qT ∗ owns (c : Thread nD τ) arg3 fullShare x.k ∗ owns (c : Thread nD τ) arg4 fullShare x.vT ∗ owns (c : Thread nD τ) arg5 fullShare x.b
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x.qT ∗ owns (c : Thread nD τ) arg3 fullShare x.k ∗ owns (c : Thread nD τ) arg4 fullShare x.vT ∗ owns (c : Thread nD τ) arg5 fullShare x.b
            ∗ owns (c : Thread nD τ) arg6 fullShare (point x).1 ∗ owns (c : Thread nD τ) arg7 fullShare (point x).2 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_attn_fwd i arg2 harg2 arg3 harg3 arg4 harg4 arg5 harg5 arg6 harg6 arg7 harg7 arg8 harg8 arg9 harg9 arg10 harg10) K := by
  simp only [cc0_attn_fwd_eq_skeleton]; unfold cc0_attn_fwd_skel
  simp only [k0_part2_eq_skeleton]
  have e2 : arg5.view.readAt (Elt F) (Rect.unit (s := S1x128) ![0, 0] S1x1.size inb_S1x128_S1x1_0_0).toLoadRect (harg5.unread x.b) = bnd x.b := by
    rw [View.readAt_unit arg5.view (harg5.unread x.b) inb_S1x128_S1x1_0_0 rfl inb_S1x128_S1x1_0_0, harg5.read_unread]; rfl
  have hc : Scalar.cmpf .ole (k0_pay10 (bnd x.b)) (Scalar.ofBits .f32 0x41F00000#32) = 1#1 := hb
  have hc1 : Scalar.cmpi .ne (Scalar.extui (Scalar.cmpf .ole (k0_pay10 (bnd x.b)) (Scalar.ofBits .f32 0x41F00000#32))) 0#32 = 1#1 := by rw [hc]; decide
  have hc2 : ¬Scalar.cmpi .ne (Scalar.extui (Scalar.xori (Scalar.cmpf .ole (k0_pay10 (bnd x.b)) (Scalar.ofBits .f32 0x41F00000#32)) 1#1)) 0#32 = 1#1 := by rw [hc]; decide
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  sl_exec (disch := first | sl_exact hc1 | sl_exact hc2)
  sl_step
  have E := loop1_end Variants.none c none i arg2 harg2 arg3 harg3 arg4 harg4 arg5 harg5 arg6 harg6 arg7 harg7 arg8 harg8 arg9 harg9 arg10 harg10 x (harg3.unread x.k) (harg4.unread x.vT) (harg3.read_unread x.k) (harg4.read_unread x.vT)
    ((View.readAt_full arg2.view _ inb_S128x1024_S128x1024_0_0).trans (harg2.read_unread x.qT)) rfl (View.read_writes_full (Val := Elt F) arg9.view arg9.view.junk inb_S1x1024_S1x1024_0_0 (k0_pay11 (F := F)) []) (View.read_writes_full (Val := Elt F) arg10.view arg10.view.junk inb_S128x1024_S128x1024_0_0 (k0_pay12 (F := F)) []) (n := Scf.trips k0_t1_loop.lb k0_t1_loop.ub k0_t1_loop.st) loop1_trips
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [point_below x hb]
    refine (View.read_writes_full arg6.view _ inb_S1024x128_S1024x128_0_0 _ []).trans ?_
    exact congr (congrArg k0_pay19 ((View.readAt_full arg10.view _ inb_S128x1024_S128x1024_0_0).trans ((congrArg (arg10.view.read (Elt F)) (View.writes_append ..)).trans E.2))) ((View.readAt_full arg9.view _ inb_S1x1024_S1x1024_0_0).trans ((congrArg (arg9.view.read (Elt F)) (View.writes_append ..)).trans E.1))
  isplitl [H5]
  · iexists _; isplitr; swap; · iexact H5
    ipureintro
    rw [point_below x hb]
    refine (View.read_writes_full arg7.view _ inb_S1x1024x1_S1x1024x1_0_0_0 _ []).trans ?_
    exact congr (congrArg k0_pay1 ((View.readAt_full arg8.view _ inb_S1x1024_S1x1024_0_0).trans ((View.read_writes_full arg8.view _ inb_S1x1024_S1x1024_0_0 _ []).trans rfl))) ((View.readAt_full arg9.view _ inb_S1x1024_S1x1024_0_0).trans ((congrArg (arg9.view.read (Elt F)) (View.writes_append ..)).trans E.1))
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

set_option maxHeartbeats 1000000 in
/-- The body where it does not, likewise. -/
theorem run_above (c : Dev nD) (i : grid0.Coords)
  (arg2 : Memref sig .tc .vmem S128x1024 .bf16) (harg2 : arg2.IsWhole)
  (arg3 : Memref sig .tc .vmem S16384x128 .bf16) (harg3 : arg3.IsWhole)
  (arg4 : Memref sig .tc .vmem S128x16384 .bf16) (harg4 : arg4.IsWhole)
  (arg5 : Memref sig .tc .vmem S1x128 .f32) (harg5 : arg5.IsWhole)
  (arg6 : Memref sig .tc .vmem S1024x128 .f32) (harg6 : arg6.IsWhole)
  (arg7 : Memref sig .tc .vmem S1x1024x1 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S128x1024 .f32) (harg10 : arg10.IsWhole)
    (x : Ins F) (hb : below x = 0#1) (K : PUnit → sProp 𝕄) :
    iprop(owns (c : Thread nD τ) arg2 fullShare x.qT ∗ owns (c : Thread nD τ) arg3 fullShare x.k ∗ owns (c : Thread nD τ) arg4 fullShare x.vT ∗ owns (c : Thread nD τ) arg5 fullShare x.b
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x.qT ∗ owns (c : Thread nD τ) arg3 fullShare x.k ∗ owns (c : Thread nD τ) arg4 fullShare x.vT ∗ owns (c : Thread nD τ) arg5 fullShare x.b
            ∗ owns (c : Thread nD τ) arg6 fullShare (point x).1 ∗ owns (c : Thread nD τ) arg7 fullShare (point x).2 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_attn_fwd i arg2 harg2 arg3 harg3 arg4 harg4 arg5 harg5 arg6 harg6 arg7 harg7 arg8 harg8 arg9 harg9 arg10 harg10) K := by
  simp only [cc0_attn_fwd_eq_skeleton]; unfold cc0_attn_fwd_skel
  simp only [k0_part2_eq_skeleton]
  have e2 : arg5.view.readAt (Elt F) (Rect.unit (s := S1x128) ![0, 0] S1x1.size inb_S1x128_S1x1_0_0).toLoadRect (harg5.unread x.b) = bnd x.b := by
    rw [View.readAt_unit arg5.view (harg5.unread x.b) inb_S1x128_S1x1_0_0 rfl inb_S1x128_S1x1_0_0, harg5.read_unread]; rfl
  have hc : Scalar.cmpf .ole (k0_pay10 (bnd x.b)) (Scalar.ofBits .f32 0x41F00000#32) = 0#1 := hb
  have hc1 : ¬Scalar.cmpi .ne (Scalar.extui (Scalar.cmpf .ole (k0_pay10 (bnd x.b)) (Scalar.ofBits .f32 0x41F00000#32))) 0#32 = 1#1 := by rw [hc]; decide
  have hc2 : Scalar.cmpi .ne (Scalar.extui (Scalar.xori (Scalar.cmpf .ole (k0_pay10 (bnd x.b)) (Scalar.ofBits .f32 0x41F00000#32)) 1#1)) 0#32 = 1#1 := by rw [hc]; decide
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  sl_exec (disch := first | sl_exact hc1 | sl_exact hc2)
  sl_step
  have E := loop2_end Variants.none c none i arg2 harg2 arg3 harg3 arg4 harg4 arg5 harg5 arg6 harg6 arg7 harg7 arg8 harg8 arg9 harg9 arg10 harg10 x (harg3.unread x.k) (harg4.unread x.vT) (harg3.read_unread x.k) (harg4.read_unread x.vT)
    ((View.readAt_full arg2.view _ inb_S128x1024_S128x1024_0_0).trans (harg2.read_unread x.qT)) (View.read_writes_full (Val := Elt F) arg8.view arg8.view.junk inb_S1x1024_S1x1024_0_0 (k0_pay17 (F := F)) []) (View.read_writes_full (Val := Elt F) arg9.view arg9.view.junk inb_S1x1024_S1x1024_0_0 (k0_pay11 (F := F)) []) (View.read_writes_full (Val := Elt F) arg10.view arg10.view.junk inb_S128x1024_S128x1024_0_0 (k0_pay12 (F := F)) []) (n := Scf.trips k0_t2_loop.lb k0_t2_loop.ub k0_t2_loop.st) loop2_trips
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [point_above x hb]
    refine (View.read_writes_full arg6.view _ inb_S1024x128_S1024x128_0_0 _ []).trans ?_
    exact congr (congrArg k0_pay19 ((View.readAt_full arg10.view _ inb_S128x1024_S128x1024_0_0).trans ((congrArg (arg10.view.read (Elt F)) (View.writes_append ..)).trans E.2.2))) ((View.readAt_full arg9.view _ inb_S1x1024_S1x1024_0_0).trans ((congrArg (arg9.view.read (Elt F)) (View.writes_append ..)).trans E.2.1))
  isplitl [H5]
  · iexists _; isplitr; swap; · iexact H5
    ipureintro
    rw [point_above x hb]
    refine (View.read_writes_full arg7.view _ inb_S1x1024x1_S1x1024x1_0_0_0 _ []).trans ?_
    exact congr (congrArg k0_pay1 ((View.readAt_full arg8.view _ inb_S1x1024_S1x1024_0_0).trans ((congrArg (arg8.view.read (Elt F)) (View.writes_append ..)).trans E.1))) ((View.readAt_full arg9.view _ inb_S1x1024_S1x1024_0_0).trans ((congrArg (arg9.view.read (Elt F)) (View.writes_append ..)).trans E.2.1))
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.AttnFwd
end
-- ==== Proof.FwdMain.lean ====
/-
  The attention's launch: its proof data, the body's obligation at each grid point, and the run of @main with its two
  results named, over any values. Nothing is carried between points: each starts its scratch anew.
-/
module

public import proofs.«01_k».proof.Proof.FwdRun
public import Idealize.ShloMosaic.Lib.Pipeline.FrameValue
public import Idealize.ShloMosaic.Lib.Claim

@[expose] public section

set_option maxRecDepth 16384

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the four inputs at a grid point. -/
def ins (c : Dev nD) (t : Fin cfg0.N) : Ins F := ⟨iblk m c 0 t, iblk m c 1 t, iblk m c 2 t, iblk m c 3 t⟩

/-- The arrays as the launch finds them; each input's block; each point's two tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (point (ins m c t)).1
    | ⟨5, _⟩ => (point (ins m c t)).2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (point (ins m c t)).1 := by dsimp only [dats]
theorem after_5 (c : Dev nD) (t : Fin cfg0.N) : (dats m 0 c).after 5 t = (point (ins m c t)).2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-! ## The body at each point -/

abbrev ms_0 (t : Fin cfg0.N) : Memref sig .tc .vmem S128x1024 .bf16 := win0_0.stage (cfg0.slots t 0)
abbrev ms_1 (t : Fin cfg0.N) : Memref sig .tc .vmem S16384x128 .bf16 := win0_1.stage (cfg0.slots t 1)
abbrev ms_2 (t : Fin cfg0.N) : Memref sig .tc .vmem S128x16384 .bf16 := win0_2.stage (cfg0.slots t 2)
abbrev ms_3 (t : Fin cfg0.N) : Memref sig .tc .vmem S1x128 .f32 := win0_3.stage (cfg0.slots t 3)
abbrev ms_4 (t : Fin cfg0.N) : Memref sig .tc .vmem S1024x128 .f32 := win0_4.stage (cfg0.slots t 4)
abbrev ms_5 (t : Fin cfg0.N) : Memref sig .tc .vmem S1x1024x1 .f32 := win0_5.stage (cfg0.slots t 5)

/-- The three scratch arrays. -/
abbrev sc_0 : Memref sig .tc .vmem S1x1024 .f32 := Memref.whole cc0_scratch0
abbrev sc_1 : Memref sig .tc .vmem S1x1024 .f32 := Memref.whole cc0_scratch1
abbrev sc_2 : Memref sig .tc .vmem S128x1024 .f32 := Memref.whole cc0_scratch2

/-- The invariant between points: the scratch at anything. -/
theorem inv_eq (c : Dev nD) : (Pipeline.ΦA spec0 c : sProp 𝕄)
    = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA
  rw [scopedRest0_eq]; simp only [sc_0, sc_1, sc_2, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

/-- A bit is one or zero. -/
theorem bit_cases (b : BitVec 1) : b = 1#1 ∨ b = 0#1 := by revert b; decide

set_option maxHeartbeats 4000000 in
/-- The body at any point takes the invariant before it to the invariant after it. -/
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl,
    after_0, after_1, after_2, after_3, after_4, after_5, inv_eq]
  unfold Dat.owesAt Pipeline.owesWithin
  rw [show (dats m 0 c).owed t.castSucc = 0 from rfl, show (dats m 0 c).owed t.succ = 0 from rfl]
  iintro ⟨⟨⟨HS0, HS1, HS2⟩, Hg⟩, ⟨%W, -, HW⟩, ⟨%d0, H0⟩, ⟨%d1, H1⟩, ⟨%d2, H2⟩, ⟨%d3, H3⟩, ⟨%d4, H4⟩, ⟨%d5, H5⟩⟩
  rcases bit_cases (below (ins m c t)) with hb | hb
  all_goals
    first
      | iapply (run_below c (grid0.coords t) (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) sc_0 (Memref.isWhole_whole _) sc_1 (Memref.isWhole_whole _) sc_2 (Memref.isWhole_whole _) (ins m c t) hb _)
      | iapply (run_above c (grid0.coords t) (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) sc_0 (Memref.isWhole_whole _) sc_1 (Memref.isWhole_whole _) sc_2 (Memref.isWhole_whole _) (ins m c t) hb _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]; · iexact HS0
        isplitl [HS1]; · iexact HS1
        iexact HS2
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m 0 c) (defs₀ (F := F)) Variants.none () Set.univ := fun t => by
  rw [bigSep_W0, bigSep_W0]
  exact sound m c t

/-! ## The run and the frame -/

set_option backward.isDefEq.respectTransparency.types false in
/-- Every weakly fair execution of @main ends with every array at what the proof data say, and all semaphores at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the five arguments end as they were, the semaphores at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- What the two results hold after the run. -/
theorem run_results : θ_run defs (onTc (τ := τ) (main (F := F))) ⟨m, fun _ => 0, ρ⟩ (fun r => ∀ c : Dev nD,
      r.2.mem ((c.tc : Thread nD τ).loc main_v26_0) = (dats m 0 c).arrAt 4 cfg0.N
      ∧ r.2.mem ((c.tc : Thread nD τ).loc main_v26_1) = (dats m 0 c).arrAt 5 cfg0.N) :=
  (θ_run defs _ _).mono (fun r h c => ⟨(h.1 c).1 4, (h.1 c).1 5⟩) (run_main m ρ)

end Cert.AttnFwd
end
-- ==== Proof.FwdPoint.lean ====
/-
  What one grid point of the attention's kernel computes, over the extended reals: what a trip of each loop adds, and
  the tile of the output and of the log-sums, whichever branch is taken, as the softmax's average and log-sum.
-/
module

public import proofs.«01_k».proof.Proof.FwdTrip
public import proofs.«01_k».proof.Proof.Softmax
public import Idealize.ShloMosaic.Lib.MatmulPlain
public import Idealize.ShloMosaic.Lib.Pipeline.Value
public import Idealize.ShloMosaic.Lib.IdealHost

@[expose] public section

set_option maxRecDepth 16384

noncomputable section

namespace Cert.AttnFwd

open Idealize.ShloMosaic Idealize.ShloMosaic.TcCoe Idealize.ShloMosaic.ValueIdx
open Cert.Kernel2Ideal Cert.Kernel2Ideal.Gen

/-! ## Layout -/

/-- Key `j` of chunk `c`. -/
def jc (c : Fin 2) (j : Fin 8192) : Fin 16384 := ⟨8192 * c.val + j.val, by omega⟩

/-- The keys' sum by chunks. -/
theorem sum_chunks {α : Type} [AddCommMonoid α] (f : Fin 16384 → α) : (∑ j : Fin 8192, f (jc 0 j)) + ∑ j : Fin 8192, f (jc 1 j) = ∑ j : Fin 16384, f j := by
  rw [← Fin.sum_univ_two (fun c : Fin 2 => ∑ j : Fin 8192, f (jc c j)), ← Finset.sum_product', Finset.univ_product_univ]
  refine Fintype.sum_equiv (finProdFinEquiv (m := 2) (n := 8192)) _ _ fun p => congrArg f (Fin.ext ?_)
  show 8192 * p.1.val + p.2.val = p.2.val + 8192 * p.1.val
  omega

theorem chunkRows_apply (x : Vec Ideal S16384x128 .bf16) (c : Fin 2) (j : Fin 8192) (d : Fin 128) :
    chunkRows x c (ix2 j d) = x (ix2 (jc c j) d) := by
  refine congrArg x (funext fun a => Fin.ext ?_)
  match a with
  | ⟨0, _⟩ => show 8192 * c.val + 1 * j.val = 8192 * c.val + j.val; omega
  | ⟨1, _⟩ => show 0 + 1 * d.val = d.val; omega

theorem chunkCols_apply (x : Vec Ideal S128x16384 .bf16) (c : Fin 2) (d : Fin 128) (j : Fin 8192) :
    chunkCols x c (ix2 d j) = x (ix2 d (jc c j)) := by
  refine congrArg x (funext fun a => Fin.ext ?_)
  match a with
  | ⟨0, _⟩ => show 0 + 1 * d.val = d.val; omega
  | ⟨1, _⟩ => show 8192 * c.val + 1 * j.val = 8192 * c.val + j.val; omega

theorem bnd_apply (b : Vec Ideal S1x128 .f32) : bnd b (ix2 0 0) = b (ix2 0 0) :=
  congrArg b (funext fun a => Fin.ext (by match a with | ⟨0, _⟩ => rfl | ⟨1, _⟩ => rfl))

/-- A row over the tile's columns, put back as a row. -/
theorem asRow (v : FVec Ideal S1024 .f32) (r : Fin 1024) : shapeCast S1x1024 v shapeCasts_S1024_S1x1024 (ix2 0 r) = v (ix1 r) := by
  refine (shapeCast_addUnit_apply ![1024] v _ _).trans (congrArg v (funext fun a => ?_))
  match a with
  | ⟨0, _⟩ => rfl

/-- The sum down a tile's columns. -/
theorem colsum (y : FVec Ideal S8192x1024 .f32) (r : Fin 1024) :
    shapeCast S1x1024 (multiReduction .add [0] S1024 y 0x00000000#32 reduces_S8192x1024_S1024 (.inl rfl) rfl) shapeCasts_S1024_S1x1024 (ix2 0 r)
      = ∑ j : Fin 8192, y (ix2 j r) := by
  refine (asRow _ r).trans ((Ideal.multiReduction_add_single y _ _ _ _ _).trans ?_)
  refine Finset.sum_congr rfl fun j _ => congrArg y (funext fun a => Fin.ext ?_)
  match a with
  | ⟨0, _⟩ => rfl
  | ⟨1, _⟩ => rfl

/-- The maximum down a tile's columns, of reals, against a real or minus infinity: a real. -/
theorem colmax (y : FVec Ideal S8192x1024 .f32) (r : Fin 1024) (hy : ∀ j, ∃ t : ℝ, y (ix2 j r) = t) (a : EReal) (ha : a = ⊥ ∨ ∃ t : ℝ, a = t) :
    ∃ t : ℝ, max a (shapeCast S1x1024 (multiReduction .maximumf [0] S1024 y 0xFF800000#32 reduces_S8192x1024_S1024 (.inl rfl) rfl) shapeCasts_S1024_S1x1024 (ix2 0 r)) = t := by
  have e : shapeCast S1x1024 (multiReduction .maximumf [0] S1024 y 0xFF800000#32 reduces_S8192x1024_S1024 (.inl rfl) rfl) shapeCasts_S1024_S1x1024 (ix2 0 r)
      = Finset.univ.sup fun j : Fin 8192 => y (ix2 j r) := by
    refine (asRow _ r).trans ((Ideal.multiReduction_maximumf_single y _ _ _ _ _).trans ?_)
    have e1 : y ∘ Shape.Reduces.lift reduces_S8192x1024_S1024 (ix1 r) = fun j : Fin 8192 => y (ix2 j r) := by
      funext j
      refine congrArg y (funext fun a => Fin.ext ?_)
      match a with
      | ⟨0, _⟩ => rfl
      | ⟨1, _⟩ => rfl
    have hb : (FloatOps.ofBits (F := Ideal) .f32 0xFF800000#32 : EReal) = ⊥ := by
      show Ideal.ofBits .f32 0xFF800000#32 = ⊥
      simp [Ideal.ofBits, Ideal.ieee]
    exact congrArg₂ (fun (z : EReal) (f : Fin 8192 → EReal) => Finset.univ.fold max z f) hb e1
  obtain ⟨j, -, hj⟩ := Finset.exists_mem_eq_sup (Finset.univ : Finset (Fin 8192)) ⟨0, Finset.mem_univ _⟩ fun j => y (ix2 j r)
  obtain ⟨t, ht⟩ := hy j
  refine (congrArg (fun z => ∃ s : ℝ, max a z = s) (e.trans (hj.trans ht))).mpr ?_
  rcases ha with rfl | ⟨s, rfl⟩
  · exact ⟨t, max_eq_right bot_le⟩
  · rcases le_total (s : EReal) t with h | h
    · exact ⟨t, max_eq_right h⟩
    · exact ⟨s, max_eq_left h⟩

theorem spread_8192 (v : Vec Ideal S1x1024 .f32) (j : Fin 8192) (r : Fin 1024) : broadcastTo S8192x1024 v broadcasts_S1x1024_S8192x1024 (ix2 j r) = v (ix2 0 r) :=
  broadcastTo_apply _ _ (ix2 j r) (ix2 0 r) (fun a => by match a with | ⟨0, _⟩ => rfl | ⟨1, _⟩ => rfl)

theorem spread_128 (v : Vec Ideal S1x1024 .f32) (d : Fin 128) (r : Fin 1024) : broadcastTo S128x1024 v broadcasts_S1x1024_S128x1024 (ix2 d r) = v (ix2 0 r) :=
  broadcastTo_apply _ _ (ix2 d r) (ix2 0 r) (fun a => by match a with | ⟨0, _⟩ => rfl | ⟨1, _⟩ => rfl)

theorem spread_one (v : Vec Ideal S1x1 .f32) (j : Fin 8192) (r : Fin 1024) : broadcastTo S8192x1024 v broadcasts_S1x1_S8192x1024 (ix2 j r) = v (ix2 0 0) :=
  broadcastTo_apply _ _ (ix2 j r) (ix2 0 0) (fun a => by match a with | ⟨0, _⟩ => rfl | ⟨1, _⟩ => rfl)

theorem spread_one_row (v : Vec Ideal S1x1 .f32) (r : Fin 1024) : broadcastTo S1x1024 v broadcasts_S1x1_S1x1024 (ix2 0 r) = v (ix2 0 0) :=
  broadcastTo_apply _ _ (ix2 0 r) (ix2 0 0) (fun a => by match a with | ⟨0, _⟩ => rfl | ⟨1, _⟩ => rfl)

theorem exp_sub_at {s : Shape} (u v : FVec Ideal s .f32) (i : s.Idx) : exp (subf u v) i = Ideal.exp (u i - v i) := rfl
theorem max_at {s : Shape} (u v : FVec Ideal s .f32) (i : s.Idx) : maximumf u v i = max (u i) (v i) := rfl
theorem add_at {s : Shape} (u v : FVec Ideal s .f32) (i : s.Idx) : addf u v i = u i + v i := rfl
theorem mul_add_at {s : Shape} (u v w : FVec Ideal s .f32) (i : s.Idx) : addf (mulf u v) w i = u i * v i + w i := rfl
theorem div_at {s : Shape} (u v : FVec Ideal s .f32) (i : s.Idx) : divf u v i = Ideal.div (u i) (v i) := rfl
theorem add_log_at {s : Shape} (u v : FVec Ideal s .f32) (i : s.Idx) : addf u (log v) i = u i + Ideal.log (v i) := rfl

/-- The product of keys and queries, and of values and weights, from zero. -/
theorem kq_apply (k : FVec Ideal S8192x128 .bf16) (q : FVec Ideal S128x1024 .bf16) (j : Fin 8192) (r : Fin 1024) :
    matmul dot_S8192x128_S128x1024_S8192x1024_1_0_0_1_n_n none k q (constant S8192x1024 .f32 0x00000000#32) (ix2 j r) = ∑ d : Fin 128, k (ix2 j d) * q (ix2 d r) := by
  show FloatOps.matmul (F := Ideal) (DotDims.plain 8192 128 1024) none k q (constant S8192x1024 .f32 0x00000000#32) (ix2 j r) = _
  rw [Ideal.matmul_plain_apply, show (constant (F := Ideal) S8192x1024 .f32 0x00000000#32 (ix2 j r) : EReal) = 0 from Ideal.ofBits_zero_f32, zero_add]

theorem vw_apply (v : FVec Ideal S128x8192 .bf16) (w : FVec Ideal S8192x1024 .bf16) (d : Fin 128) (r : Fin 1024) :
    matmul dot_S128x8192_S8192x1024_S128x1024_1_0_0_1_n_n none v w (constant S128x1024 .f32 0x00000000#32) (ix2 d r) = ∑ j : Fin 8192, v (ix2 d j) * w (ix2 j r) := by
  show FloatOps.matmul (F := Ideal) (DotDims.plain 128 8192 1024) none v w (constant S128x1024 .f32 0x00000000#32) (ix2 d r) = _
  rw [Ideal.matmul_plain_apply, show (constant (F := Ideal) S128x1024 .f32 0x00000000#32 (ix2 d r) : EReal) = 0 from Ideal.ofBits_zero_f32, zero_add]

theorem trunc_at {s : Shape} (w : FVec Ideal s .f32) (i : s.Idx) : (truncf .bf16 w bitsLt_bf16_f32 i : EReal) = w i := rfl

/-! ## The payloads -/

variable (x : Ins Ideal) (c : Fin 2) (r : Fin 1024) (d : Fin 128)

/-- The tile's score of column `r` at key `j`. -/
def sc (r : Fin 1024) (j : Fin 16384) : EReal := ∑ d : Fin 128, x.k (ix2 j d) * x.qT (ix2 d r)

/-- The scores' bound. -/
def bd : EReal := x.b (ix2 0 0)

theorem pay2_apply (j : Fin 8192) : k0_pay2 (k0_pay8 x.qT) (chunkRows x.k c) (ix2 j r) = sc x r (jc c j) := by
  unfold k0_pay2 k0_pay8
  simp only [shapeCast_self]
  refine (kq_apply _ _ j r).trans ?_
  simp only [chunkRows_apply]
  rfl

theorem pay13_apply (j : Fin 8192) : k0_pay13 x.qT (bnd x.b) (chunkRows x.k c) (ix2 j r) = Ideal.exp (sc x r (jc c j) - bd x) := by
  unfold k0_pay13
  refine (exp_sub_at _ _ _).trans (congrArg₂ (fun a b => Ideal.exp (a - b)) (pay2_apply x c r j) ((spread_one _ j r).trans ?_))
  unfold k0_pay9
  rw [shapeCast_self, bnd_apply]
  rfl

/-- A trip of the first loop adds the chunk's exponentials to the sum. -/
theorem tripS_sum (s : Sums Ideal) : (tripS x c s).1 (ix2 0 r) = s.1 (ix2 0 r) + ∑ j : Fin 8192, Ideal.exp (sc x r (jc c j) - bd x) := by
  rw [Finset.sum_congr rfl fun j _ => (pay13_apply x c r j).symm]
  show k0_pay14 x.qT (bnd x.b) (chunkRows x.k c) s.1 (ix2 0 r) = _
  unfold k0_pay14
  simp only [shapeCast_self]
  exact (add_at _ _ _).trans (congrArg (s.1 (ix2 0 r) + ·) (colsum _ r))

/-- … and the values weighted by them to the accumulator. -/
theorem tripS_acc (s : Sums Ideal) : (tripS x c s).2 (ix2 d r) = s.2 (ix2 d r) + ∑ j : Fin 8192, x.vT (ix2 d (jc c j)) * Ideal.exp (sc x r (jc c j) - bd x) := by
  rw [Finset.sum_congr rfl fun j _ => congrArg₂ (· * ·) (chunkCols_apply x.vT c d j).symm (pay13_apply x c r j).symm]
  show k0_pay15 x.qT (bnd x.b) (chunkRows x.k c) s.2 (chunkCols x.vT c) (ix2 d r) = _
  unfold k0_pay15
  simp only [shapeCast_self]
  exact (add_at _ _ _).trans (congrArg (s.2 (ix2 d r) + ·) (vw_apply _ _ d r))

theorem tripU_eq (s : Online Ideal) : (tripU x c s).1 = k0_pay3 (k0_pay8 x.qT) (chunkRows x.k c) s.1 := by
  unfold tripU k0_pay18
  simp only [shapeCast_self]

theorem pay3_real (q : FVec Ideal S128x1024 .bf16) (k : Vec Ideal S8192x128 .bf16) (m : Vec Ideal S1x1024 .f32)
    (hs : ∀ j, ∃ t : ℝ, k0_pay2 q k (ix2 j r) = t) (h : m (ix2 0 r) = ⊥ ∨ ∃ t : ℝ, m (ix2 0 r) = t) : ∃ t : ℝ, k0_pay3 q k m (ix2 0 r) = t := by
  unfold k0_pay3
  generalize k0_pay2 q k = y at hs
  obtain ⟨t, ht⟩ := colmax y r hs _ h
  exact ⟨t, (max_at _ _ _).trans ht⟩

/-- A trip of the second loop takes the maximum to a real. -/
theorem tripU_max (s : Online Ideal) (hs : ∀ j, ∃ t : ℝ, sc x r j = t) (h : s.1 (ix2 0 r) = ⊥ ∨ ∃ t : ℝ, s.1 (ix2 0 r) = t) :
    ∃ t : ℝ, (tripU x c s).1 (ix2 0 r) = t := by
  rw [tripU_eq]
  exact pay3_real r _ _ _ (fun j => by rw [pay2_apply]; exact hs _) h

theorem pay4_at (q : FVec Ideal S128x1024 .bf16) (k : Vec Ideal S8192x128 .bf16) (m : Vec Ideal S1x1024 .f32) :
    k0_pay4 q k m (ix2 0 r) = Ideal.exp (m (ix2 0 r) - k0_pay3 q k m (ix2 0 r)) := by
  unfold k0_pay4
  exact exp_sub_at _ _ _

theorem pay5_at (q : FVec Ideal S128x1024 .bf16) (k : Vec Ideal S8192x128 .bf16) (m : Vec Ideal S1x1024 .f32) (j : Fin 8192) :
    k0_pay5 q k m (ix2 j r) = Ideal.exp (k0_pay2 q k (ix2 j r) - k0_pay3 q k m (ix2 0 r)) := by
  unfold k0_pay5
  exact (exp_sub_at _ _ _).trans (congrArg (fun b => Ideal.exp (k0_pay2 q k (ix2 j r) - b)) (spread_8192 _ j r))

theorem pay6_at (q : FVec Ideal S128x1024 .bf16) (k : Vec Ideal S8192x128 .bf16) (m l : Vec Ideal S1x1024 .f32) :
    k0_pay6 q k m l (ix2 0 r) = k0_pay4 q k m (ix2 0 r) * l (ix2 0 r) + ∑ j : Fin 8192, k0_pay5 q k m (ix2 j r) := by
  unfold k0_pay6
  simp only [shapeCast_self]
  exact (mul_add_at _ _ _ _).trans (congrArg (k0_pay4 q k m (ix2 0 r) * l (ix2 0 r) + ·) (colsum _ r))

theorem pay7_at (q : FVec Ideal S128x1024 .bf16) (k : Vec Ideal S8192x128 .bf16) (m : Vec Ideal S1x1024 .f32) (a : Vec Ideal S128x1024 .f32) (v : Vec Ideal S128x8192 .bf16) :
    k0_pay7 q k m a v (ix2 d r) = k0_pay4 q k m (ix2 0 r) * a (ix2 d r) + ∑ j : Fin 8192, v (ix2 d j) * k0_pay5 q k m (ix2 j r) := by
  unfold k0_pay7
  simp only [shapeCast_self]
  exact (mul_add_at _ _ _ _).trans (congrArg₂ (fun y z => y * a (ix2 d r) + z) (spread_128 _ d r) (vw_apply _ _ d r))

/-- … rescales the sum and adds the chunk's exponentials. -/
theorem tripU_sum (s : Online Ideal) : (tripU x c s).2.1 (ix2 0 r)
    = Ideal.exp (s.1 (ix2 0 r) - (tripU x c s).1 (ix2 0 r)) * s.2.1 (ix2 0 r) + ∑ j : Fin 8192, Ideal.exp (sc x r (jc c j) - (tripU x c s).1 (ix2 0 r)) := by
  rw [tripU_eq]
  refine (pay6_at r _ _ _ _).trans ?_
  simp only [pay4_at, pay5_at, pay2_apply]

/-- … and likewise the accumulator. -/
theorem tripU_acc (s : Online Ideal) : (tripU x c s).2.2 (ix2 d r)
    = Ideal.exp (s.1 (ix2 0 r) - (tripU x c s).1 (ix2 0 r)) * s.2.2 (ix2 d r)
      + ∑ j : Fin 8192, x.vT (ix2 d (jc c j)) * Ideal.exp (sc x r (jc c j) - (tripU x c s).1 (ix2 0 r)) := by
  rw [tripU_eq]
  refine (pay7_at r d _ _ _ _ _).trans ?_
  simp only [pay4_at, pay5_at, pay2_apply, chunkCols_apply]

theorem pay11_apply (i : S1x1024.Idx) : (k0_pay11 (F := Ideal) i : EReal) = 0 := by
  unfold k0_pay11
  rw [shapeCast_self]
  exact Ideal.ofBits_zero_f32

theorem pay12_apply (i : S128x1024.Idx) : (k0_pay12 (F := Ideal) i : EReal) = 0 := by
  unfold k0_pay12
  rw [shapeCast_self]
  exact Ideal.ofBits_zero_f32

theorem pay17_apply (i : S1x1024.Idx) : (k0_pay17 (F := Ideal) i : EReal) = ⊥ := by
  unfold k0_pay17
  rw [shapeCast_self]
  show Ideal.ofBits .f32 0xFF800000#32 = ⊥
  simp [Ideal.ofBits, Ideal.ieee]

theorem pay16_apply : k0_pay16 (bnd x.b) (ix2 0 r) = bd x := by
  unfold k0_pay16 k0_pay9
  simp only [shapeCast_self]
  rw [spread_one_row, bnd_apply]
  rfl

/-- The output's tile: the accumulator over the sum, turned. -/
theorem pay19_apply (a : Vec Ideal S128x1024 .f32) (l : Vec Ideal S1x1024 .f32) : k0_pay19 a l (ix2 r d) = Ideal.div (a (ix2 d r)) (l (ix2 0 r)) := by
  unfold k0_pay19
  refine (transpose_apply _ _ _ (ix2 r d) (ix2 d r) (fun a => by match a with | ⟨0, _⟩ => rfl | ⟨1, _⟩ => rfl)).trans ?_
  exact (div_at _ _ _).trans (congrArg (Ideal.div (a (ix2 d r))) (spread_128 l d r))

/-- The log-sums' tile: the shift and the sum's logarithm. -/
theorem pay1_apply (v l : Vec Ideal S1x1024 .f32) : k0_pay1 v l (ix3 0 r 0) = v (ix2 0 r) + Ideal.log (l (ix2 0 r)) := by
  unfold k0_pay1
  simp only [shapeCast_self]
  refine (shapeCast_addUnit_apply ![1024, 1] _ _ _).trans ?_
  refine (extractStridedSlice_apply _ _ _ _ (ix2 r 0) (fun a => by match a with | ⟨0, _⟩ => (show r.val = 0 + r.val; omega) | ⟨1, _⟩ => rfl)).trans ?_
  refine (transpose_apply _ _ _ (ix2 r 0) (ix2 0 r) (fun a => by match a with | ⟨0, _⟩ => rfl | ⟨1, _⟩ => rfl)).trans ?_
  exact (spread_128 _ 0 r).trans (add_log_at _ _ _)

end Cert.AttnFwd
end
-- ==== Proof.FwdBlocks.lean ====
/-
  The arrays the attention's launch reads and the blocks of them a grid point finds: which element of which array each is.
-/
module

public import proofs.«01_k».proof.Proof.FwdMain
public import proofs.«01_k».proof.Proof.FwdPoint
public import proofs.«01_k».proof.Proof.Gen.Kernel2Ideal.Points
public import Idealize.ShloMosaic.Lib.Pipeline.ValueKit

@[expose] public section

set_option maxRecDepth 16384

noncomputable section

namespace Cert.AttnFwd

open Idealize.ShloMosaic hiding ix0 ix1 ix2 ix3 ix4 ix5 eq_ix2 eq_ix3
open Idealize.ShloMosaic.TcCoe Idealize.ShloMosaic.ValueIdx
open Idealize.ShloMosaic.Pipeline (Dat)
open Cert.Kernel2Ideal Cert.Kernel2Ideal.Gen

variable (m : (ℓ : Loc nD τ sig) → Buf (Elt Ideal) ℓ)

/-- The four arrays the launch reads: q transposed, k, v transposed, and the row of bounds. -/
abbrev fqt (c : Dev nD) : S1024x16384.Idx → EReal := V m c main_v18
abbrev fk (c : Dev nD) : S16384x1024.Idx → EReal := V m c main_v21
abbrev fvt (c : Dev nD) : S1024x16384.Idx → EReal := V m c main_v25
abbrev fbd (c : Dev nD) : S1x128.Idx → EReal := V m c main_v16

/-- Head `h`'s lane `d`, and tile `i`'s row `r`, in the arrays. -/
abbrev lane (h : Fin 8) (d : Fin 128) : Fin 1024 := ⟨128 * h.val + d.val, by omega⟩
abbrev trow (i : Fin 16) (r : Fin 1024) : Fin 16384 := ⟨1024 * i.val + r.val, by omega⟩

/-- The point of head `h` and tile `i`. -/
def pt (h : Fin 8) (i : Fin 16) : Fin cfg0.N := ⟨16 * h.val + i.val, by have : cfg0.N = 128 := N_0; omega⟩

theorem pt_split (t : Fin cfg0.N) : ∃ h i, t = pt h i := by
  have hN : cfg0.N = 128 := N_0
  have ht := t.isLt
  exact ⟨⟨t.val / 16, by omega⟩, ⟨t.val % 16, by omega⟩, Fin.ext (by show t.val = 16 * (t.val / 16) + t.val % 16; omega)⟩

theorem index_0 : ∀ t : Fin grid0.N, win0_0.index t 0 = t.val / 16 ∧ win0_0.index t 1 = t.val % 16 := by decide +kernel
theorem index_1 : ∀ t : Fin grid0.N, win0_1.index t 0 = 0 ∧ win0_1.index t 1 = t.val / 16 := by decide +kernel
theorem index_2 : ∀ t : Fin grid0.N, win0_2.index t 0 = t.val / 16 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val % 16 ∧ win0_4.index t 1 = t.val / 16 := by decide +kernel
theorem index_5 : ∀ t : Fin grid0.N, win0_5.index t 0 = t.val / 16 ∧ win0_5.index t 1 = t.val % 16 ∧ win0_5.index t 2 = 0 := by decide +kernel

variable (c : Dev nD) (h : Fin 8) (i : Fin 16)

theorem pt_div : (pt h i).val / 16 = h.val := by show (16 * h.val + i.val) / 16 = h.val; omega
theorem pt_mod : (pt h i).val % 16 = i.val := by show (16 * h.val + i.val) % 16 = i.val; omega

/-! Each block, at the coordinates of its array. -/

theorem ins_qT (d : Fin 128) (r : Fin 1024) : (ins m c (pt h i)).qT (ix2 d r) = fqt m c (ix2 (lane h d) (trow i r)) := by
  show iblk m c 0 (pt h i) (ix2 d r) = _
  blk_simp [iblk]
  refine congrArg (V m c main_v18) (funext fun a => Fin.ext ?_)
  match a with
  | ⟨0, _⟩ => blk_simp; rw [(index_0 _).1, pt_div]; show h.val * 128 + d.val = 128 * h.val + d.val; omega
  | ⟨1, _⟩ => blk_simp; rw [(index_0 _).2, pt_mod]; show i.val * 1024 + r.val = 1024 * i.val + r.val; omega

theorem ins_k (j : Fin 16384) (d : Fin 128) : (ins m c (pt h i)).k (ix2 j d) = fk m c (ix2 j (lane h d)) := by
  show iblk m c 1 (pt h i) (ix2 j d) = _
  blk_simp [iblk]
  refine congrArg (V m c main_v21) (funext fun a => Fin.ext ?_)
  match a with
  | ⟨0, _⟩ => blk_simp; rw [(index_1 _).1]; show 0 * 16384 + j.val = j.val; omega
  | ⟨1, _⟩ => blk_simp; rw [(index_1 _).2, pt_div]; show h.val * 128 + d.val = 128 * h.val + d.val; omega

theorem ins_vT (d : Fin 128) (j : Fin 16384) : (ins m c (pt h i)).vT (ix2 d j) = fvt m c (ix2 (lane h d) j) := by
  show iblk m c 2 (pt h i) (ix2 d j) = _
  blk_simp [iblk]
  refine congrArg (V m c main_v25) (funext fun a => Fin.ext ?_)
  match a with
  | ⟨0, _⟩ => blk_simp; rw [(index_2 _).1, pt_div]; show h.val * 128 + d.val = 128 * h.val + d.val; omega
  | ⟨1, _⟩ => blk_simp; rw [(index_2 _).2]; show 0 * 16384 + j.val = j.val; omega

theorem ins_b : bd (ins m c (pt h i)) = fbd m c (ix2 0 0) := by
  show iblk m c 3 (pt h i) (ix2 0 0) = _
  blk_simp [iblk]
  refine congrArg (V m c main_v16) (funext fun a => Fin.ext ?_)
  match a with
  | ⟨0, _⟩ => blk_simp; rw [(index_3 _).1]
  | ⟨1, _⟩ => blk_simp; rw [(index_3 _).2]; show 0 * 128 + 0 = 0; rfl

/-- A point's scores, over the arrays. -/
theorem sc_pt (r : Fin 1024) (j : Fin 16384) :
    sc (ins m c (pt h i)) r j = ∑ d : Fin 128, fk m c (ix2 j (lane h d)) * fqt m c (ix2 (lane h d) (trow i r)) := by
  unfold sc
  simp only [ins_k, ins_qT]

/-! The two results' blocks. -/

/-- What a block of the output's array holds, given what each point leaves in it. -/
theorem arr_out (X : S16384x1024.Idx → EReal) (hX : ∀ h i r d, (point (ins m c (pt h i))).1 (ix2 r d) = X (ix2 (trow i r) (lane h d))) :
    (dats m 0 c).arrAt 4 cfg0.N = X := by
  refine (dats m 0 c).arrAt_eq_of_covers 4 _ (by decide +kernel) fun t _ y => ?_
  obtain ⟨h, i, rfl⟩ := pt_split t
  blk_simp
  rw [after_4]
  obtain ⟨r, d, rfl⟩ : ∃ (r : Fin 1024) (d : Fin 128), y = ix2 r d := ⟨y 0, y 1, eq_ix2 y⟩
  refine (hX h i r d).trans (congrArg X (funext fun a => Fin.ext ?_))
  match a with
  | ⟨0, _⟩ => blk_simp; rw [(index_4 _).1, pt_mod]; show 1024 * i.val + r.val = i.val * 1024 + r.val; omega
  | ⟨1, _⟩ => blk_simp; rw [(index_4 _).2, pt_div]; show 128 * h.val + d.val = h.val * 128 + d.val; omega

theorem emb_5 (r : Fin 1024) : ((cfg0.win 5).blk (pt h i)).view.emb (ix3 0 r 0 : S1x1024x1.Idx) = ix3 h (trow i r) 0 := by
  refine funext fun a => Fin.ext ?_
  match a with
  | ⟨0, _⟩ => blk_simp; rw [(index_5 _).1, pt_div]
  | ⟨1, _⟩ => blk_simp; rw [(index_5 _).2.1, pt_mod]; show i.val * 1024 + r.val = 1024 * i.val + r.val; omega
  | ⟨2, _⟩ => blk_simp; rw [(index_5 _).2.2]

theorem read_5 (X : S8x16384x1.Idx → EReal) (r : Fin 1024) :
    ((cfg0.win 5).blk (pt h i)).view.read (Elt Ideal) X (ix3 0 r 0 : S1x1024x1.Idx) = X (ix3 h (trow i r) 0) := congrArg X (emb_5 h i r)

theorem row_split (y : S1x1024x1.Idx) : ∃ r : Fin 1024, y = ix3 0 r 0 := by
  refine ⟨y 1, funext fun a => Fin.ext ?_⟩
  match a with
  | ⟨0, _⟩ => have h0 : (y 0).val < 1 := (y 0).isLt; show (y 0).val = 0; omega
  | ⟨1, _⟩ => rfl
  | ⟨2, _⟩ => have h2 : (y 2).val < 1 := (y 2).isLt; show (y 2).val = 0; omega

/-- … and the log-sums' array. -/
theorem arr_lse (X : S8x16384x1.Idx → EReal) (hX : ∀ h i r, (point (ins m c (pt h i))).2 (ix3 0 r 0) = X (ix3 h (trow i r) 0)) :
    (dats m 0 c).arrAt 5 cfg0.N = X := by
  refine (dats m 0 c).arrAt_eq_of_covers 5 _ (by decide +kernel) fun t _ y => ?_
  obtain ⟨h, i, rfl⟩ := pt_split t
  obtain ⟨r, rfl⟩ := row_split y
  refine Eq.trans ?_ (read_5 h i X r).symm
  refine Eq.trans ?_ (hX h i r)
  rw [after_5]
  generalize (point (ins m c (pt h i))).2 = Z
  blk_simp

end Cert.AttnFwd
end
-- ==== Proof.FwdHost.lean ====
/-
  What the host computes before the attention's launch: q scaled, its heads padded and turned, k padded, v padded and
  turned, and the row of bounds on the scores, which is real when the two gains are.
-/
module

public import proofs.«01_k».proof.Proof.FwdBlocks
public import proofs.«01_k».proof.Proof.HostReads
public import proofs.«01_k».proof.Proof.Attention

@[expose] public section

set_option maxRecDepth 16384

noncomputable section

namespace Cert.AttnFwd

open Idealize.ShloMosaic hiding ix0 ix1 ix2 ix3 ix4 ix5 eq_ix2 eq_ix3
open Idealize.ShloMosaic.TcCoe Idealize.ShloMosaic.ValueIdx Idealize.ShloMosaic.StableHlo
open Cert.Kernel2Ideal Cert.Kernel2Ideal.Gen
open Cert.AttnBwd (hq padded96 padded64 flipped foldl_max_real)

/-! ## The bound -/

section Bound

variable (x : S96.Idx → EReal)

/-- The largest magnitude of a gain. -/
def peak : FVec Ideal S_ .f32 := Host.reduce FloatOps.maximumf (Host.absf (F := Ideal) (φ := .f32) x) (constant S_ .f32 0xFF800000#32) reducesTo_S96_S_d0 h_S_

/-- The row of bounds from the two gains. -/
def bounds (y : S96.Idx → EReal) : FVec Ideal S1x128 .f32 :=
  broadcastInDim S1x128 ![0, 1] bcast_S1x1_S1x128_0_1 (broadcastInDim S1x1 ![1] bcast_S1_S1x1_1
    (addf (mulf (mulf (broadcastInDim S1 ![] bcast_S_S1 (peak x)) (broadcastInDim S1 ![] bcast_S_S1 (peak y))) (broadcastInDim S1 ![] bcast_S_S1 (constant S_ .f32 0x411E55C4#32)))
      (broadcastInDim S1 ![] bcast_S_S1 (constant S_ .f32 0x358637BD#32))))

theorem peak_real (hx : ∀ i, ∃ t : ℝ, x i = t) (j : S_.Idx) : ∃ t : ℝ, peak x j = t := by
  unfold peak
  rw [Host.reduce_eq_foldl]
  have hf : ∀ i, ∃ t : ℝ, Host.absf (F := Ideal) (φ := .f32) x i = t := fun i => by
    obtain ⟨t, ht⟩ := hx i
    refine ⟨max t (-t), ?_⟩
    show max (x i) (-(x i)) = _
    rw [ht, ← EReal.coe_neg]
    exact (EReal.coe_strictMono.monotone.map_max).symm
  generalize Host.absf (F := Ideal) (φ := .f32) x = y at hf
  refine foldl_max_real y hf _ _ (Or.inr ⟨by simp [constant, Ideal.ofBits, Ideal.ieee], fun e => ?_⟩)
  have hm : (ix1 (0 : Fin 96) : S96.Idx) ∈ ((List.finRange S96.numel).map S96.rowMajor.symm).filter fun i => reducesTo_S96_S_d0.drop i = j := by
    rw [List.mem_filter]
    refine ⟨List.mem_map.2 ⟨S96.rowMajor (ix1 0), List.mem_finRange _, Equiv.symm_apply_apply _ _⟩, decide_eq_true ?_⟩
    exact funext fun a => a.elim0
  rw [e] at hm
  exact absurd hm List.not_mem_nil

theorem word_real (w : BitVec 32) (h : w = 0x411E55C4#32 ∨ w = 0x358637BD#32) : ∃ t : ℝ, Ideal.ofBits .f32 w = t := by
  rcases h with rfl | rfl <;> refine ⟨_, (EReal.coe_toReal ?_ ?_).symm⟩ <;> simp [Ideal.ofBits, Ideal.ieee, -EReal.coe_mul]

theorem mul_mul_add_at (a b k e : FVec Ideal S1 .f32) (i : S1.Idx) : addf (mulf (mulf a b) k) e i = a i * b i * k i + e i := rfl

theorem scalar_at (a : FVec Ideal S_ .f32) (i : S1.Idx) : broadcastInDim S1 ![] bcast_S_S1 a i = a ix0 :=
  broadcastInDim_apply _ bcast_S_S1 a i ix0 (fun e => e.elim0)

theorem bounds_real (y : S96.Idx → EReal) (hx : ∀ i, ∃ t : ℝ, x i = t) (hy : ∀ i, ∃ t : ℝ, y i = t) : ∃ B : ℝ, bounds x y (ix2 0 0) = B := by
  have e : bounds x y (ix2 0 0) = peak x ix0 * peak y ix0 * Ideal.ofBits .f32 0x411E55C4#32 + Ideal.ofBits .f32 0x358637BD#32 := by
    unfold bounds
    refine (broadcastInDim_apply _ bcast_S1x1_S1x128_0_1 _ (ix2 0 0) (ix2 0 0) (fun a => match a with | ⟨0, _⟩ => rfl | ⟨1, _⟩ => rfl)).trans ?_
    refine (broadcastInDim_apply _ bcast_S1_S1x1_1 _ (ix2 0 0) (ix1 0) (fun a => match a with | ⟨0, _⟩ => rfl)).trans ?_
    refine (mul_mul_add_at _ _ _ _ _).trans ?_
    rw [scalar_at, scalar_at, scalar_at, scalar_at]
    rfl
  obtain ⟨p, hp⟩ := peak_real x hx ix0
  obtain ⟨q, hq⟩ := peak_real y hy ix0
  obtain ⟨k, hk⟩ := word_real 0x411E55C4#32 (.inl rfl)
  obtain ⟨t, ht⟩ := word_real 0x358637BD#32 (.inr rfl)
  exact ⟨p * q * k + t, by rw [e, hp, hq, hk, ht, EReal.coe_add, EReal.coe_mul, EReal.coe_mul]⟩

end Bound

/-! ## What the launch finds -/

section Found

variable (m : (ℓ : Loc nD τ sig) → Buf (Elt Ideal) ℓ) (c : Dev nD)

/-- The five arguments. -/
abbrev b0 : S16384x8x96.Idx → EReal := m ((c : Thread nD τ).loc main_arg0)
abbrev b1 : S16384x8x96.Idx → EReal := m ((c : Thread nD τ).loc main_arg1)
abbrev b2 : S16384x8x64.Idx → EReal := m ((c : Thread nD τ).loc main_arg2)
abbrev b3 : S96.Idx → EReal := m ((c : Thread nD τ).loc main_arg3)
abbrev b4 : S96.Idx → EReal := m ((c : Thread nD τ).loc main_arg4)

theorem found_qt : fqt m c = flipped (padded96 (hq (b0 m c))) := by
  simp only [fqt, V, List.flatten, List.append]
  after_reads_simp
  rfl

theorem found_k : fk m c = padded96 (b1 m c) := by
  simp only [fk, V, List.flatten, List.append]
  after_reads_simp
  rfl

theorem found_vt : fvt m c = flipped (padded64 (b2 m c)) := by
  simp only [fvt, V, List.flatten, List.append]
  after_reads_simp
  rfl

theorem found_bd : fbd m c = bounds (b3 m c) (b4 m c) := by
  simp only [fbd, V, List.flatten, List.append]
  after_reads_simp
  rfl

end Found

end Cert.AttnFwd
end
-- ==== Proof.FwdSoft.lean ====
/-
  One grid point of the attention's kernel over real scores and values: whichever branch is taken, its tile of the output
  holds the softmax's averages of the values and its tile of the log-sums the logarithms of the exponentials' sums.
-/
module

public import proofs.«01_k».proof.Proof.FwdPoint

@[expose] public section

set_option maxRecDepth 16384

noncomputable section

namespace Cert.AttnFwd

open Idealize.ShloMosaic Idealize.ShloMosaic.TcCoe Idealize.ShloMosaic.ValueIdx
open Cert.Kernel2Ideal Cert.Kernel2Ideal.Gen
open Cert.AttnBwd (coe_sum coe_sum_exp sum_exp_pos sum_exp_shift softmax softmax_shift)

/-! ## One row -/

section Row

variable {J : Type} [Fintype J] [Nonempty J] (s v : J → ℝ) (r : ℝ)

/-- The logarithm of the sum of a row's exponentials. -/
def logsum : ℝ := Real.log (∑ i, Real.exp (s i))

/-- The log-sum from the shifted scores. -/
theorem logsum_shift : (r : EReal) + Ideal.log (∑ i, Ideal.exp ((s i : EReal) - r)) = (logsum s : EReal) := by
  have h := sum_exp_pos s r
  rw [coe_sum_exp, Ideal.log_coe, if_neg (not_le.mpr h), ← EReal.coe_add, logsum, sum_exp_shift s r, Real.log_mul (Real.exp_pos r).ne' h.ne', Real.log_exp]

theorem coe_weighted : ∑ j, (v j : EReal) * Ideal.exp ((s j : EReal) - r) = ((∑ j, v j * Real.exp (s j - r) : ℝ) : EReal) := by
  rw [coe_sum]
  exact Finset.sum_congr rfl fun j _ => by rw [← EReal.coe_sub, Ideal.exp_coe, ← EReal.coe_mul]

/-- The softmax's average from the shifted scores, divided at the end. -/
theorem average_shift : Ideal.div (∑ j, (v j : EReal) * Ideal.exp ((s j : EReal) - r)) (∑ i, Ideal.exp ((s i : EReal) - r))
    = ((∑ j, v j * softmax s j : ℝ) : EReal) := by
  have h := sum_exp_pos s r
  rw [coe_weighted, coe_sum_exp, Ideal.div_coe h.ne', ← EReal.coe_mul]
  refine congrArg _ ?_
  rw [Finset.sum_mul]
  exact Finset.sum_congr rfl fun j _ => by rw [← softmax_shift s r, mul_assoc, mul_one_div]

/-- Rescaling a weighted sum of exponentials from one shift to another. -/
theorem rescale (r' : ℝ) : Ideal.exp ((r : EReal) - r') * ((∑ j, v j * Real.exp (s j - r) : ℝ) : EReal) = ((∑ j, v j * Real.exp (s j - r') : ℝ) : EReal) := by
  rw [← EReal.coe_sub, Ideal.exp_coe, ← EReal.coe_mul, Finset.mul_sum]
  refine congrArg _ (Finset.sum_congr rfl fun j _ => ?_)
  rw [mul_left_comm, ← Real.exp_add]
  congr 2
  ring

end Row

/-! ## The two loops -/

variable (x : Ins Ideal) (r : Fin 1024) (d : Fin 128)

/-- What the two loops start from. -/
def startS : Sums Ideal := (k0_pay11 (F := Ideal), k0_pay12 (F := Ideal))
def startU : Online Ideal := (k0_pay17 (F := Ideal), k0_pay11 (F := Ideal), k0_pay12 (F := Ideal))

theorem startS_sum (i : S1x1024.Idx) : startS.1 i = 0 := pay11_apply i
theorem startS_acc (i : S128x1024.Idx) : startS.2 i = 0 := pay12_apply i
theorem startU_max (i : S1x1024.Idx) : startU.1 i = ⊥ := pay17_apply i
theorem startU_sum (i : S1x1024.Idx) : startU.2.1 i = 0 := pay11_apply i
theorem startU_acc (i : S128x1024.Idx) : startU.2.2 i = 0 := pay12_apply i

theorem endS_eq : endS x = tripS x 1 (tripS x 0 startS) := rfl
theorem endU_eq : endU x = tripU x 1 (tripU x 0 startU) := rfl

theorem endS_sum : (endS x).1 (ix2 0 r) = ∑ j : Fin 16384, Ideal.exp (sc x r j - bd x) := by
  rw [endS_eq, tripS_sum, tripS_sum, ← sum_chunks fun j => Ideal.exp (sc x r j - bd x), startS_sum, zero_add]

theorem endS_acc : (endS x).2 (ix2 d r) = ∑ j : Fin 16384, x.vT (ix2 d j) * Ideal.exp (sc x r j - bd x) := by
  rw [endS_eq, tripS_acc, tripS_acc, ← sum_chunks fun j => x.vT (ix2 d j) * Ideal.exp (sc x r j - bd x), startS_acc, zero_add]

/-- The second loop ends at a real maximum, with the sum and the accumulator shifted by it. -/
theorem endU_shift (S : Fin 16384 → ℝ) (hS : ∀ j, sc x r j = (S j : EReal)) : ∃ M : ℝ, (endU x).1 (ix2 0 r) = M
    ∧ (endU x).2.1 (ix2 0 r) = ∑ j, Ideal.exp ((S j : EReal) - M)
    ∧ ∀ d (W : Fin 16384 → ℝ), (∀ j, x.vT (ix2 d j) = (W j : EReal)) → (endU x).2.2 (ix2 d r) = ∑ j, (W j : EReal) * Ideal.exp ((S j : EReal) - M) := by
  have hr : ∀ j, ∃ t : ℝ, sc x r j = t := fun j => ⟨S j, hS j⟩
  obtain ⟨M0, h0⟩ := tripU_max x 0 r startU hr (Or.inl (startU_max _))
  have l0 := tripU_sum x 0 r startU
  have a0 := fun d => tripU_acc x 0 r d startU
  rw [endU_eq]
  generalize tripU x 0 startU = s at h0 l0 a0 ⊢
  obtain ⟨M, h1⟩ := tripU_max x 1 r s hr (Or.inr ⟨M0, h0⟩)
  have l1 := tripU_sum x 1 r s
  have a1 := fun d => tripU_acc x 1 r d s
  generalize tripU x 1 s = s' at h1 l1 a1 ⊢
  refine ⟨M, h1, ?_, fun d W hW => ?_⟩
  · rw [l1, l0, h0, h1]
    simp only [startU_sum, mul_zero, zero_add, hS]
    rw [← sum_chunks fun j => Ideal.exp ((S j : EReal) - M)]
    have e : ∀ t : ℝ, ∑ j : Fin 8192, Ideal.exp ((S (jc 0 j) : EReal) - t) = ((∑ j : Fin 8192, 1 * Real.exp (S (jc 0 j) - t) : ℝ) : EReal) := fun t => by
      rw [coe_sum_exp (fun j : Fin 8192 => S (jc 0 j)) t]
      simp only [one_mul]
    rw [e M0, e M, rescale (fun j : Fin 8192 => S (jc 0 j)) (fun _ => 1) M0 M]
  · rw [a1, a0, h0, h1]
    simp only [startU_acc, mul_zero, zero_add, hS, hW]
    rw [← sum_chunks fun j => (W j : EReal) * Ideal.exp ((S j : EReal) - M)]
    rw [coe_weighted (fun j : Fin 8192 => S (jc 0 j)) (fun j => W (jc 0 j)) M0, coe_weighted (fun j : Fin 8192 => S (jc 0 j)) (fun j => W (jc 0 j)) M,
      rescale (fun j : Fin 8192 => S (jc 0 j)) (fun j => W (jc 0 j)) M0 M]

/-! ## The point -/

/-- The output's tile. -/
theorem point_out (S W : Fin 16384 → ℝ) (B : ℝ) (hS : ∀ j, sc x r j = (S j : EReal)) (hW : ∀ j, x.vT (ix2 d j) = (W j : EReal)) (hB : bd x = (B : EReal)) :
    (point x).1 (ix2 r d) = ((∑ j, W j * softmax S j : ℝ) : EReal) := by
  unfold point
  by_cases hb : below x = 1#1
  · rw [if_pos hb]
    refine (pay19_apply r d _ _).trans ?_
    rw [endS_acc, endS_sum]
    simp only [hS, hW, hB]
    exact average_shift S W B
  · rw [if_neg hb]
    refine (pay19_apply r d _ _).trans ?_
    obtain ⟨M, -, hl, ha⟩ := endU_shift x r S hS
    rw [ha d W hW, hl]
    exact average_shift S W M

/-- The log-sums' tile. -/
theorem point_lse (S : Fin 16384 → ℝ) (B : ℝ) (hS : ∀ j, sc x r j = (S j : EReal)) (hB : bd x = (B : EReal)) :
    (point x).2 (ix3 0 r 0) = (logsum S : EReal) := by
  unfold point
  by_cases hb : below x = 1#1
  · rw [if_pos hb]
    refine (pay1_apply r _ _).trans ?_
    rw [endS_sum, pay16_apply]
    simp only [hS, hB]
    exact logsum_shift S B
  · rw [if_neg hb]
    refine (pay1_apply r _ _).trans ?_
    obtain ⟨M, hm, hl, -⟩ := endU_shift x r S hS
    rw [hm, hl]
    exact logsum_shift S M

end Cert.AttnFwd
end
-- ==== Proof.FwdRef.lean ====
/-
  The attention's reference read at an index: the weights, the output before its padding, and the log-sum-exp of a row;
  over real arguments each is the real attention's.
-/
module

public import proofs.«01_k».proof.Proof.Attention
public import proofs.«01_k».proof.Proof.FwdSoft
public import proofs.«01_k».proof.Proof.Gen.Reference2Ideal.Read

@[expose] public section

set_option maxRecDepth 16384

noncomputable section

namespace Cert.AttnFwd

open Idealize.ShloMosaic hiding ix0 ix1 ix2 ix3 ix4 ix5 eq_ix2 eq_ix3
open Idealize.ShloMosaic.TcCoe Idealize.ShloMosaic.ValueIdx Idealize.ShloMosaic.StableHlo
open Cert.Kernel2Ideal Cert.Kernel2Ideal.Gen Cert.Reference2Ideal.Read
open Cert.AttnBwd (hs hmax hexp hp hexp_apply hp_apply padded64 softmax score Holds hmax_real hexp_real hp_real coe_sum)

section Indices

variable (h : Fin 8) (q k : Fin 16384)

theorem idx_6 : idx_main_v6 (ix3 h q 0) = ix2 h q := funext fun a => Fin.ext (by match a with | ⟨0, _⟩ => rfl | ⟨1, _⟩ => rfl)
theorem idx_7 : idx_main_v7 (ix3 h q k) = ix3 h q 0 := funext fun a => Fin.ext (by match a with | ⟨0, _⟩ => rfl | ⟨1, _⟩ => rfl | ⟨2, _⟩ => rfl)
theorem idx_10 : idx_main_v10 (ix2 h q) k = ix3 h q k := funext fun a => Fin.ext (by match a with | ⟨0, _⟩ => rfl | ⟨1, _⟩ => rfl | ⟨2, _⟩ => rfl)
theorem idx_11 : idx_main_v11 (ix3 h q 0) = ix2 h q := funext fun a => Fin.ext (by match a with | ⟨0, _⟩ => rfl | ⟨1, _⟩ => rfl)
theorem idx_12 : idx_main_v12 (ix3 h q k) = ix3 h q 0 := funext fun a => Fin.ext (by match a with | ⟨0, _⟩ => rfl | ⟨1, _⟩ => rfl | ⟨2, _⟩ => rfl)
theorem lidx_14 (d : Fin 64) : lidx_main_v14 (ix3 h d q) k = ix3 k h d := funext fun a => Fin.ext (by match a with | ⟨0, _⟩ => rfl | ⟨1, _⟩ => rfl | ⟨2, _⟩ => rfl)
theorem ridx_14 (d : Fin 64) : ridx_main_v14 (ix3 h d q) k = ix3 h q k := funext fun a => Fin.ext (by match a with | ⟨0, _⟩ => rfl | ⟨1, _⟩ => rfl | ⟨2, _⟩ => rfl)
theorem idx_15 (d : Fin 64) : idx_main_v15 (ix3 q h d) = ix3 h d q := funext fun a => Fin.ext (by match a with | ⟨0, _⟩ => rfl | ⟨1, _⟩ => rfl | ⟨2, _⟩ => rfl)
theorem idx_17 : idx_main_v17 (ix3 h q 0) = ix2 h q := funext fun a => Fin.ext (by match a with | ⟨0, _⟩ => rfl | ⟨1, _⟩ => rfl)
theorem idx_18 : idx_main_v18 (ix3 h q k) = ix3 h q 0 := funext fun a => Fin.ext (by match a with | ⟨0, _⟩ => rfl | ⟨1, _⟩ => rfl | ⟨2, _⟩ => rfl)
theorem idx_21 : idx_main_v21 (ix2 h q) k = ix3 h q k := funext fun a => Fin.ext (by match a with | ⟨0, _⟩ => rfl | ⟨1, _⟩ => rfl | ⟨2, _⟩ => rfl)
theorem idx_22 : idx_main_v22 (ix3 h q 0) = ix2 h q := funext fun a => Fin.ext (by match a with | ⟨0, _⟩ => rfl | ⟨1, _⟩ => rfl)

end Indices

section Reads

variable (x0 x1 : S16384x8x96.Idx → EReal) (x2 : S16384x8x64.Idx → EReal) (h : Fin 8) (q k : Fin 16384)

theorem zero_2 (i : S_.Idx) : val_main_cst_2 (F := Ideal) i = 0 := Ideal.ofBits_zero_f32
theorem zero_4 (i : S_.Idx) : val_main_cst_4 (F := Ideal) i = 0 := Ideal.ofBits_zero_f32
theorem scores_eq : val_main_v2 (F := Ideal) x0 x1 = hs x0 x1 := rfl
theorem max_eq : val_main_v3 (F := Ideal) x0 x1 = hmax x0 x1 := rfl
theorem max_eq' : val_main_v16 (F := Ideal) x0 x1 = hmax x0 x1 := rfl

theorem ref_max : val_main_v5 (F := Ideal) x0 x1 (ix2 h q) = hmax x0 x1 (ix2 h q) := by
  have e : val_main_v4 (F := Ideal) (ix2 h q) = ⊥ := by
    rw [val_main_v4_apply, val_main_cst_1_apply]
    simp [Ideal.ofBits, Ideal.ieee]
  rw [val_main_v5_apply, Ideal.maximumf_def, e, max_eq_right bot_le, max_eq]

theorem ref_max_spread : val_main_v7 (F := Ideal) x0 x1 (ix3 h q k) = val_main_v6 (F := Ideal) x0 x1 (ix3 h q 0) := by
  rw [val_main_v7_apply, idx_7]

theorem ref_max_col : val_main_v6 (F := Ideal) x0 x1 (ix3 h q 0) = val_main_v5 (F := Ideal) x0 x1 (ix2 h q) := by
  rw [val_main_v6_apply, idx_6]

/-- The exponential of the shifted score, in the softmax. -/
theorem ref_exp : val_main_v9 (F := Ideal) x0 x1 (ix3 h q k) = hexp x0 x1 (ix3 h q k) := by
  rw [hexp_apply, val_main_v9_apply, val_main_v8_apply, ref_max_spread, ref_max_col, ref_max, scores_eq]
  generalize hs x0 x1 (ix3 h q k) = y
  generalize hmax x0 x1 (ix2 h q) = z
  rfl

theorem ref_sum : val_main_v10 (F := Ideal) x0 x1 (ix2 h q) = ∑ i : Fin 16384, hexp x0 x1 (ix3 h q i) := by
  rw [val_main_v10_apply, zero_2, zero_add]
  simp only [idx_10, ref_exp]

theorem ref_sum_col : val_main_v11 (F := Ideal) x0 x1 (ix3 h q 0) = val_main_v10 (F := Ideal) x0 x1 (ix2 h q) := by
  rw [val_main_v11_apply, idx_11]

theorem ref_sum_spread : val_main_v12 (F := Ideal) x0 x1 (ix3 h q k) = val_main_v11 (F := Ideal) x0 x1 (ix3 h q 0) := by
  rw [val_main_v12_apply, idx_12]

/-- The weight. -/
theorem ref_weight : val_main_v13 (F := Ideal) x0 x1 (ix3 h q k) = hp x0 x1 (ix3 h q k) := by
  rw [hp_apply, val_main_v13_apply, ref_sum_spread, ref_sum_col, ref_sum, ref_exp]
  generalize hexp x0 x1 (ix3 h q k) = y
  generalize ∑ i : Fin 16384, hexp x0 x1 (ix3 h q i) = z
  rfl

/-- The output before its padding. -/
theorem ref_out (d : Fin 64) : val_main_v15 (F := Ideal) x0 x1 x2 (ix3 q h d) = ∑ i : Fin 16384, x2 (ix3 i h d) * hp x0 x1 (ix3 h q i) := by
  rw [val_main_v15_apply, idx_15, val_main_v14_apply]
  simp only [lidx_14, ridx_14, ref_weight]

theorem ref_out_padded : val_main_v26 (F := Ideal) x0 x1 x2 = padded64 (val_main_v15 (F := Ideal) x0 x1 x2) := rfl

theorem ref_max_spread' : val_main_v18 (F := Ideal) x0 x1 (ix3 h q k) = val_main_v17 (F := Ideal) x0 x1 (ix3 h q 0) := by
  rw [val_main_v18_apply, idx_18]

theorem ref_max_col' : val_main_v17 (F := Ideal) x0 x1 (ix3 h q 0) = hmax x0 x1 (ix2 h q) := by
  rw [val_main_v17_apply, idx_17, max_eq']

/-- The exponential of the shifted score, in the log-sum-exp. -/
theorem ref_exp' : val_main_v20 (F := Ideal) x0 x1 (ix3 h q k) = hexp x0 x1 (ix3 h q k) := by
  rw [hexp_apply, val_main_v20_apply, val_main_v19_apply, ref_max_spread', ref_max_col', scores_eq]
  generalize hs x0 x1 (ix3 h q k) = y
  generalize hmax x0 x1 (ix2 h q) = z
  rfl

theorem ref_sum' : val_main_v21 (F := Ideal) x0 x1 (ix2 h q) = ∑ i : Fin 16384, hexp x0 x1 (ix3 h q i) := by
  rw [val_main_v21_apply, zero_4, zero_add]
  simp only [idx_21, ref_exp']

theorem ref_sum_col' : val_main_v22 (F := Ideal) x0 x1 (ix3 h q 0) = val_main_v21 (F := Ideal) x0 x1 (ix2 h q) := by
  rw [val_main_v22_apply, idx_22]

/-- The log-sum-exp of a row. -/
theorem ref_lse : val_main_v24 (F := Ideal) x0 x1 (ix3 h q 0) = hmax x0 x1 (ix2 h q) + Ideal.log (∑ i : Fin 16384, hexp x0 x1 (ix3 h q i)) := by
  rw [val_main_v24_apply, val_main_v23_apply, ref_max_col', ref_sum_col', ref_sum']
  generalize ∑ i : Fin 16384, hexp x0 x1 (ix3 h q i) = z
  generalize hmax x0 x1 (ix2 h q) = y
  rfl

end Reads

section Real

variable {x0 x1 : S16384x8x96.Idx → EReal} {x2 : S16384x8x64.Idx → EReal} {x3 : (⟨2, ![16384, 512]⟩ : Shape).Idx → EReal}
  {Q K : Fin 16384 → Fin 8 → Fin 96 → ℝ} {W C : Fin 16384 → Fin 8 → Fin 64 → ℝ} (H : Holds x0 x1 x2 x3 Q K W C) (h : Fin 8) (s : Fin 16384)

include H

/-- The output is the values averaged by the softmax of the row's scores. -/
theorem ref_out_real (d : Fin 64) : val_main_v15 (F := Ideal) x0 x1 x2 (ix3 s h d) = ((∑ j, W j h d * softmax (score Q K h s) j : ℝ) : EReal) := by
  rw [ref_out, coe_sum]
  exact Finset.sum_congr rfl fun j _ => by rw [H.v, hp_real H, ← EReal.coe_mul]

/-- The log-sum-exp of a row of scores. -/
theorem ref_lse_real : val_main_v24 (F := Ideal) x0 x1 (ix3 h s 0) = (logsum (score Q K h s) : EReal) := by
  obtain ⟨r, hr⟩ := hmax_real H h s
  rw [ref_lse, hr, ← logsum_shift (score Q K h s) r]
  simp only [hexp_real H h s _ r hr]

end Real

end Cert.AttnFwd
end
-- ==== Proof.FwdEquation.lean ====
/-
  The attention's equation: the launch's output and log-sum-exp are the reference's.
-/
module

public import proofs.«01_k».proof.Proof.FwdHost
public import proofs.«01_k».proof.Proof.FwdRef

@[expose] public section

set_option maxRecDepth 16384

noncomputable section

namespace Cert.AttnFwd

open Idealize.ShloMosaic hiding ix0 ix1 ix2 ix3 ix4 ix5 eq_ix2 eq_ix3
open Idealize.ShloMosaic.TcCoe Idealize.ShloMosaic.ValueIdx Idealize.ShloMosaic.StableHlo
open Cert.Kernel2Ideal Cert.Kernel2Ideal.Gen Cert.Reference2Ideal.Read
open Cert.AttnBwd (hq hs_apply hs_real padded64_apply flipped_apply inner96 softmax score Holds)

variable (m : (ℓ : Loc nD τ sig) → Buf (Elt Ideal) ℓ) (c : Dev nD) {x3 : (⟨2, ![16384, 512]⟩ : Shape).Idx → EReal}
  {Q K : Fin 16384 → Fin 8 → Fin 96 → ℝ} {W C : Fin 16384 → Fin 8 → Fin 64 → ℝ}
  (H : Holds (b0 m c) (b1 m c) (b2 m c) x3 Q K W C)

include H

/-- A point's scores are the scores of its head and row. -/
theorem sc_real (h : Fin 8) (i : Fin 16) (r : Fin 1024) (j : Fin 16384) : sc (ins m c (pt h i)) r j = (score Q K h (trow i r) j : EReal) := by
  rw [sc_pt, found_k, found_qt, ← hs_real H h (trow i r) j, hs_apply, ← inner96]
  exact Finset.sum_congr rfl fun d _ => by rw [flipped_apply, mul_comm]

/-- A point's values: a head's own lanes hold its values, the lanes past them zero. -/
theorem v_real (h : Fin 8) (i : Fin 16) (d : Fin 128) (j : Fin 16384) :
    (ins m c (pt h i)).vT (ix2 d j) = ((if hd : d.val < 64 then W j h ⟨d.val, hd⟩ else 0 : ℝ) : EReal) := by
  rw [ins_vT, found_vt, flipped_apply]
  refine (padded64_apply (b2 m c) j h d).trans ?_
  by_cases hd : d.val < 64
  · rw [dif_pos hd, dif_pos hd, H.v]
  · rw [dif_neg hd, dif_neg hd, EReal.coe_zero]

variable (h3 : ∀ i, ∃ t : ℝ, b3 m c i = t) (h4 : ∀ i, ∃ t : ℝ, b4 m c i = t)

include h3 h4

theorem bd_real (h : Fin 8) (i : Fin 16) : ∃ B : ℝ, bd (ins m c (pt h i)) = B := by
  rw [ins_b, found_bd]
  exact bounds_real _ _ h3 h4

/-- The output. -/
theorem eq_out : (dats m 0 c).arrAt 4 cfg0.N = val_main_v26 (F := Ideal) (b0 m c) (b1 m c) (b2 m c) := by
  refine arr_out m c _ fun h i r d => ?_
  obtain ⟨B, hB⟩ := bd_real m c H h3 h4 h i
  refine (point_out (ins m c (pt h i)) r d _ _ B (fun j => sc_real m c H h i r j) (fun j => v_real m c H h i d j) hB).trans ?_
  rw [ref_out_padded]
  refine Eq.symm ((padded64_apply _ (trow i r) h d).trans ?_)
  by_cases hd : d.val < 64
  · simp only [dif_pos hd]
    exact ref_out_real H h (trow i r) ⟨d.val, hd⟩
  · simp only [dif_neg hd, zero_mul, Finset.sum_const_zero, EReal.coe_zero]

/-- The log-sum-exp of every row. -/
theorem eq_lse : (dats m 0 c).arrAt 5 cfg0.N = val_main_v24 (F := Ideal) (b0 m c) (b1 m c) := by
  refine arr_lse m c _ fun h i r => ?_
  obtain ⟨B, hB⟩ := bd_real m c H h3 h4 h i
  exact (point_lse (ins m c (pt h i)) r _ B (fun j => sc_real m c H h i r j) hB).trans (ref_lse_real H h (trow i r)).symm

end Cert.AttnFwd
end
-- ==== Proof.FwdFinite.lean ====
/-
  The attention's precondition read: every element of its five arguments is a real.
-/
module

public import proofs.«01_k».proof.Proof.Finite
public import proofs.«01_k».proof.Pre_all_finite2

@[expose] public section

set_option maxRecDepth 16384

noncomputable section

namespace Cert.AttnFwd

open Idealize.ShloMosaic hiding ix0 ix1 ix2 ix3 ix4 ix5 eq_ix2 eq_ix3
open Idealize.ShloMosaic.TcCoe Idealize.ShloMosaic.ValueIdx Idealize.ShloMosaic.StableHlo
open Cert.KernelIdeal Cert.KernelIdeal.Gen
open Cert.AttnBwd (Holds hdo hdo_apply real_of_all)

/-- The side conditions the precondition's operations state. -/
instance preFacts : Cert.Pre_all_finite2.Facts where
  bcast_S_S16384x8x96 := bcast_S_S16384x8x96
  reducesTo_S16384x8x96_S_d0_1_2 := by decide
  h_S_ := h_S_
  bcast_S_S16384x8x64 := by decide
  reducesTo_S16384x8x64_S_d0_1_2 := by decide
  bcast_S_S96 := by decide
  reducesTo_S96_S_d0 := by decide

theorem finite_args (x0 x1 : S16384x8x96.Idx → EReal) (x2 : S16384x8x64.Idx → EReal) (x3 x4 : (⟨1, ![96]⟩ : Shape).Idx → EReal)
    (h : Cert.Pre_all_finite2.fn (F := Ideal) x0 x1 x2 x3 x4 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ ∀ i, ∃ r : ℝ, x4 i = r := by
  have j : S_.Idx := fun a => a.elim0
  have e := congrFun h j
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_all x0 _ _ _ j e0, real_of_all x1 _ _ _ j e1, real_of_all x2 _ _ _ j e2, real_of_all x3 _ _ _ j e3, real_of_all x4 _ _ _ j e4⟩

/-- Arguments that satisfy the precondition hold reals: queries, keys and values by head (with no output gradient), and
    the two gains. -/
theorem holds_of_finite (x0 x1 : S16384x8x96.Idx → EReal) (x2 : S16384x8x64.Idx → EReal) (x3 x4 : (⟨1, ![96]⟩ : Shape).Idx → EReal)
    (h : Cert.Pre_all_finite2.fn (F := Ideal) x0 x1 x2 x3 x4 = fun _ => 1#1) :
    (∃ Q K W, Holds x0 x1 x2 (fun _ => 0) Q K W fun _ _ _ => 0) ∧ (∀ i, ∃ r : ℝ, x3 i = r) ∧ ∀ i, ∃ r : ℝ, x4 i = r := by
  obtain ⟨f0, f1, f2, f3, f4⟩ := finite_args x0 x1 x2 x3 x4 h
  choose r0 h0 using f0
  choose r1 h1 using f1
  choose r2 h2 using f2
  exact ⟨⟨fun s h d => r0 (ix3 s h d), fun s h d => r1 (ix3 s h d), fun s h d => r2 (ix3 s h d),
    fun _ _ _ => h0 _, fun _ _ _ => h1 _, fun _ _ _ => h2 _, fun _ _ _ => by rw [hdo_apply, EReal.coe_zero]⟩, f3, f4⟩

end Cert.AttnFwd
end
-- ==== Proof.FwdSame.lean ====
/-
  The module as written and its idealization are one program: no rewrite was applied, so the bodies and the host
  programs of the two agree word for word. A run of the one is then a run of the other.
-/
module

public import proofs.«01_k».proof.Defs
public import proofs.«01_k».proof.Proof.Gen.Kernel2
public import proofs.«01_k».proof.Proof.Gen.Kernel2Ideal

@[expose] public section

set_option maxRecDepth 16384

noncomputable section

namespace Cert.AttnFwd

open Idealize.ShloMosaic Idealize.SL.Sem

variable {F : FTy → Type} [FloatOps F]

/-- The launch's body, at its one label. -/
theorem defs₀_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l with
  | ⟨0, _⟩ => rfl

/-- The bodies with the launch's schedule around them. -/
theorem defs_eq : Cert.Kernel2.defs (F := F) = Cert.Kernel2Ideal.defs (F := F) :=
  congrArg (Pipeline.defs Cert.Kernel2.pcfgs) defs₀_eq

set_option maxHeartbeats 8000000 in
/-- The host programs. -/
theorem main_eq : Cert.Kernel2.main (F := F) = Cert.Kernel2Ideal.main (F := F) := rfl

end Cert.AttnFwd

end
-- ==== Proof.InColumns.lean ====
/-
  The columns of the padded projection: which of its 8192 columns hold a column of the projection's 7328, which column
  that is, and the sum over the padded columns as the sum over the projection's.
-/
module

public import Mathlib.Algebra.BigOperators.Fin
public import Mathlib.Data.EReal.Operations

@[expose] public section

set_option maxRecDepth 16384

noncomputable section

namespace Cert.InBwd

/-- The column of the projection the padded column `l` holds (where it holds one). -/
def colN (l : Nat) : Nat :=
  if l < 3072 then 4256 + l
  else if l < 4096 then 2720 + (64 * ((l - 3072) / 128) + (l - 3072) % 128 % 64)
  else if l < 4608 then 672 + (l - 4096)
  else if l < 5120 then 2208 + (l - 4608)
  else if l < 5632 then 3232 + (l - 5120)
  else if l < 6144 then 3744 + (l - 5632)
  else if l < 6656 then 1184 + (l - 6144)
  else if l < 7168 then 1696 + (l - 6656)
  else if l < 7552 then l - 7168
  else if l < 7808 then 384 + (l - 7552)
  else 640 + (l - 7808) % 32

/-- The padded columns that hold one. -/
def Inside (l : Nat) : Prop := ¬(3072 ≤ l ∧ l < 4096 ∧ 64 ≤ (l - 3072) % 128) ∧ ¬(7808 ≤ l ∧ l < 7872) ∧ l < 7904

instance (l : Nat) : Decidable (Inside l) := by unfold Inside; infer_instance

/-- The padded column that holds the projection's column `k`. -/
def dstN (k : Nat) : Nat :=
  if k < 384 then 7168 + k
  else if k < 640 then 7552 + (k - 384)
  else if k < 672 then 7872 + (k - 640)
  else if k < 1184 then 4096 + (k - 672)
  else if k < 1696 then 6144 + (k - 1184)
  else if k < 2208 then 6656 + (k - 1696)
  else if k < 2720 then 4608 + (k - 2208)
  else if k < 3232 then 3072 + (128 * ((k - 2720) / 64) + (k - 2720) % 64)
  else if k < 3744 then 5120 + (k - 3232)
  else if k < 4256 then 5632 + (k - 3744)
  else k - 4256

theorem colN_lt (l : Nat) (h : l < 8192) : colN l < 7328 := by unfold colN; split_ifs <;> omega
theorem dstN_lt (k : Nat) (h : k < 7328) : dstN k < 8192 := by unfold dstN; split_ifs <;> omega
theorem inside_dst (k : Nat) (h : k < 7328) : Inside (dstN k) := by unfold dstN Inside; split_ifs <;> omega

/-! Each range of columns. -/

theorem colN_0 (l : Nat) (h1 : 0 ≤ l) (h2 : l < 3072) : colN l = 4256 + l := by
  unfold colN
  rw [if_pos (by omega)]
theorem colN_1 (l : Nat) (h1 : 3072 ≤ l) (h2 : l < 4096) : colN l = 2720 + (64 * ((l - 3072) / 128) + (l - 3072) % 128 % 64) := by
  unfold colN
  rw [if_neg (by omega), if_pos (by omega)]
theorem colN_2 (l : Nat) (h1 : 4096 ≤ l) (h2 : l < 4608) : colN l = 672 + (l - 4096) := by
  unfold colN
  rw [if_neg (by omega), if_neg (by omega), if_pos (by omega)]
theorem colN_3 (l : Nat) (h1 : 4608 ≤ l) (h2 : l < 5120) : colN l = 2208 + (l - 4608) := by
  unfold colN
  rw [if_neg (by omega), if_neg (by omega), if_neg (by omega), if_pos (by omega)]
theorem colN_4 (l : Nat) (h1 : 5120 ≤ l) (h2 : l < 5632) : colN l = 3232 + (l - 5120) := by
  unfold colN
  rw [if_neg (by omega), if_neg (by omega), if_neg (by omega), if_neg (by omega), if_pos (by omega)]
theorem colN_5 (l : Nat) (h1 : 5632 ≤ l) (h2 : l < 6144) : colN l = 3744 + (l - 5632) := by
  unfold colN
  rw [if_neg (by omega), if_neg (by omega), if_neg (by omega), if_neg (by omega), if_neg (by omega), if_pos (by omega)]
theorem colN_6 (l : Nat) (h1 : 6144 ≤ l) (h2 : l < 6656) : colN l = 1184 + (l - 6144) := by
  unfold colN
  rw [if_neg (by omega), if_neg (by omega), if_neg (by omega), if_neg (by omega), if_neg (by omega), if_neg (by omega), if_pos (by omega)]
theorem colN_7 (l : Nat) (h1 : 6656 ≤ l) (h2 : l < 7168) : colN l = 1696 + (l - 6656) := by
  unfold colN
  rw [if_neg (by omega), if_neg (by omega), if_neg (by omega), if_neg (by omega), if_neg (by omega), if_neg (by omega), if_neg (by omega), if_pos (by omega)]
theorem colN_8 (l : Nat) (h1 : 7168 ≤ l) (h2 : l < 7552) : colN l = l - 7168 := by
  unfold colN
  rw [if_neg (by omega), if_neg (by omega), if_neg (by omega), if_neg (by omega), if_neg (by omega), if_neg (by omega), if_neg (by omega), if_neg (by omega), if_pos (by omega)]
theorem colN_9 (l : Nat) (h1 : 7552 ≤ l) (h2 : l < 7808) : colN l = 384 + (l - 7552) := by
  unfold colN
  rw [if_neg (by omega), if_neg (by omega), if_neg (by omega), if_neg (by omega), if_neg (by omega), if_neg (by omega), if_neg (by omega), if_neg (by omega), if_neg (by omega), if_pos (by omega)]
theorem colN_10 (l : Nat) (h1 : 7808 ≤ l) : colN l = 640 + (l - 7808) % 32 := by
  unfold colN
  rw [if_neg (by omega), if_neg (by omega), if_neg (by omega), if_neg (by omega), if_neg (by omega), if_neg (by omega), if_neg (by omega), if_neg (by omega), if_neg (by omega), if_neg (by omega)]

theorem dstN_0 (k : Nat) (h1 : 0 ≤ k) (h2 : k < 384) : dstN k = 7168 + k := by
  unfold dstN
  rw [if_pos (by omega)]
theorem dstN_1 (k : Nat) (h1 : 384 ≤ k) (h2 : k < 640) : dstN k = 7552 + (k - 384) := by
  unfold dstN
  rw [if_neg (by omega), if_pos (by omega)]
theorem dstN_2 (k : Nat) (h1 : 640 ≤ k) (h2 : k < 672) : dstN k = 7872 + (k - 640) := by
  unfold dstN
  rw [if_neg (by omega), if_neg (by omega), if_pos (by omega)]
theorem dstN_3 (k : Nat) (h1 : 672 ≤ k) (h2 : k < 1184) : dstN k = 4096 + (k - 672) := by
  unfold dstN
  rw [if_neg (by omega), if_neg (by omega), if_neg (by omega), if_pos (by omega)]
theorem dstN_4 (k : Nat) (h1 : 1184 ≤ k) (h2 : k < 1696) : dstN k = 6144 + (k - 1184) := by
  unfold dstN
  rw [if_neg (by omega), if_neg (by omega), if_neg (by omega), if_neg (by omega), if_pos (by omega)]
theorem dstN_5 (k : Nat) (h1 : 1696 ≤ k) (h2 : k < 2208) : dstN k = 6656 + (k - 1696) := by
  unfold dstN
  rw [if_neg (by omega), if_neg (by omega), if_neg (by omega), if_neg (by omega), if_neg (by omega), if_pos (by omega)]
theorem dstN_6 (k : Nat) (h1 : 2208 ≤ k) (h2 : k < 2720) : dstN k = 4608 + (k - 2208) := by
  unfold dstN
  rw [if_neg (by omega), if_neg (by omega), if_neg (by omega), if_neg (by omega), if_neg (by omega), if_neg (by omega), if_pos (by omega)]
theorem dstN_7 (k : Nat) (h1 : 2720 ≤ k) (h2 : k < 3232) : dstN k = 3072 + (128 * ((k - 2720) / 64) + (k - 2720) % 64) := by
  unfold dstN
  rw [if_neg (by omega), if_neg (by omega), if_neg (by omega), if_neg (by omega), if_neg (by omega), if_neg (by omega), if_neg (by omega), if_pos (by omega)]
theorem dstN_8 (k : Nat) (h1 : 3232 ≤ k) (h2 : k < 3744) : dstN k = 5120 + (k - 3232) := by
  unfold dstN
  rw [if_neg (by omega), if_neg (by omega), if_neg (by omega), if_neg (by omega), if_neg (by omega), if_neg (by omega), if_neg (by omega), if_neg (by omega), if_pos (by omega)]
theorem dstN_9 (k : Nat) (h1 : 3744 ≤ k) (h2 : k < 4256) : dstN k = 5632 + (k - 3744) := by
  unfold dstN
  rw [if_neg (by omega), if_neg (by omega), if_neg (by omega), if_neg (by omega), if_neg (by omega), if_neg (by omega), if_neg (by omega), if_neg (by omega), if_neg (by omega), if_pos (by omega)]
theorem dstN_10 (k : Nat) (h1 : 4256 ≤ k) : dstN k = k - 4256 := by
  unfold dstN
  rw [if_neg (by omega), if_neg (by omega), if_neg (by omega), if_neg (by omega), if_neg (by omega), if_neg (by omega), if_neg (by omega), if_neg (by omega), if_neg (by omega), if_neg (by omega)]

theorem col_dst (k : Nat) (h : k < 7328) : colN (dstN k) = k := by
  unfold dstN
  split_ifs
  · exact (colN_8 _ (by omega) (by omega)).trans (by omega)
  · exact (colN_9 _ (by omega) (by omega)).trans (by omega)
  · exact (colN_10 _ (by omega)).trans (by omega)
  · exact (colN_2 _ (by omega) (by omega)).trans (by omega)
  · exact (colN_6 _ (by omega) (by omega)).trans (by omega)
  · exact (colN_7 _ (by omega) (by omega)).trans (by omega)
  · exact (colN_3 _ (by omega) (by omega)).trans (by omega)
  · exact (colN_1 _ (by omega) (by omega)).trans (by omega)
  · exact (colN_4 _ (by omega) (by omega)).trans (by omega)
  · exact (colN_5 _ (by omega) (by omega)).trans (by omega)
  · exact (colN_0 _ (by omega) (by omega)).trans (by omega)

theorem dst_col (l : Nat) (h : l < 8192) (hi : Inside l) : dstN (colN l) = l := by
  unfold Inside at hi
  unfold colN
  split_ifs
  · exact (dstN_10 _ (by omega)).trans (by omega)
  · exact (dstN_7 _ (by omega) (by omega)).trans (by omega)
  · exact (dstN_3 _ (by omega) (by omega)).trans (by omega)
  · exact (dstN_6 _ (by omega) (by omega)).trans (by omega)
  · exact (dstN_8 _ (by omega) (by omega)).trans (by omega)
  · exact (dstN_9 _ (by omega) (by omega)).trans (by omega)
  · exact (dstN_4 _ (by omega) (by omega)).trans (by omega)
  · exact (dstN_5 _ (by omega) (by omega)).trans (by omega)
  · exact (dstN_0 _ (by omega) (by omega)).trans (by omega)
  · exact (dstN_1 _ (by omega) (by omega)).trans (by omega)
  · exact (dstN_2 _ (by omega) (by omega)).trans (by omega)

def col (l : Fin 8192) : Fin 7328 := ⟨colN l.val, colN_lt l.val l.isLt⟩
def dst (k : Fin 7328) : Fin 8192 := ⟨dstN k.val, dstN_lt k.val k.isLt⟩

/-- A row of the padded projection. -/
def spread (f : Fin 7328 → EReal) (l : Fin 8192) : EReal := if Inside l.val then f (col l) else 0

theorem spread_of (f : Fin 7328 → EReal) (l : Fin 8192) (k : Fin 7328) (hi : Inside l.val) (hk : colN l.val = k.val) : spread f l = f k := by
  unfold spread
  rw [if_pos hi]
  exact congrArg f (Fin.ext hk)

theorem spread_zero (f : Fin 7328 → EReal) (l : Fin 8192) (hi : ¬Inside l.val) : spread f l = 0 := if_neg hi

theorem spread_dst (f : Fin 7328 → EReal) (k : Fin 7328) : spread f (dst k) = f k :=
  spread_of f (dst k) k (inside_dst k.val k.isLt) (col_dst k.val k.isLt)

/-- The padded columns add nothing to an inner product. -/
theorem sum_spread (f g : Fin 7328 → EReal) : ∑ l, spread f l * spread g l = ∑ k, f k * g k := by
  refine (Finset.sum_of_injOn dst (fun a _ b _ h => ?_) (fun _ _ => Finset.mem_univ _) (fun l _ hl => ?_) (fun k _ => ?_)).symm
  · have e : dstN a.val = dstN b.val := congrArg Fin.val h
    refine Fin.ext ?_
    rw [← col_dst a.val a.isLt, ← col_dst b.val b.isLt, e]
  · have hi : ¬Inside l.val := fun hi => hl ⟨col l, Finset.mem_coe.mpr (Finset.mem_univ _), Fin.ext (dst_col l.val l.isLt hi)⟩
    rw [spread_zero f l hi, zero_mul]
  · rw [spread_dst, spread_dst]

end Cert.InBwd
end
-- ==== Proof.InNorm.lean ====
/-
  The gradient of a row through its normalisation by the root mean square, over the reals: the kernel's arrangement, the
  transposed rule's, and that they are equal; and the constants both programs carry.
-/
module

public import Idealize.ShloMosaic.PureOps.Ideal.Laws
public import Mathlib.Analysis.SpecialFunctions.Pow.Real

@[expose] public section

noncomputable section

namespace Cert.InBwd

open Idealize.ShloMosaic

/-! ## The constants -/

/-- The kernel's 1/1024 and the epsilon both programs add. -/
def kN : EReal := Ideal.ofBits .f32 0x3A800000#32
def kE : EReal := Ideal.ofBits .f32 0x358637BD#32

theorem kN_eq : kN = ((1 / 1024 : ℝ) : EReal) := by
  unfold kN
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]
  norm_num

theorem word_half : Ideal.ofBits .f32 0xBF000000#32 = ((-(1 / 2) : ℝ) : EReal) := by
  simp [Ideal.ofBits, Ideal.ieee, -EReal.coe_mul]
  norm_num

/-- The epsilon as a real. -/
def eps : ℝ := kE.toReal

theorem kE_pos : ∃ e : ℝ, 0 < e ∧ kE = (e : EReal) := by
  unfold kE
  simp [Ideal.ofBits, Ideal.ieee, -EReal.coe_mul]

theorem eps_pos : 0 < eps := by
  obtain ⟨e, he, h⟩ := kE_pos
  rw [eps, h, EReal.toReal_coe]
  exact he

theorem kE_eq : kE = (eps : EReal) := by
  obtain ⟨e, he, h⟩ := kE_pos
  rw [eps, h, EReal.toReal_coe]

/-! ## A row -/

variable (x h γ g : Fin 1024 → ℝ) (n : Fin 1024)

/-- The mean square of a row with the epsilon, and its reciprocal root. -/
def ms : ℝ := (∑ k, x k * x k) / 1024 + eps
def inv : ℝ := (√(ms x))⁻¹

theorem ms_pos : 0 < ms x :=
  add_pos_of_nonneg_of_pos (div_nonneg (Finset.sum_nonneg fun k _ => mul_self_nonneg _) (by norm_num)) eps_pos

theorem inv_sq : inv x * inv x = 1 / ms x := by
  rw [inv, ← mul_inv, Real.mul_self_sqrt (ms_pos x).le, one_div]

theorem rsqrt_ms : Ideal.rsqrt (ms x : EReal) = (inv x : EReal) := by
  rw [Ideal.rsqrt_coe, if_neg (not_lt.mpr (ms_pos x).le), if_neg (ms_pos x).ne', inv]

/-- The gradient of a row, `h` the gradient of its normalised and scaled value and `g` added to it. -/
def rowGrad : ℝ := g n + inv x * (h n * γ n - x n * inv x * ((∑ k, h k * γ k * (x k * inv x)) * (1 / 1024)))

/-- The correction of the transposed rule. -/
def corr : ℝ := (∑ k, x k * (h k * γ k)) * (-(1 / 2) * (inv x * (1 / ms x))) * (1 / 1024)

/-- The transposed rule's gradient is the kernel's. -/
theorem rowGrad_eq : g n + h n * γ n * inv x + x n * corr x h γ + corr x h γ * x n = rowGrad x h γ g n := by
  have e : (∑ k, h k * γ k * (x k * inv x)) = inv x * ∑ k, x k * (h k * γ k) := by
    rw [Finset.mul_sum]
    exact Finset.sum_congr rfl fun k _ => by ring
  rw [rowGrad, corr, e, ← inv_sq]
  ring

end Cert.InBwd
end
-- ==== Proof.InPoint.lean ====
/-
  What one grid point of the projection's gradient kernel computes: over any values the block of the residual gradient and
  the row added to the gain's gradient, and over the extended reals each of them at an index.
-/
module

public import proofs.«01_k».proof.Proof.InNorm
public import proofs.«01_k».proof.Proof.Gen.Kernel3Ideal.Frame
public import Idealize.ShloMosaic.Lib.MatmulPlain
public import Idealize.ShloMosaic.Lib.Pipeline.Value
public import Idealize.ShloMosaic.Lib.Pipeline.ValueKit
public import Idealize.ShloMosaic.Lib.ValueLayoutCasts
public import Idealize.ShloMosaic.Lib.IdealHost

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.Tactic Idealize.ShloMosaic.ValueIdx
open Cert.Kernel3Ideal Cert.Kernel3Ideal.Gen

section body

variable {F : FTy → Type} [FloatOps F]

/-- The blocks a grid point reads: three column ranges of the projection's gradient, the projection's matrix transposed, the
    residual input, the incoming gradient and the gain. -/
structure Ins (F : FTy → Type) where
  dm : Vec F S512x6144 .bf16
  dc : Vec F S512x1024 .bf16
  da : Vec F S512x1024 .bf16
  w : Vec F S8192x1024 .bf16
  x : Vec F S512x1024 .f32
  g : Vec F S512x1024 .f32
  n : Vec F S1x1024 .f32

/-- The matrix's rows for each column range. -/
def wm (w : Vec F S8192x1024 .bf16) : Vec F S6144x1024 .bf16 := View.ld w (Rect.unit (s := S8192x1024) ![0, 0] S6144x1024.size inb_S8192x1024_S6144x1024_0_0)
def wc (w : Vec F S8192x1024 .bf16) : Vec F S1024x1024 .bf16 := View.ld w (Rect.unit (s := S8192x1024) ![6144, 0] S1024x1024.size inb_S8192x1024_S1024x1024_6144_0)
def wa (w : Vec F S8192x1024 .bf16) : Vec F S1024x1024 .bf16 := View.ld w (Rect.unit (s := S8192x1024) ![7168, 0] S1024x1024.size inb_S8192x1024_S1024x1024_7168_0)

/-- The gradient of the normalised input. -/
def dh (y : Ins F) : FVec F S512x1024 .f32 := k0_pay4 y.dm (wm y.w) y.dc (wc y.w) y.da (wa y.w)

/-- The block of the residual gradient. -/
def dx (y : Ins F) : FVec F S512x1024 .f32 := k0_pay2 (dh y) (k0_pay5 y.x) (k0_pay6 y.x) y.g y.n

/-- The gain's gradient with the block's rows added. -/
def dn (y : Ins F) (a : Vec F S1x1024 .f32) : FVec F S1x1024 .f32 := k0_pay1 (k0_pay7 a) (mulf (dh y) (k0_pay6 y.x))

theorem hz : (![0, 0] : Fin 2 → Nat) = fun _ => 0 := by
  funext a
  match a with
  | ⟨0, _⟩ => rfl
  | ⟨1, _⟩ => rfl

variable (c : Dev nD) (i : grid0.Coords) (arg1 : Memref sig .tc .vmem S512x6144 .bf16) (harg1 : arg1.IsWhole)
  (arg2 : Memref sig .tc .vmem S512x1024 .bf16) (harg2 : arg2.IsWhole) (arg3 : Memref sig .tc .vmem S512x1024 .bf16) (harg3 : arg3.IsWhole)
  (arg4 : Memref sig .tc .vmem S8192x1024 .bf16) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S1x1024 .f32) (harg7 : arg7.IsWhole)
  (arg8 : Memref sig .tc .vmem S512x1024 .f32) (harg8 : arg8.IsWhole) (arg9 : Memref sig .tc .vmem S1x1024 .f32) (harg9 : arg9.IsWhole)
  (x0 : Vec F S512x6144 .bf16) (x1 x2 : Vec F S512x1024 .bf16) (x3 : Vec F S8192x1024 .bf16) (x4 x5 : Vec F S512x1024 .f32) (x6 : Vec F S1x1024 .f32)

theorem out_A_7 (hc0 : cond0_0 i) : out0_A_7 c i arg1 harg1 arg2 harg2 arg3 harg3 arg4 harg4 arg5 harg5 arg6 harg6 arg7 harg7 arg8 harg8 arg9 harg9 hc0 x0 x1 x2 x3 x4 x5 x6 = dx ⟨x0, x1, x2, x3, x4, x5, x6⟩ := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S512x1024) hz]
  simp only [View.readAt_eq_ld, harg1.read_unread, harg2.read_unread, harg3.read_unread, harg4.read_unread, harg5.read_unread, harg6.read_unread, harg7.read_unread,
    View.ld_unit_zero (S := S512x1024) hz, View.ld_unit_zero (S := S512x6144) hz, View.ld_unit_zero (S := S1x1024) hz]
  rfl

theorem out_B_7 (hc0 : ¬cond0_0 i) (a : Vec F S1x1024 .f32) : out0_B_7 c i arg1 harg1 arg2 harg2 arg3 harg3 arg4 harg4 arg5 harg5 arg6 harg6 arg7 harg7 arg8 harg8 arg9 harg9 hc0 x0 x1 x2 x3 x4 x5 x6 a = dx ⟨x0, x1, x2, x3, x4, x5, x6⟩ := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 a)]
  unfold kernelRun0_B
  dsimp only
  sl_unfold_words
  rw [View.canon_cons_unit_zero (S := S512x1024) hz]
  simp only [View.readAt_eq_ld, harg1.read_unread, harg2.read_unread, harg3.read_unread, harg4.read_unread, harg5.read_unread, harg6.read_unread, harg7.read_unread,
    View.ld_unit_zero (S := S512x1024) hz, View.ld_unit_zero (S := S512x6144) hz, View.ld_unit_zero (S := S1x1024) hz]
  rfl

theorem out_A_8 (hc0 : cond0_0 i) : out0_A_8 c i arg1 harg1 arg2 harg2 arg3 harg3 arg4 harg4 arg5 harg5 arg6 harg6 arg7 harg7 arg8 harg8 arg9 harg9 hc0 x0 x1 x2 x3 x4 x5 x6 = dn ⟨x0, x1, x2, x3, x4, x5, x6⟩ k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread,
    View.ld_unit_zero (S := S512x1024) hz, View.ld_unit_zero (S := S512x6144) hz, View.ld_unit_zero (S := S1x1024) hz]
  rfl

theorem out_B_8 (hc0 : ¬cond0_0 i) (a : Vec F S1x1024 .f32) : out0_B_8 c i arg1 harg1 arg2 harg2 arg3 harg3 arg4 harg4 arg5 harg5 arg6 harg6 arg7 harg7 arg8 harg8 arg9 harg9 hc0 x0 x1 x2 x3 x4 x5 x6 a = dn ⟨x0, x1, x2, x3, x4, x5, x6⟩ a := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 a)]
  unfold kernelRun0_B
  dsimp only
  sl_unfold_words
  rw [View.canon_cons_unit_zero (S := S1x1024) hz]
  simp only [View.readAt_eq_ld, harg1.read_unread, harg2.read_unread, harg3.read_unread, harg4.read_unread, harg5.read_unread, harg6.read_unread, harg7.read_unread, harg9.read_unread,
    View.ld_unit_zero (S := S512x1024) hz, View.ld_unit_zero (S := S512x6144) hz, View.ld_unit_zero (S := S1x1024) hz]
  rfl

end body

/-! ## Over the extended reals -/

theorem mul_at {s : Shape} (u v : FVec Ideal s .f32) (i : s.Idx) : mulf u v i = u i * v i := rfl
theorem add_at {s : Shape} (u v : FVec Ideal s .f32) (i : s.Idx) : addf u v i = u i + v i := rfl
theorem sub_at {s : Shape} (u v : FVec Ideal s .f32) (i : s.Idx) : subf u v i = u i - v i := rfl
theorem rsqrt_at {s : Shape} (u : FVec Ideal s .f32) (i : s.Idx) : rsqrt u i = Ideal.rsqrt (u i) := rfl

/-- A row's sum, as a column. -/
theorem rowsum (z : FVec Ideal S512x1024 .f32) (r : Fin 512) :
    shapeCast S512x1 (multiReduction .add [1] S512 z 0x00000000#32 reduces_S512x1024_S512 (.inl rfl) rfl) shapeCasts_S512_S512x1 (ix2 r 0)
      = ∑ n : Fin 1024, z (ix2 r n) := by
  refine (shapeCast_a_a1_apply _ _ r 0).trans ((Ideal.multiReduction_add_single z _ _ _ _ _).trans ?_)
  refine Finset.sum_congr rfl fun j _ => congrArg z (funext fun a => Fin.ext ?_)
  match a with
  | ⟨0, _⟩ => rfl
  | ⟨1, _⟩ => rfl

/-- A column's sum, as a row. -/
theorem colsum (z : FVec Ideal S512x1024 .f32) (n : Fin 1024) :
    shapeCast S1x1024 (multiReduction .add [0] S1024 z 0x00000000#32 reduces_S512x1024_S1024 (.inl rfl) rfl) shapeCasts_S1024_S1x1024 (ix2 0 n)
      = ∑ r : Fin 512, z (ix2 r n) := by
  refine (shapeCast_a_1a_apply _ _ 0 n).trans ((Ideal.multiReduction_add_single z _ _ _ _ _).trans ?_)
  refine Finset.sum_congr rfl fun j _ => congrArg z (funext fun a => Fin.ext ?_)
  match a with
  | ⟨0, _⟩ => rfl
  | ⟨1, _⟩ => rfl

theorem spread_col (v : Vec Ideal S512x1 .f32) (r : Fin 512) (n : Fin 1024) : broadcastTo S512x1024 v broadcasts_S512x1_S512x1024 (ix2 r n) = v (ix2 r 0) :=
  broadcastTo_apply _ _ (ix2 r n) (ix2 r 0) (fun a => by match a with | ⟨0, _⟩ => rfl | ⟨1, _⟩ => rfl)

theorem spread_row (v : Vec Ideal S1x1024 .f32) (r : Fin 512) (n : Fin 1024) : broadcastTo S512x1024 v broadcasts_S1x1024_S512x1024 (ix2 r n) = v (ix2 0 n) :=
  broadcastTo_apply _ _ (ix2 r n) (ix2 0 n) (fun a => by match a with | ⟨0, _⟩ => rfl | ⟨1, _⟩ => rfl)

theorem dot_m (u : FVec Ideal S512x6144 .bf16) (w : FVec Ideal S6144x1024 .bf16) (r : Fin 512) (n : Fin 1024) :
    matmul dot_S512x6144_S6144x1024_S512x1024_1_0_0_1_n_n none u w (constant S512x1024 .f32 0x00000000#32) (ix2 r n) = ∑ l : Fin 6144, u (ix2 r l) * w (ix2 l n) := by
  show FloatOps.matmul (F := Ideal) (DotDims.plain 512 6144 1024) none u w (constant S512x1024 .f32 0x00000000#32) (ix2 r n) = _
  rw [Ideal.matmul_plain_apply, show (constant (F := Ideal) S512x1024 .f32 0x00000000#32 (ix2 r n) : EReal) = 0 from Ideal.ofBits_zero_f32, zero_add]

theorem dot_c (u : FVec Ideal S512x1024 .bf16) (w : FVec Ideal S1024x1024 .bf16) (r : Fin 512) (n : Fin 1024) :
    matmul dot_S512x1024_S1024x1024_S512x1024_1_0_0_1_n_n none u w (constant S512x1024 .f32 0x00000000#32) (ix2 r n) = ∑ l : Fin 1024, u (ix2 r l) * w (ix2 l n) := by
  show FloatOps.matmul (F := Ideal) (DotDims.plain 512 1024 1024) none u w (constant S512x1024 .f32 0x00000000#32) (ix2 r n) = _
  rw [Ideal.matmul_plain_apply, show (constant (F := Ideal) S512x1024 .f32 0x00000000#32 (ix2 r n) : EReal) = 0 from Ideal.ofBits_zero_f32, zero_add]

/-- The three column ranges among the 8192 columns. -/
abbrev lm (l : Fin 6144) : Fin 8192 := ⟨l.val, by omega⟩
abbrev lc (l : Fin 1024) : Fin 8192 := ⟨6144 + l.val, by omega⟩
abbrev la (l : Fin 1024) : Fin 8192 := ⟨7168 + l.val, by omega⟩

theorem sum_ranges {α : Type} [AddCommMonoid α] (f : Fin 8192 → α) :
    ((∑ l, f (lm l)) + ∑ l, f (lc l)) + ∑ l, f (la l) = ∑ l, f l := by
  rw [show (∑ l, f l) = ∑ l : Fin (6144 + 1024 + 1024), f l from rfl, Fin.sum_univ_add, Fin.sum_univ_add]
  refine congrArg₂ (· + ·) (congrArg₂ (· + ·) ?_ ?_) ?_
  · exact Finset.sum_congr rfl fun l _ => congrArg f (Fin.ext rfl)
  · exact Finset.sum_congr rfl fun l _ => congrArg f (Fin.ext rfl)
  · exact Finset.sum_congr rfl fun l _ => congrArg f (Fin.ext rfl)

theorem wm_apply (w : Vec Ideal S8192x1024 .bf16) (l : Fin 6144) (n : Fin 1024) : wm w (ix2 l n) = w (ix2 (lm l) n) := by
  refine congrArg w (funext fun a => Fin.ext ?_)
  match a with
  | ⟨0, _⟩ => show 0 + 1 * l.val = l.val; omega
  | ⟨1, _⟩ => show 0 + 1 * n.val = n.val; omega

theorem wc_apply (w : Vec Ideal S8192x1024 .bf16) (l : Fin 1024) (n : Fin 1024) : wc w (ix2 l n) = w (ix2 (lc l) n) := by
  refine congrArg w (funext fun a => Fin.ext ?_)
  match a with
  | ⟨0, _⟩ => show 6144 + 1 * l.val = 6144 + l.val; omega
  | ⟨1, _⟩ => show 0 + 1 * n.val = n.val; omega

theorem wa_apply (w : Vec Ideal S8192x1024 .bf16) (l : Fin 1024) (n : Fin 1024) : wa w (ix2 l n) = w (ix2 (la l) n) := by
  refine congrArg w (funext fun a => Fin.ext ?_)
  match a with
  | ⟨0, _⟩ => show 7168 + 1 * l.val = 7168 + l.val; omega
  | ⟨1, _⟩ => show 0 + 1 * n.val = n.val; omega

variable (y : Ins Ideal) (r : Fin 512) (n : Fin 1024)

/-- The gradient of the normalised input: a product over all the columns. -/
theorem dh_apply (d : Fin 8192 → EReal) (hm : ∀ l, y.dm (ix2 r l) = d (lm l)) (hc : ∀ l, y.dc (ix2 r l) = d (lc l)) (ha : ∀ l, y.da (ix2 r l) = d (la l)) :
    dh y (ix2 r n) = ∑ l : Fin 8192, d l * y.w (ix2 l n) := by
  unfold dh k0_pay4
  simp only [shapeCast_self]
  refine ((add_at _ _ _).trans (congrArg₂ (· + ·) ((add_at _ _ _).trans (congrArg₂ (· + ·) (dot_m _ _ r n) (dot_c _ _ r n))) (dot_c _ _ r n))).trans ?_
  simp only [hm, hc, ha, wm_apply, wc_apply, wa_apply]
  exact sum_ranges fun l => d l * y.w (ix2 l n)

/-- The reciprocal root mean square of row `r`. -/
def rn (x : Vec Ideal S512x1024 .f32) (r : Fin 512) : EReal := Ideal.rsqrt ((∑ k : Fin 1024, x (ix2 r k) * x (ix2 r k)) * kN + kE)

theorem pay5_apply (x : Vec Ideal S512x1024 .f32) : k0_pay5 x (ix2 r 0) = rn x r := by
  unfold k0_pay5
  refine (rsqrt_at _ _).trans (congrArg Ideal.rsqrt ((add_at _ _ _).trans (congrArg₂ (· + ·) ((mul_at _ _ _).trans (congrArg₂ (· * ·) (rowsum _ r) rfl)) rfl)))

theorem pay6_apply (x : Vec Ideal S512x1024 .f32) : k0_pay6 x (ix2 r n) = x (ix2 r n) * rn x r := by
  unfold k0_pay6
  exact (mul_at _ _ _).trans (congrArg (x (ix2 r n) * ·) ((spread_col _ r n).trans (pay5_apply r x)))

/-- The residual gradient's block at an index. -/
theorem dx_apply : dx y (ix2 r n) = y.g (ix2 r n) + rn y.x r * (dh y (ix2 r n) * y.n (ix2 0 n)
    - y.x (ix2 r n) * rn y.x r * ((∑ k : Fin 1024, dh y (ix2 r k) * y.n (ix2 0 k) * (y.x (ix2 r k) * rn y.x r)) * kN)) := by
  unfold dx k0_pay2
  simp only [shapeCast_self]
  generalize dh y = z
  refine (add_at _ _ _).trans (congrArg (y.g (ix2 r n) + ·) ((mul_at _ _ _).trans (congrArg₂ (· * ·) ((spread_col _ r n).trans (pay5_apply r y.x)) ((sub_at _ _ _).trans (congrArg₂ (· - ·) ?_ ?_)))))
  · exact (mul_at _ _ _).trans (congrArg (z (ix2 r n) * ·) (spread_row _ r n))
  · refine (mul_at _ _ _).trans (congrArg₂ (· * ·) (pay6_apply r n y.x) ((spread_col _ r n).trans ((mul_at _ _ _).trans (congrArg₂ (· * ·) ((rowsum _ r).trans ?_) rfl))))
    exact Finset.sum_congr rfl fun k _ => (mul_at _ _ _).trans (congrArg₂ (· * ·) ((mul_at _ _ _).trans (congrArg (z (ix2 r k) * ·) (spread_row _ r k))) (pay6_apply r k y.x))

/-- The gain's gradient after the block, at an index. -/
theorem dn_apply (a : Vec Ideal S1x1024 .f32) : dn y a (ix2 0 n) = a (ix2 0 n) + ∑ r : Fin 512, dh y (ix2 r n) * (y.x (ix2 r n) * rn y.x r) := by
  unfold dn k0_pay1 k0_pay7
  simp only [shapeCast_self]
  generalize dh y = z
  refine (add_at _ _ _).trans (congrArg (a (ix2 0 n) + ·) ((colsum _ n).trans ?_))
  exact Finset.sum_congr rfl fun k _ => (mul_at _ _ _).trans (congrArg (z (ix2 k n) * ·) (pay6_apply k n y.x))

theorem pay3_apply (i : S1x1024.Idx) : (k0_pay3 (F := Ideal) i : EReal) = 0 := Ideal.ofBits_zero_f32

end Cert.InBwd
end
-- ==== Proof.InBlocks.lean ====
/-
  The arrays the projection's gradient launch reads, the blocks of them a grid point finds, and the two results' arrays:
  each row of the residual gradient, and the gain's gradient as the sum over every row.
-/
module

public import proofs.«01_k».proof.Proof.InPoint
public import proofs.«01_k».proof.Proof.Gen.Kernel3Ideal.Value
public import Idealize.ShloMosaic.Lib.Pipeline.ValueKit

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.ValueIdx
open Idealize.ShloMosaic.Pipeline (Dat)
open Cert.Kernel3Ideal Cert.Kernel3Ideal.Gen

section Points

variable {F : FTy → Type} [FloatOps F] (m : (ℓ : Loc nD τ sig) → Buf (Elt F) ℓ) (c : Dev nD)

/-- The blocks at a grid point. -/
def ins (t : Fin cfg0.N) : Ins F := ⟨iblk m c 0 t, iblk m c 1 t, iblk m c 2 t, iblk m c 3 t, iblk m c 4 t, iblk m c 5 t, iblk m c 6 t⟩

theorem outs_first (t : Fin cfg0.N) (h0 : t.val % 32 = 0) : outsAt0 m c t.val t.isLt = (dx (ins m c t), dn (ins m c t) k0_pay3) := by
  rw [outsAt0_A m c t h0, out_A_7, out_A_8]
  rfl

theorem outs_later (t : Fin cfg0.N) (h0 : ¬t.val % 32 = 0) :
    outsAt0 m c t.val t.isLt = (dx (ins m c t), dn (ins m c t) (outsAt0 m c (t.val - 1) (Nat.lt_of_le_of_lt (Nat.sub_le _ _) t.isLt)).2) := by
  rw [outsAt0_B m c t h0, out_B_7, out_B_8]
  rfl

theorem outs_1 (t : Fin cfg0.N) : (outsAt0 m c t.val t.isLt).1 = dx (ins m c t) := by
  by_cases h0 : t.val % 32 = 0
  · rw [outs_first m c t h0]
  · rw [outs_later m c t h0]

end Points

variable (m : (ℓ : Loc nD τ sig) → Buf (Elt Ideal) ℓ) (c : Dev nD)

/-- The arrays the launch reads. -/
abbrev fm : S16384x6144.Idx → EReal := V m c main_v18
abbrev fc : S16384x1024.Idx → EReal := V m c main_v19
abbrev fa : S16384x1024.Idx → EReal := V m c main_v20
abbrev fw : S8192x1024.Idx → EReal := V m c main_v39
abbrev fx : S16384x1024.Idx → EReal := V m c main_arg0
abbrev fg : S16384x1024.Idx → EReal := V m c main_arg4
abbrev fn : S1x1024.Idx → EReal := V m c main_v40

/-- Row `r` of tile `t`. -/
abbrev trow (t : Fin cfg0.N) (r : Fin 512) : Fin 16384 := ⟨512 * t.val + r.val, by have : cfg0.N = 32 := N_0; have := t.isLt; omega⟩

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = t.val ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = t.val ∧ win0_7.index t 1 = 0 := by decide +kernel
theorem index_8 : ∀ t : Fin grid0.N, win0_8.index t 0 = 0 ∧ win0_8.index t 1 = 0 := by decide +kernel
theorem flush_8 : ∀ t : Fin cfg0.N, (cfg0.win 8).flush t = true → t.val = 31 := by decide +kernel

variable (t : Fin cfg0.N) (r : Fin 512) (n : Fin 1024)

theorem ins_dm (l : Fin 6144) : (ins m c t).dm (ix2 r l) = fm m c (ix2 (trow t r) l) := by
  show iblk m c 0 t (ix2 r l) = _
  blk_simp [iblk]
  refine congrArg (V m c main_v18) (funext fun a => Fin.ext ?_)
  match a with
  | ⟨0, _⟩ => blk_simp; rw [(index_0 _).1]; show t.val * 512 + r.val = 512 * t.val + r.val; omega
  | ⟨1, _⟩ => blk_simp; rw [(index_0 _).2]; show 0 * 6144 + l.val = l.val; omega

theorem ins_dc (l : Fin 1024) : (ins m c t).dc (ix2 r l) = fc m c (ix2 (trow t r) l) := by
  show iblk m c 1 t (ix2 r l) = _
  blk_simp [iblk]
  refine congrArg (V m c main_v19) (funext fun a => Fin.ext ?_)
  match a with
  | ⟨0, _⟩ => blk_simp; rw [(index_1 _).1]; show t.val * 512 + r.val = 512 * t.val + r.val; omega
  | ⟨1, _⟩ => blk_simp; rw [(index_1 _).2]; show 0 * 1024 + l.val = l.val; omega

theorem ins_da (l : Fin 1024) : (ins m c t).da (ix2 r l) = fa m c (ix2 (trow t r) l) := by
  show iblk m c 2 t (ix2 r l) = _
  blk_simp [iblk]
  refine congrArg (V m c main_v20) (funext fun a => Fin.ext ?_)
  match a with
  | ⟨0, _⟩ => blk_simp; rw [(index_2 _).1]; show t.val * 512 + r.val = 512 * t.val + r.val; omega
  | ⟨1, _⟩ => blk_simp; rw [(index_2 _).2]; show 0 * 1024 + l.val = l.val; omega

theorem ins_w (l : Fin 8192) : (ins m c t).w (ix2 l n) = fw m c (ix2 l n) := by
  show iblk m c 3 t (ix2 l n) = _
  blk_simp [iblk]
  refine congrArg (V m c main_v39) (funext fun a => Fin.ext ?_)
  match a with
  | ⟨0, _⟩ => blk_simp; rw [(index_3 _).1]; show 0 * 8192 + l.val = l.val; omega
  | ⟨1, _⟩ => blk_simp; rw [(index_3 _).2]; show 0 * 1024 + n.val = n.val; omega

theorem ins_x : (ins m c t).x (ix2 r n) = fx m c (ix2 (trow t r) n) := by
  show iblk m c 4 t (ix2 r n) = _
  blk_simp [iblk]
  refine congrArg (V m c main_arg0) (funext fun a => Fin.ext ?_)
  match a with
  | ⟨0, _⟩ => blk_simp; rw [(index_4 _).1]; show t.val * 512 + r.val = 512 * t.val + r.val; omega
  | ⟨1, _⟩ => blk_simp; rw [(index_4 _).2]; show 0 * 1024 + n.val = n.val; omega

theorem ins_g : (ins m c t).g (ix2 r n) = fg m c (ix2 (trow t r) n) := by
  show iblk m c 5 t (ix2 r n) = _
  blk_simp [iblk]
  refine congrArg (V m c main_arg4) (funext fun a => Fin.ext ?_)
  match a with
  | ⟨0, _⟩ => blk_simp; rw [(index_5 _).1]; show t.val * 512 + r.val = 512 * t.val + r.val; omega
  | ⟨1, _⟩ => blk_simp; rw [(index_5 _).2]; show 0 * 1024 + n.val = n.val; omega

theorem ins_n : (ins m c t).n (ix2 0 n) = fn m c (ix2 0 n) := by
  show iblk m c 6 t (ix2 0 n) = _
  blk_simp [iblk]
  refine congrArg (V m c main_v40) (funext fun a => Fin.ext ?_)
  match a with
  | ⟨0, _⟩ => blk_simp; rw [(index_6 _).1]
  | ⟨1, _⟩ => blk_simp; rw [(index_6 _).2]; show 0 * 1024 + n.val = n.val; omega

/-- What a block of the residual gradient's array holds, given what each point leaves in it. -/
theorem arr_dx (X : S16384x1024.Idx → EReal) (hX : ∀ t r n, dx (ins m c t) (ix2 r n) = X (ix2 (trow t r) n)) :
    (dats m 0 c).arrAt 7 cfg0.N = X := by
  refine (dats m 0 c).arrAt_eq_of_covers 7 _ (by decide +kernel) fun t _ y => ?_
  blk_simp
  rw [after0_7, outs_1]
  obtain ⟨r, n, rfl⟩ : ∃ (r : Fin 512) (n : Fin 1024), y = ix2 r n := ⟨y 0, y 1, eq_ix2 y⟩
  refine (hX t r n).trans (congrArg X (funext fun a => Fin.ext ?_))
  match a with
  | ⟨0, _⟩ => blk_simp; rw [(index_7 _).1]; show 512 * t.val + r.val = t.val * 512 + r.val; omega
  | ⟨1, _⟩ => blk_simp; rw [(index_7 _).2]; show n.val = 0 * 1024 + n.val; omega

/-! ## The gain's gradient -/

/-- What a point adds to the gain's gradient. -/
def part (t : Fin cfg0.N) (n : Fin 1024) : EReal := ∑ r : Fin 512, dh (ins m c t) (ix2 r n) * ((ins m c t).x (ix2 r n) * rn (ins m c t).x r)

theorem outs_2 (k : ℕ) (hk : k < cfg0.N) : (outsAt0 m c k hk).2 (ix2 0 n) = ∑ t : Fin (k + 1), part m c ⟨t.val, by omega⟩ n := by
  induction k with
  | zero =>
    have e := outs_first m c ⟨0, hk⟩ (Nat.zero_mod _)
    rw [show outsAt0 m c 0 hk = _ from e]
    refine (dn_apply _ n _).trans ?_
    rw [pay3_apply, zero_add, Fin.sum_univ_one]
    rfl
  | succ k ih =>
    have hN : cfg0.N = 32 := N_0
    have e := outs_later m c ⟨k + 1, hk⟩ (by show ¬(k + 1) % 32 = 0; omega)
    rw [show outsAt0 m c (k + 1) hk = _ from e]
    refine (dn_apply _ n _).trans ?_
    refine Eq.trans ?_ (Fin.sum_univ_castSucc (n := k + 1) fun t => part m c ⟨t.val, by omega⟩ n).symm
    exact congrArg₂ (· + ·) (ih (Nat.lt_of_succ_lt hk)) rfl

theorem sum_rows {α : Type} [AddCommMonoid α] (f : Fin 16384 → α) : (∑ t : Fin cfg0.N, ∑ r : Fin 512, f (trow t r)) = ∑ s, f s := by
  have hN : cfg0.N = 32 := N_0
  rw [← Finset.sum_product', Finset.univ_product_univ]
  refine Fintype.sum_bijective (fun p : Fin cfg0.N × Fin 512 => trow p.1 p.2) ⟨fun p q h => ?_, fun s => ?_⟩ _ _ fun p => rfl
  · have e : 512 * p.1.val + p.2.val = 512 * q.1.val + q.2.val := congrArg Fin.val h
    have h1 := p.2.isLt
    have h2 := q.2.isLt
    exact Prod.ext (Fin.ext (by omega)) (Fin.ext (by omega))
  · refine ⟨(⟨s.val / 512, by omega⟩, ⟨s.val % 512, by omega⟩), Fin.ext ?_⟩
    show 512 * (s.val / 512) + s.val % 512 = s.val
    omega

/-- … and the gain's gradient, given what each row adds. -/
theorem arr_dn (f : Fin 1024 → Fin 16384 → EReal)
    (hf : ∀ t r n, dh (ins m c t) (ix2 r n) * ((ins m c t).x (ix2 r n) * rn (ins m c t).x r) = f n (trow t r)) :
    (dats m 0 c).arrAt 8 cfg0.N = fun i : S1x1024.Idx => ∑ s, f (i 1) s := by
  refine (dats m 0 c).arrAt_eq_of_covers 8 _ (by decide +kernel) fun t hfl y => ?_
  have ht := flush_8 t hfl
  obtain ⟨n, rfl⟩ : ∃ n : Fin 1024, y = ix2 0 n := ⟨y 1, by
    refine (eq_ix2 y).trans (congrArg₂ ix2 (Fin.ext ?_) rfl)
    have := (y 0).isLt
    show (y 0).val = 0
    have h1 : (y 0).val < 1 := this
    omega⟩
  blk_simp
  rw [after0_8]
  refine (outs_2 m c n t.val t.isLt).trans ?_
  have hN : cfg0.N = 32 := N_0
  have e : (∑ s : Fin (t.val + 1), part m c ⟨s.val, by omega⟩ n) = ∑ s, part m c s n :=
    Fintype.sum_bijective (fun s : Fin (t.val + 1) => (⟨s.val, by omega⟩ : Fin cfg0.N))
      ⟨fun p q h => Fin.ext (congrArg (fun z : Fin cfg0.N => z.val) h), fun s => ⟨⟨s.val, by omega⟩, rfl⟩⟩ _ _ fun s => rfl
  refine e.trans ?_
  refine Eq.trans ?_ (Finset.sum_congr rfl fun s _ => congrArg (fun k => f k s) (Fin.ext (a := n) ?_))
  · refine Eq.trans ?_ (sum_rows (f n))
    exact Finset.sum_congr rfl fun s _ => Finset.sum_congr rfl fun r _ => hf s r n
  · blk_simp
    rw [(index_8 _).2]
    show n.val = 0 * 1024 + n.val
    omega

end Cert.InBwd
end
-- ==== Proof.InHost.lean ====
/-
  What the host hands the projection's gradient launch, as functions of the program's arguments: the projection's columns of
  its output gradient and of its weights padded alike, each read at an index.
-/
module

public import proofs.«01_k».proof.Proof.InColumns
public import proofs.«01_k».proof.Proof.InBlocks
public import Idealize.ShloMosaic.Lib.StableHlo.RunRead
public import Idealize.ShloMosaic.Lib.KernelVsHost

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.ValueIdx Idealize.ShloMosaic.StableHlo
open Cert.Kernel3Ideal Cert.Kernel3Ideal.Gen

/-! ## Padded columns, over any number of rows -/

section Rows

variable {N : Nat}

/-- A shape of `N` rows. -/
abbrev Wide (N w : Nat) : Shape := ⟨2, ![N, w]⟩
abbrev Deep (N h w : Nat) : Shape := ⟨3, ![N, h, w]⟩

/-- The padding value. -/
def zeroW : FVec Ideal S_ .f32 := sitofp (F := Ideal) .f32 (constantI S_ 32 0#32)

theorem zeroW_apply (i : S_.Idx) : zeroW i = 0 := by
  show (((0#32 : BitVec 32).toInt : ℝ) : EReal) = 0
  simp

/-- A range of columns read at an index. -/
theorem range_apply {w o : Nat} (x : (Wide N 7328).Idx → EReal) (h : (Wide N 7328).Slices ![0, o] (Wide N w)) (r : Fin N) (j : Fin w)
    (k : Fin 7328) (hk : k.val = o + j.val) : extractStridedSlice (Wide N w) ![0, o] x h (ix2 r j) = x (ix2 r k) :=
  extractStridedSlice_apply _ _ _ _ _ fun a => by
    match a with
    | ⟨0, _⟩ => exact (Nat.zero_add _).symm
    | ⟨1, _⟩ => exact hk

/-- Eight groups of 64 columns, each padded to 128. -/
theorem groups_apply (x : (Wide N 512).Idx → EReal) (h1 : (Wide N 512).ShapeCasts (Deep N 8 64))
    (hp : (Deep N 8 64).Pads (![0, 0, 0] : Fin 3 → Nat) ![0, 0, 64] ![0, 0, 0] (Deep N 8 128)) (h0 : 0 < S_.numel)
    (h2 : (Deep N 8 128).ShapeCasts (Wide N 1024)) (r : Fin N) (j : Fin 1024) :
    shapeCast (Wide N 1024) (pad (Deep N 8 128) ![0, 0, 0] ![0, 0, 64] ![0, 0, 0] (shapeCast (Deep N 8 64) x h1) zeroW hp h0) h2 (ix2 r j)
      = if hd : j.val % 128 < 64 then x (ix2 r ⟨64 * (j.val / 128) + j.val % 128, by omega⟩) else 0 := by
  refine (shapeCast_apply _ h2 (ix2 r j) (ix3 r ⟨j.val / 128, by omega⟩ ⟨j.val % 128, by omega⟩) (by
    rewrite [Shape.rowMajor_val_two, Shape.rowMajor_val_three]
    show (r.val * 8 + j.val / 128) * 128 + j.val % 128 = r.val * 1024 + j.val
    omega)).trans ?_
  by_cases hd : j.val % 128 < 64
  · rw [dif_pos hd]
    refine (pad_apply_of_inside _ _ _ _ _ _ _ _ (ix3 r ⟨j.val / 128, by omega⟩ ⟨j.val % 128, hd⟩) fun a => by
      match a with
      | ⟨0, _⟩ => show r.val = 0 + r.val * (0 + 1); omega
      | ⟨1, _⟩ => show j.val / 128 = 0 + j.val / 128 * (0 + 1); omega
      | ⟨2, _⟩ => show j.val % 128 = 0 + j.val % 128 * (0 + 1); omega).trans ?_
    exact shapeCast_apply x h1 _ (ix2 r ⟨64 * (j.val / 128) + j.val % 128, by omega⟩) (by
      rewrite [Shape.rowMajor_val_two, Shape.rowMajor_val_three]
      show r.val * 512 + (64 * (j.val / 128) + j.val % 128) = (r.val * 8 + j.val / 128) * 64 + j.val % 128
      omega)
  · rw [dif_neg hd]
    refine (pad_apply_of_not_inside _ _ _ _ _ _ _ _ (2 : Fin 3) fun hh => hd ?_).trans (zeroW_apply _)
    have h2 : (j.val % 128 - 0) / (0 + 1) < 64 := hh.2.2
    omega

/-- 32 columns at lane 64 of 128. -/
theorem lanes_apply (x : (Wide N 32).Idx → EReal) (hp : (Wide N 32).Pads (![0, 64] : Fin 2 → Nat) ![0, 32] ![0, 0] (Wide N 128)) (h0 : 0 < S_.numel)
    (r : Fin N) (j : Fin 128) :
    pad (Wide N 128) ![0, 64] ![0, 32] ![0, 0] x zeroW hp h0 (ix2 r j) = if hd : 64 ≤ j.val ∧ j.val < 96 then x (ix2 r ⟨j.val - 64, by omega⟩) else 0 := by
  by_cases hd : 64 ≤ j.val ∧ j.val < 96
  · rw [dif_pos hd]
    exact pad_apply_of_inside _ _ _ x _ _ _ (ix2 r j) (ix2 r ⟨j.val - 64, by omega⟩) fun a => by
      match a with
      | ⟨0, _⟩ => show r.val = 0 + r.val * (0 + 1); omega
      | ⟨1, _⟩ => show j.val = 64 + (j.val - 64) * (0 + 1); omega
  · rw [dif_neg hd]
    refine (pad_apply_of_not_inside _ _ _ x _ _ _ (ix2 r j) (1 : Fin 2) fun hh => hd ?_).trans (zeroW_apply _)
    have h1 : 64 ≤ j.val := hh.1
    have h2 : (j.val - 64) / (0 + 1) < 32 := hh.2.2
    omega

/-- A concatenation of columns read in its piece `k`, where that piece is a range of `f`'s columns. -/
theorem piece_apply (f : Fin N → Fin 8192 → EReal) (xs : List ((s : Shape) × (s.Idx → EReal))) (h : Shape.Concatenates (xs.map (·.1)) (Wide N 8192) 1)
    (r : Fin N) (l : Fin 8192) (k : Nat) (hk : k < xs.length) (w : Nat) (p : (Wide N w).Idx → EReal) (hx : xs[k] = ⟨Wide N w, p⟩) (pre : Nat)
    (hpre : (((xs.take k).map (·.1)).map fun s => if h : s.rank = (Wide N 8192).rank then s.size ((1 : Fin (Wide N 8192).rank).cast h.symm) else 0).sum = pre)
    (h1 : pre ≤ l.val) (h2 : l.val < pre + w) (e : ∀ r (j : Fin w) (hj : pre + j.val < 8192), p (ix2 r j) = f r ⟨pre + j.val, hj⟩) :
    concatenate (Wide N 8192) 1 xs h (ix2 r l) = f r l := by
  have hl : pre + (l.val - pre) = l.val := by omega
  refine (concatenate_apply_piece (1 : Fin (Wide N 8192).rank) xs h (ix2 r l) k hk (Wide N w) p hx rfl pre hpre (ix2 r ⟨l.val - pre, by omega⟩) (fun b hb => ?_) hl).trans
    ((e r ⟨l.val - pre, by omega⟩ (by show pre + (l.val - pre) < 8192; omega)).trans (congrArg (f r) (Fin.ext hl)))
  match b with
  | ⟨0, _⟩ => rfl
  | ⟨1, _⟩ => exact absurd rfl hb

set_option maxHeartbeats 4000000 in
/-- The twelve pieces side by side, where each piece is a range of one function's columns. -/
theorem pieces_apply (f : Fin N → Fin 8192 → EReal)
    (p0 : (Wide N 3072).Idx → EReal) (p1 : (Wide N 1024).Idx → EReal) (p2 p3 p4 p5 p6 p7 : (Wide N 512).Idx → EReal)
    (p8 : (Wide N 384).Idx → EReal) (p9 : (Wide N 256).Idx → EReal) (p10 : (Wide N 128).Idx → EReal) (p11 : (Wide N 256).Idx → EReal)
    (h : Shape.Concatenates [Wide N 3072, Wide N 1024, Wide N 512, Wide N 512, Wide N 512, Wide N 512, Wide N 512, Wide N 512, Wide N 384, Wide N 256, Wide N 128, Wide N 256] (Wide N 8192) 1)
    (e0 : ∀ r (j : Fin 3072), p0 (ix2 r j) = f r ⟨0 + j.val, by omega⟩)
    (e1 : ∀ r (j : Fin 1024), p1 (ix2 r j) = f r ⟨3072 + j.val, by omega⟩)
    (e2 : ∀ r (j : Fin 512), p2 (ix2 r j) = f r ⟨4096 + j.val, by omega⟩)
    (e3 : ∀ r (j : Fin 512), p3 (ix2 r j) = f r ⟨4608 + j.val, by omega⟩)
    (e4 : ∀ r (j : Fin 512), p4 (ix2 r j) = f r ⟨5120 + j.val, by omega⟩)
    (e5 : ∀ r (j : Fin 512), p5 (ix2 r j) = f r ⟨5632 + j.val, by omega⟩)
    (e6 : ∀ r (j : Fin 512), p6 (ix2 r j) = f r ⟨6144 + j.val, by omega⟩)
    (e7 : ∀ r (j : Fin 512), p7 (ix2 r j) = f r ⟨6656 + j.val, by omega⟩)
    (e8 : ∀ r (j : Fin 384), p8 (ix2 r j) = f r ⟨7168 + j.val, by omega⟩)
    (e9 : ∀ r (j : Fin 256), p9 (ix2 r j) = f r ⟨7552 + j.val, by omega⟩)
    (e10 : ∀ r (j : Fin 128), p10 (ix2 r j) = f r ⟨7808 + j.val, by omega⟩)
    (e11 : ∀ r (j : Fin 256), p11 (ix2 r j) = f r ⟨7936 + j.val, by omega⟩)
    (r : Fin N) (l : Fin 8192) :
    concatenate (Wide N 8192) 1 [⟨Wide N 3072, p0⟩, ⟨Wide N 1024, p1⟩, ⟨Wide N 512, p2⟩, ⟨Wide N 512, p3⟩, ⟨Wide N 512, p4⟩, ⟨Wide N 512, p5⟩, ⟨Wide N 512, p6⟩, ⟨Wide N 512, p7⟩,
      ⟨Wide N 384, p8⟩, ⟨Wide N 256, p9⟩, ⟨Wide N 128, p10⟩, ⟨Wide N 256, p11⟩] h (ix2 r l) = f r l := by
  by_cases c0 : l.val < 3072
  · exact piece_apply f _ _ r l 0 (by show 0 < 12; omega) 3072 p0 rfl 0 rfl (by omega) (by omega) fun r j _ => e0 r j
  by_cases c1 : l.val < 4096
  · exact piece_apply f _ _ r l 1 (by show 1 < 12; omega) 1024 p1 rfl 3072 rfl (by omega) (by omega) fun r j _ => e1 r j
  by_cases c2 : l.val < 4608
  · exact piece_apply f _ _ r l 2 (by show 2 < 12; omega) 512 p2 rfl 4096 rfl (by omega) (by omega) fun r j _ => e2 r j
  by_cases c3 : l.val < 5120
  · exact piece_apply f _ _ r l 3 (by show 3 < 12; omega) 512 p3 rfl 4608 rfl (by omega) (by omega) fun r j _ => e3 r j
  by_cases c4 : l.val < 5632
  · exact piece_apply f _ _ r l 4 (by show 4 < 12; omega) 512 p4 rfl 5120 rfl (by omega) (by omega) fun r j _ => e4 r j
  by_cases c5 : l.val < 6144
  · exact piece_apply f _ _ r l 5 (by show 5 < 12; omega) 512 p5 rfl 5632 rfl (by omega) (by omega) fun r j _ => e5 r j
  by_cases c6 : l.val < 6656
  · exact piece_apply f _ _ r l 6 (by show 6 < 12; omega) 512 p6 rfl 6144 rfl (by omega) (by omega) fun r j _ => e6 r j
  by_cases c7 : l.val < 7168
  · exact piece_apply f _ _ r l 7 (by show 7 < 12; omega) 512 p7 rfl 6656 rfl (by omega) (by omega) fun r j _ => e7 r j
  by_cases c8 : l.val < 7552
  · exact piece_apply f _ _ r l 8 (by show 8 < 12; omega) 384 p8 rfl 7168 rfl (by omega) (by omega) fun r j _ => e8 r j
  by_cases c9 : l.val < 7808
  · exact piece_apply f _ _ r l 9 (by show 9 < 12; omega) 256 p9 rfl 7552 rfl (by omega) (by omega) fun r j _ => e9 r j
  by_cases c10 : l.val < 7936
  · exact piece_apply f _ _ r l 10 (by show 10 < 12; omega) 128 p10 rfl 7808 rfl (by omega) (by omega) fun r j _ => e10 r j
  exact piece_apply f _ _ r l 11 (by show 11 < 12; omega) 256 p11 rfl 7936 rfl (by omega) (by omega) fun r j _ => e11 r j

end Rows

end Cert.InBwd
end
-- ==== Proof.InPadded.lean ====
/-
  What the projection's gradient launch finds in its arrays: the padded columns of the output gradient and of the weights
  read at an index, the gain as a row, and the arguments themselves.
-/
module

public import proofs.«01_k».proof.Proof.InHost
public import Idealize.ShloMosaic.Lib.StableHlo.RunRead
public import Idealize.ShloMosaic.Lib.KernelVsHost

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.ValueIdx Idealize.ShloMosaic.StableHlo
open Cert.Kernel3Ideal Cert.Kernel3Ideal.Gen

section Rows

variable {N : Nat} (x : (Wide N 7328).Idx → EReal)

/-- A range of columns is the padded row there. -/
theorem range_spread {w o : Nat} (h : (Wide N 7328).Slices ![0, o] (Wide N w)) (pre : Nat) (r : Fin N) (j : Fin w) (hj : pre + j.val < 8192)
    (hi : Inside (pre + j.val)) (hk : colN (pre + j.val) = o + j.val) :
    extractStridedSlice (Wide N w) ![0, o] x h (ix2 r j) = spread (fun k => x (ix2 r k)) ⟨pre + j.val, hj⟩ := by
  have hlt : o + j.val < 7328 := hk ▸ colN_lt _ hj
  exact (range_apply x h r j ⟨o + j.val, hlt⟩ rfl).trans (spread_of (fun k => x (ix2 r k)) ⟨pre + j.val, hj⟩ ⟨o + j.val, hlt⟩ hi hk).symm

/-- The eight padded groups are the padded row there. -/
theorem groups_spread (h : (Wide N 7328).Slices ![0, 2720] (Wide N 512)) (h1 : (Wide N 512).ShapeCasts (Deep N 8 64))
    (hp : (Deep N 8 64).Pads (![0, 0, 0] : Fin 3 → Nat) ![0, 0, 64] ![0, 0, 0] (Deep N 8 128)) (h0 : 0 < S_.numel)
    (h2 : (Deep N 8 128).ShapeCasts (Wide N 1024)) (r : Fin N) (j : Fin 1024) (hj : 3072 + j.val < 8192) :
    shapeCast (Wide N 1024) (pad (Deep N 8 128) ![0, 0, 0] ![0, 0, 64] ![0, 0, 0] (shapeCast (Deep N 8 64) (extractStridedSlice (Wide N 512) ![0, 2720] x h) h1) zeroW hp h0) h2 (ix2 r j)
      = spread (fun k => x (ix2 r k)) ⟨3072 + j.val, hj⟩ := by
  refine (groups_apply _ h1 hp h0 h2 r j).trans ?_
  by_cases hd : j.val % 128 < 64
  · rw [dif_pos hd]
    refine (range_apply x h r _ ⟨2720 + (64 * (j.val / 128) + j.val % 128), by omega⟩ rfl).trans (spread_of (fun k => x (ix2 r k)) _ _ ?_ ?_).symm
    · show Inside (3072 + j.val)
      unfold Inside
      omega
    · exact (colN_1 (3072 + j.val) (by omega) (by omega)).trans (by show _ = 2720 + (64 * (j.val / 128) + j.val % 128); omega)
  · rw [dif_neg hd]
    refine (spread_zero _ _ ?_).symm
    show ¬Inside (3072 + j.val)
    unfold Inside
    omega

/-- The 32 columns among 128 lanes are the padded row there. -/
theorem lanes_spread (h : (Wide N 7328).Slices ![0, 640] (Wide N 32)) (hp : (Wide N 32).Pads (![0, 64] : Fin 2 → Nat) ![0, 32] ![0, 0] (Wide N 128))
    (h0 : 0 < S_.numel) (r : Fin N) (j : Fin 128) (hj : 7808 + j.val < 8192) :
    pad (Wide N 128) ![0, 64] ![0, 32] ![0, 0] (extractStridedSlice (Wide N 32) ![0, 640] x h) zeroW hp h0 (ix2 r j)
      = spread (fun k => x (ix2 r k)) ⟨7808 + j.val, hj⟩ := by
  refine (lanes_apply _ hp h0 r j).trans ?_
  by_cases hd : 64 ≤ j.val ∧ j.val < 96
  · rw [dif_pos hd]
    refine (range_apply x h r _ ⟨640 + (j.val - 64), by omega⟩ rfl).trans (spread_of (fun k => x (ix2 r k)) _ _ ?_ ?_).symm
    · show Inside (7808 + j.val)
      unfold Inside
      omega
    · exact (colN_10 (7808 + j.val) (by omega)).trans (by show _ = 640 + (j.val - 64); omega)
  · rw [dif_neg hd]
    refine (spread_zero _ _ ?_).symm
    show ¬Inside (7808 + j.val)
    unfold Inside
    omega

/-- The last 256 columns are zero. -/
theorem zeros_spread (hb : S_.BroadcastsInDim (Wide N 256) (![] : Fin 0 → Fin (Wide N 256).rank)) (r : Fin N) (j : Fin 256) (hj : 7936 + j.val < 8192) :
    broadcastInDim (Wide N 256) ![] hb (constant (F := Ideal) S_ .f32 0x00000000#32) (ix2 r j) = spread (fun k => x (ix2 r k)) ⟨7936 + j.val, hj⟩ := by
  refine (broadcastInDim_scalar_apply _ _ _).trans (Ideal.ofBits_zero_f32.trans (spread_zero _ _ ?_).symm)
  show ¬Inside (7936 + j.val)
  unfold Inside
  omega

end Rows

/-! ## The two padded arrays -/

/-- The padded output gradient. -/
def padD (x : S16384x7328.Idx → EReal) : FVec Ideal S16384x8192 .f32 := concatenate S16384x8192 1 [
  ⟨S16384x3072, extractStridedSlice S16384x3072 ![0, 4256] x slices_S16384x7328_S16384x3072_0_4256⟩,
  ⟨S16384x1024, shapeCast S16384x1024 (pad S16384x8x128 ![0, 0, 0] ![0, 0, 64] ![0, 0, 0] (shapeCast S16384x8x64 (extractStridedSlice S16384x512 ![0, 2720] x slices_S16384x7328_S16384x512_0_2720) shapeCasts_S16384x512_S16384x8x64) zeroW pads_S16384x8x64_S16384x8x128_000_000_0640 h_S_) shapeCasts_S16384x8x128_S16384x1024⟩,
  ⟨S16384x512, extractStridedSlice S16384x512 ![0, 672] x slices_S16384x7328_S16384x512_0_672⟩,
  ⟨S16384x512, extractStridedSlice S16384x512 ![0, 2208] x slices_S16384x7328_S16384x512_0_2208⟩,
  ⟨S16384x512, extractStridedSlice S16384x512 ![0, 3232] x slices_S16384x7328_S16384x512_0_3232⟩,
  ⟨S16384x512, extractStridedSlice S16384x512 ![0, 3744] x slices_S16384x7328_S16384x512_0_3744⟩,
  ⟨S16384x512, extractStridedSlice S16384x512 ![0, 1184] x slices_S16384x7328_S16384x512_0_1184⟩,
  ⟨S16384x512, extractStridedSlice S16384x512 ![0, 1696] x slices_S16384x7328_S16384x512_0_1696⟩,
  ⟨S16384x384, extractStridedSlice S16384x384 ![0, 0] x slices_S16384x7328_S16384x384_0_0⟩,
  ⟨S16384x256, extractStridedSlice S16384x256 ![0, 384] x slices_S16384x7328_S16384x256_0_384⟩,
  ⟨S16384x128, pad S16384x128 ![0, 64] ![0, 32] ![0, 0] (extractStridedSlice S16384x32 ![0, 640] x slices_S16384x7328_S16384x32_0_640) zeroW pads_S16384x32_S16384x128_000_64320 h_S_⟩,
  ⟨S16384x256, broadcastInDim S16384x256 ![] bcast_S_S16384x256 (constant S_ .f32 0x00000000#32)⟩] concatenates_S16384x3072_S16384x1024_S16384x512_S16384x512_S16384x512_S16384x512_S16384x512_S16384x512_S16384x384_S16384x256_S16384x128_S16384x256_S16384x8192_d1

set_option maxHeartbeats 2000000 in
theorem padD_apply (x : S16384x7328.Idx → EReal) (r : Fin 16384) (l : Fin 8192) : padD x (ix2 r l) = spread (fun k => x (ix2 r k)) l :=
  pieces_apply (N := 16384) (fun r l => spread (fun k => x (ix2 r k)) l) _ _ _ _ _ _ _ _ _ _ _ _ concatenates_S16384x3072_S16384x1024_S16384x512_S16384x512_S16384x512_S16384x512_S16384x512_S16384x512_S16384x384_S16384x256_S16384x128_S16384x256_S16384x8192_d1
    (fun r j => range_spread x slices_S16384x7328_S16384x3072_0_4256 0 r j (by omega) (by unfold Inside; omega) ((colN_0 _ (by omega) (by omega)).trans (by omega)))
    (fun r j => groups_spread x slices_S16384x7328_S16384x512_0_2720 _ _ _ _ r j (by omega))
    (fun r j => range_spread x slices_S16384x7328_S16384x512_0_672 4096 r j (by omega) (by unfold Inside; omega) ((colN_2 _ (by omega) (by omega)).trans (by omega)))
    (fun r j => range_spread x slices_S16384x7328_S16384x512_0_2208 4608 r j (by omega) (by unfold Inside; omega) ((colN_3 _ (by omega) (by omega)).trans (by omega)))
    (fun r j => range_spread x slices_S16384x7328_S16384x512_0_3232 5120 r j (by omega) (by unfold Inside; omega) ((colN_4 _ (by omega) (by omega)).trans (by omega)))
    (fun r j => range_spread x slices_S16384x7328_S16384x512_0_3744 5632 r j (by omega) (by unfold Inside; omega) ((colN_5 _ (by omega) (by omega)).trans (by omega)))
    (fun r j => range_spread x slices_S16384x7328_S16384x512_0_1184 6144 r j (by omega) (by unfold Inside; omega) ((colN_6 _ (by omega) (by omega)).trans (by omega)))
    (fun r j => range_spread x slices_S16384x7328_S16384x512_0_1696 6656 r j (by omega) (by unfold Inside; omega) ((colN_7 _ (by omega) (by omega)).trans (by omega)))
    (fun r j => range_spread x slices_S16384x7328_S16384x384_0_0 7168 r j (by omega) (by unfold Inside; omega) ((colN_8 _ (by omega) (by omega)).trans (by omega)))
    (fun r j => range_spread x slices_S16384x7328_S16384x256_0_384 7552 r j (by omega) (by unfold Inside; omega) ((colN_9 _ (by omega) (by omega)).trans (by omega)))
    (fun r j => lanes_spread x slices_S16384x7328_S16384x32_0_640 _ _ r j (by omega))
    (fun r j => zeros_spread x bcast_S_S16384x256 r j (by omega))
    r l

/-- The padded weights. -/
def padW (x : S1024x7328.Idx → EReal) : FVec Ideal S1024x8192 .f32 := concatenate S1024x8192 1 [
  ⟨S1024x3072, extractStridedSlice S1024x3072 ![0, 4256] x slices_S1024x7328_S1024x3072_0_4256⟩,
  ⟨S1024x1024, shapeCast S1024x1024 (pad S1024x8x128 ![0, 0, 0] ![0, 0, 64] ![0, 0, 0] (shapeCast S1024x8x64 (extractStridedSlice S1024x512 ![0, 2720] x slices_S1024x7328_S1024x512_0_2720) shapeCasts_S1024x512_S1024x8x64) zeroW pads_S1024x8x64_S1024x8x128_000_000_0640 h_S_) shapeCasts_S1024x8x128_S1024x1024⟩,
  ⟨S1024x512, extractStridedSlice S1024x512 ![0, 672] x slices_S1024x7328_S1024x512_0_672⟩,
  ⟨S1024x512, extractStridedSlice S1024x512 ![0, 2208] x slices_S1024x7328_S1024x512_0_2208⟩,
  ⟨S1024x512, extractStridedSlice S1024x512 ![0, 3232] x slices_S1024x7328_S1024x512_0_3232⟩,
  ⟨S1024x512, extractStridedSlice S1024x512 ![0, 3744] x slices_S1024x7328_S1024x512_0_3744⟩,
  ⟨S1024x512, extractStridedSlice S1024x512 ![0, 1184] x slices_S1024x7328_S1024x512_0_1184⟩,
  ⟨S1024x512, extractStridedSlice S1024x512 ![0, 1696] x slices_S1024x7328_S1024x512_0_1696⟩,
  ⟨S1024x384, extractStridedSlice S1024x384 ![0, 0] x slices_S1024x7328_S1024x384_0_0⟩,
  ⟨S1024x256, extractStridedSlice S1024x256 ![0, 384] x slices_S1024x7328_S1024x256_0_384⟩,
  ⟨S1024x128, pad S1024x128 ![0, 64] ![0, 32] ![0, 0] (extractStridedSlice S1024x32 ![0, 640] x slices_S1024x7328_S1024x32_0_640) zeroW pads_S1024x32_S1024x128_000_64320 h_S_⟩,
  ⟨S1024x256, broadcastInDim S1024x256 ![] bcast_S_S1024x256 (constant S_ .f32 0x00000000#32)⟩] concatenates_S1024x3072_S1024x1024_S1024x512_S1024x512_S1024x512_S1024x512_S1024x512_S1024x512_S1024x384_S1024x256_S1024x128_S1024x256_S1024x8192_d1

set_option maxHeartbeats 2000000 in
theorem padW_apply (x : S1024x7328.Idx → EReal) (r : Fin 1024) (l : Fin 8192) : padW x (ix2 r l) = spread (fun k => x (ix2 r k)) l :=
  pieces_apply (N := 1024) (fun r l => spread (fun k => x (ix2 r k)) l) _ _ _ _ _ _ _ _ _ _ _ _ concatenates_S1024x3072_S1024x1024_S1024x512_S1024x512_S1024x512_S1024x512_S1024x512_S1024x512_S1024x384_S1024x256_S1024x128_S1024x256_S1024x8192_d1
    (fun r j => range_spread x slices_S1024x7328_S1024x3072_0_4256 0 r j (by omega) (by unfold Inside; omega) ((colN_0 _ (by omega) (by omega)).trans (by omega)))
    (fun r j => groups_spread x slices_S1024x7328_S1024x512_0_2720 _ _ _ _ r j (by omega))
    (fun r j => range_spread x slices_S1024x7328_S1024x512_0_672 4096 r j (by omega) (by unfold Inside; omega) ((colN_2 _ (by omega) (by omega)).trans (by omega)))
    (fun r j => range_spread x slices_S1024x7328_S1024x512_0_2208 4608 r j (by omega) (by unfold Inside; omega) ((colN_3 _ (by omega) (by omega)).trans (by omega)))
    (fun r j => range_spread x slices_S1024x7328_S1024x512_0_3232 5120 r j (by omega) (by unfold Inside; omega) ((colN_4 _ (by omega) (by omega)).trans (by omega)))
    (fun r j => range_spread x slices_S1024x7328_S1024x512_0_3744 5632 r j (by omega) (by unfold Inside; omega) ((colN_5 _ (by omega) (by omega)).trans (by omega)))
    (fun r j => range_spread x slices_S1024x7328_S1024x512_0_1184 6144 r j (by omega) (by unfold Inside; omega) ((colN_6 _ (by omega) (by omega)).trans (by omega)))
    (fun r j => range_spread x slices_S1024x7328_S1024x512_0_1696 6656 r j (by omega) (by unfold Inside; omega) ((colN_7 _ (by omega) (by omega)).trans (by omega)))
    (fun r j => range_spread x slices_S1024x7328_S1024x384_0_0 7168 r j (by omega) (by unfold Inside; omega) ((colN_8 _ (by omega) (by omega)).trans (by omega)))
    (fun r j => range_spread x slices_S1024x7328_S1024x256_0_384 7552 r j (by omega) (by unfold Inside; omega) ((colN_9 _ (by omega) (by omega)).trans (by omega)))
    (fun r j => lanes_spread x slices_S1024x7328_S1024x32_0_640 _ _ r j (by omega))
    (fun r j => zeros_spread x bcast_S_S1024x256 r j (by omega))
    r l

end Cert.InBwd
end
-- ==== Proof.InFound.lean ====
/-
  What the projection's gradient launch finds in its arrays: the padded output gradient in three ranges of columns, the
  padded weights transposed, the gain as a row, and two arguments themselves.
-/
module

public import proofs.«01_k».proof.Proof.InPadded

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.ValueIdx Idealize.ShloMosaic.StableHlo
open Cert.Kernel3Ideal Cert.Kernel3Ideal.Gen

section Found

variable (m : (ℓ : Loc nD τ sig) → Buf (Elt Ideal) ℓ) (c : Dev nD)

/-- The five arguments. -/
abbrev a0 : S16384x1024.Idx → EReal := m ((c : Thread nD τ).loc main_arg0)
abbrev a1 : S1024.Idx → EReal := m ((c : Thread nD τ).loc main_arg1)
abbrev a2 : S1024x7328.Idx → EReal := m ((c : Thread nD τ).loc main_arg2)
abbrev a3 : S16384x7328.Idx → EReal := m ((c : Thread nD τ).loc main_arg3)
abbrev a4 : S16384x1024.Idx → EReal := m ((c : Thread nD τ).loc main_arg4)

theorem found_x : fx m c = a0 m c := by
  simp only [fx, V, List.flatten, List.append]
  after_reads_simp

theorem found_g : fg m c = a4 m c := by
  simp only [fg, V, List.flatten, List.append]
  after_reads_simp

theorem found_n : fn m c = broadcastInDim S1x1024 ![1] bcast_S1024_S1x1024_1 (a1 m c) := by
  simp only [fn, V, List.flatten, List.append]
  after_reads_simp

theorem found_m : fm m c = extractStridedSlice S16384x6144 ![0, 0] (truncf (F := Ideal) .bf16 (padD (a3 m c)) bitsLt_bf16_f32) slices_S16384x8192_S16384x6144_0_0 := by
  simp only [fm, V, List.flatten, List.append]
  after_reads_simp
  rfl

theorem found_c : fc m c = extractStridedSlice S16384x1024 ![0, 6144] (truncf (F := Ideal) .bf16 (padD (a3 m c)) bitsLt_bf16_f32) slices_S16384x8192_S16384x1024_0_6144 := by
  simp only [fc, V, List.flatten, List.append]
  after_reads_simp
  rfl

theorem found_a : fa m c = extractStridedSlice S16384x1024 ![0, 7168] (truncf (F := Ideal) .bf16 (padD (a3 m c)) bitsLt_bf16_f32) slices_S16384x8192_S16384x1024_0_7168 := by
  simp only [fa, V, List.flatten, List.append]
  after_reads_simp
  rfl

theorem found_w : fw m c = truncf (F := Ideal) .bf16 (transpose S8192x1024 [1, 0] (padW (a2 m c)) transposes_S1024x8192_S8192x1024_1_0) bitsLt_bf16_f32 := by
  simp only [fw, V, List.flatten, List.append]
  after_reads_simp
  rfl

/-! ## Read at an index -/

variable (s : Fin 16384) (n : Fin 1024)

theorem at_m (l : Fin 6144) : fm m c (ix2 s l) = spread (fun k => a3 m c (ix2 s k)) (lm l) := by
  rw [found_m]
  refine (extractStridedSlice_apply _ _ _ _ (ix2 s (lm l)) fun a => ?_).trans (padD_apply (a3 m c) s (lm l))
  match a with
  | ⟨0, _⟩ => exact (Nat.zero_add _).symm
  | ⟨1, _⟩ => exact (Nat.zero_add _).symm

theorem at_c (l : Fin 1024) : fc m c (ix2 s l) = spread (fun k => a3 m c (ix2 s k)) (lc l) := by
  rw [found_c]
  refine (extractStridedSlice_apply _ _ _ _ (ix2 s (lc l)) fun a => ?_).trans (padD_apply (a3 m c) s (lc l))
  match a with
  | ⟨0, _⟩ => exact (Nat.zero_add _).symm
  | ⟨1, _⟩ => rfl

theorem at_a (l : Fin 1024) : fa m c (ix2 s l) = spread (fun k => a3 m c (ix2 s k)) (la l) := by
  rw [found_a]
  refine (extractStridedSlice_apply _ _ _ _ (ix2 s (la l)) fun a => ?_).trans (padD_apply (a3 m c) s (la l))
  match a with
  | ⟨0, _⟩ => exact (Nat.zero_add _).symm
  | ⟨1, _⟩ => rfl

theorem at_w (l : Fin 8192) : fw m c (ix2 l n) = spread (fun k => a2 m c (ix2 n k)) l := by
  rw [found_w]
  refine Eq.trans ?_ (padW_apply (a2 m c) n l)
  exact congrArg (padW (a2 m c)) (funext fun a => Fin.ext (by match a with | ⟨0, _⟩ => rfl | ⟨1, _⟩ => rfl))

theorem at_n : fn m c (ix2 0 n) = a1 m c (ix1 n) := by
  rw [found_n]
  exact congrArg (a1 m c) (funext fun a => Fin.ext (by match a with | ⟨0, _⟩ => rfl))

end Found

end Cert.InBwd
end
-- ==== Proof.InRef.lean ====
/-
  The reference of the projection's gradient read at an index: the gradient of the normalised input, the correction of each
  row, and the two results; over real arguments each is a real.
-/
module

public import proofs.«01_k».proof.Proof.InNorm
public import proofs.«01_k».proof.Proof.Softmax
public import proofs.«01_k».proof.Proof.Gen.Reference3Ideal.Read

@[expose] public section

set_option maxRecDepth 16384

noncomputable section

namespace Cert.InBwd

open Idealize.ShloMosaic
open Idealize.ShloMosaic.TcCoe Idealize.ShloMosaic.ValueIdx Idealize.ShloMosaic.StableHlo
open Cert.Reference3Ideal Cert.Reference3Ideal.Gen Cert.Reference3Ideal.Read
open Cert.AttnBwd (coe_sum)

section Indices

variable (s : Fin 16384) (n : Fin 1024)

theorem idx_1 (k : Fin 1024) : idx_main_v1 (ix1 s) k = ix2 s k := funext fun a => Fin.ext (by match a with | ⟨0, _⟩ => rfl | ⟨1, _⟩ => rfl)
theorem idx_2 : idx_main_v2 (ix2 s 0) = ix1 s := funext fun a => Fin.ext (by match a with | ⟨0, _⟩ => rfl)
theorem idx_11 : idx_main_v11 (ix2 s n) = ix2 s 0 := funext fun a => Fin.ext (by match a with | ⟨0, _⟩ => rfl | ⟨1, _⟩ => rfl)
theorem idx_13 : idx_main_v13 (ix2 0 n) = ix1 n := funext fun a => Fin.ext (by match a with | ⟨0, _⟩ => rfl)
theorem lidx_17 (l : Fin 7328) : lidx_main_v17 (ix2 s n) l = ix2 s l := funext fun a => Fin.ext (by match a with | ⟨0, _⟩ => rfl | ⟨1, _⟩ => rfl)
theorem ridx_17 (l : Fin 7328) : ridx_main_v17 (ix2 s n) l = ix2 n l := funext fun a => Fin.ext (by match a with | ⟨0, _⟩ => rfl | ⟨1, _⟩ => rfl)
theorem idx_19 (k : Fin 16384) : idx_main_v19 (ix1 n) k = ix2 k n := funext fun a => Fin.ext (by match a with | ⟨0, _⟩ => rfl | ⟨1, _⟩ => rfl)
theorem idx_20 : idx_main_v20 (ix2 0 n) = ix1 n := funext fun a => Fin.ext (by match a with | ⟨0, _⟩ => show 0 * 1024 + n.val = n.val; omega)
theorem idx_21 : idx_main_v21 (ix2 s n) = ix2 0 n := funext fun a => Fin.ext (by match a with | ⟨0, _⟩ => rfl | ⟨1, _⟩ => rfl)
theorem idx_23 : idx_main_v23 (ix1 n) 0 = ix2 0 n := funext fun a => Fin.ext (by match a with | ⟨0, _⟩ => rfl | ⟨1, _⟩ => rfl)
theorem idx_25 (k : Fin 1024) : idx_main_v25 (ix1 s) k = ix2 s k := funext fun a => Fin.ext (by match a with | ⟨0, _⟩ => rfl | ⟨1, _⟩ => rfl)
theorem idx_26 : idx_main_v26 (ix2 s 0) = ix1 s := funext fun a => Fin.ext (by match a with | ⟨0, _⟩ => show s.val * 1 + 0 = s.val; omega)
theorem idx_27 : idx_main_v27 (ix2 s n) = ix2 s 0 := funext fun a => Fin.ext (by match a with | ⟨0, _⟩ => rfl | ⟨1, _⟩ => rfl)
theorem idx_33 : idx_main_v33 (ix1 s) 0 = ix2 s 0 := funext fun a => Fin.ext (by match a with | ⟨0, _⟩ => rfl | ⟨1, _⟩ => rfl)
theorem idx_34 : idx_main_v34 (ix2 s n) = ix1 s := funext fun a => Fin.ext (by match a with | ⟨0, _⟩ => rfl)
theorem idx_39 : idx_main_v39 (ix2 0 n) = ix1 n := funext fun a => Fin.ext (by match a with | ⟨0, _⟩ => rfl)

theorem zero_0 (i : S_.Idx) : val_main_cst (F := Ideal) i = 0 := Ideal.ofBits_zero_f32
theorem zero_3 (i : S_.Idx) : val_main_cst_3 (F := Ideal) i = 0 := Ideal.ofBits_zero_f32
theorem zero_4 (i : S_.Idx) : val_main_cst_4 (F := Ideal) i = 0 := Ideal.ofBits_zero_f32
theorem zero_5 (i : S_.Idx) : val_main_cst_5 (F := Ideal) i = 0 := Ideal.ofBits_zero_f32
theorem zero_7 (i : S_.Idx) : val_main_cst_7 (F := Ideal) i = 0 := Ideal.ofBits_zero_f32
theorem at_3 (i : S16384x1.Idx) : val_main_v3 (F := Ideal) i = ((1024 : ℝ) : EReal) := by
  rw [val_main_v3_apply, val_main_cst_0_apply]; exact word_1024
theorem at_5 (i : S16384x1.Idx) : val_main_v5 (F := Ideal) i = (eps : EReal) := by
  rw [val_main_v5_apply, val_main_cst_1_apply]; exact kE_eq
theorem at_9 (i : S16384x1.Idx) : val_main_v9 (F := Ideal) i = ((-(1 / 2) : ℝ) : EReal) := by
  rw [val_main_v9_apply, val_main_cst_2_apply]; exact word_half
theorem at_31 (i : S16384x1.Idx) : val_main_v31 (F := Ideal) i = ((1024 : ℝ) : EReal) := by
  rw [val_main_v31_apply, val_main_cst_6_apply]; exact word_1024

end Indices

/-- The five arguments are real. -/
structure Holds (x0 : S16384x1024.Idx → EReal) (x1 : S1024.Idx → EReal) (x2 : S1024x7328.Idx → EReal) (x3 : S16384x7328.Idx → EReal) (x4 : S16384x1024.Idx → EReal)
    (X : Fin 16384 → Fin 1024 → ℝ) (γ : Fin 1024 → ℝ) (W : Fin 1024 → Fin 7328 → ℝ) (D : Fin 16384 → Fin 7328 → ℝ) (G : Fin 16384 → Fin 1024 → ℝ) : Prop where
  x : ∀ s n, x0 (ix2 s n) = (X s n : EReal)
  n : ∀ n, x1 (ix1 n) = (γ n : EReal)
  w : ∀ n l, x2 (ix2 n l) = (W n l : EReal)
  d : ∀ s l, x3 (ix2 s l) = (D s l : EReal)
  g : ∀ s n, x4 (ix2 s n) = (G s n : EReal)

/-- The gradient of the normalised input of row `s`. -/
def hid (W : Fin 1024 → Fin 7328 → ℝ) (D : Fin 16384 → Fin 7328 → ℝ) (s : Fin 16384) (n : Fin 1024) : ℝ := ∑ l, D s l * W n l

variable {x0 : S16384x1024.Idx → EReal} {x1 : S1024.Idx → EReal} {x2 : S1024x7328.Idx → EReal} {x3 : S16384x7328.Idx → EReal} {x4 : S16384x1024.Idx → EReal}
  {X : Fin 16384 → Fin 1024 → ℝ} {γ : Fin 1024 → ℝ} {W : Fin 1024 → Fin 7328 → ℝ} {D : Fin 16384 → Fin 7328 → ℝ} {G : Fin 16384 → Fin 1024 → ℝ}
  (H : Holds x0 x1 x2 x3 x4 X γ W D G) (s : Fin 16384) (n : Fin 1024)

include H

theorem at_6 : val_main_v6 (F := Ideal) x0 (ix2 s 0) = (ms (X s) : EReal) := by
  rw [val_main_v6_apply, val_main_v4_apply, at_3, at_5, val_main_v2_apply, idx_2, val_main_v1_apply, zero_0, zero_add]
  simp only [idx_1, val_main_v0_apply, H.x, Ideal.addf_def, Ideal.mulf_def, Ideal.hostDivf_def]
  have e : ms (X s) = (∑ k, X s k * X s k) * (1 / 1024) + eps := by rw [ms, div_eq_mul_one_div]
  rw [Ideal.div_coe (by norm_num), e, EReal.coe_add, EReal.coe_mul, coe_sum]
  simp only [EReal.coe_mul]

theorem at_7 : val_main_v7 (F := Ideal) x0 (ix2 s 0) = (inv (X s) : EReal) := by
  rw [val_main_v7_apply, at_6 H, Ideal.hostUnary_rsqrt_def, rsqrt_ms]

theorem at_10 : val_main_v10 (F := Ideal) x0 (ix2 s 0) = ((-(1 / 2) * (inv (X s) * (1 / ms (X s))) : ℝ) : EReal) := by
  rw [val_main_v10_apply, at_9, val_main_v8_apply, at_6 H, at_7 H, Ideal.mulf_def, Ideal.hostDivf_def, Ideal.div_coe (ms_pos _).ne', ← EReal.coe_mul, ← EReal.coe_mul]

theorem at_12 : val_main_v12 (F := Ideal) x0 (ix2 s n) = ((X s n * inv (X s) : ℝ) : EReal) := by
  rw [val_main_v12_apply, val_main_v11_apply, idx_11, at_7 H, H.x, Ideal.mulf_def, ← EReal.coe_mul]

theorem at_17 : val_main_v17 (F := Ideal) x2 x3 (ix2 s n) = (hid W D s n : EReal) := by
  rw [val_main_v17_apply, hid, coe_sum]
  simp only [lidx_17, ridx_17, H.d, H.w, EReal.coe_mul]

theorem at_22 : val_main_v22 (F := Ideal) x1 x2 x3 (ix2 s n) = ((hid W D s n * γ n : ℝ) : EReal) := by
  rw [val_main_v22_apply, at_17 H, val_main_v21_apply, idx_21, val_main_v13_apply, idx_13, H.n, Ideal.mulf_def, ← EReal.coe_mul]

theorem at_26 : val_main_v26 (F := Ideal) x0 x1 x2 x3 (ix2 s 0) = ((∑ k, X s k * (hid W D s k * γ k) : ℝ) : EReal) := by
  rw [val_main_v26_apply, idx_26, val_main_v25_apply, zero_5, zero_add, coe_sum]
  refine Finset.sum_congr rfl fun k _ => ?_
  rw [idx_25, val_main_v24_apply, at_22 H, H.x, Ideal.mulf_def, ← EReal.coe_mul]

theorem at_34 : val_main_v34 (F := Ideal) x0 x1 x2 x3 (ix2 s n) = (corr (X s) (hid W D s) γ : EReal) := by
  rw [val_main_v34_apply, idx_34, val_main_v33_apply, zero_7, zero_add, Fin.sum_univ_one, idx_33, val_main_v32_apply, at_31, val_main_v30_apply, at_26 H, at_10 H,
    Ideal.mulf_def, Ideal.hostDivf_def, Ideal.div_coe (by norm_num), ← EReal.coe_mul, ← EReal.coe_mul, corr]

/-- The residual gradient. -/
theorem ref_dx : val_main_v38 (F := Ideal) x0 x1 x2 x3 x4 (ix2 s n) = (rowGrad (X s) (hid W D s) γ (G s) n : EReal) := by
  rw [val_main_v38_apply, val_main_v37_apply, val_main_v36_apply, val_main_v35_apply, val_main_v29_apply, val_main_v28_apply, val_main_v27_apply, idx_27,
    at_34 H, at_22 H, at_7 H, H.x, H.g, ← rowGrad_eq]
  simp only [Ideal.mulf_def, Ideal.addf_def, ← EReal.coe_mul, ← EReal.coe_add]

/-- The gain's gradient. -/
theorem ref_dn : val_main_v39 (F := Ideal) x0 x2 x3 (ix2 0 n) = ((∑ s, hid W D s n * (X s n * inv (X s)) : ℝ) : EReal) := by
  rw [val_main_v39_apply, idx_39, val_main_v23_apply, zero_4, zero_add, Fin.sum_univ_one, idx_23, val_main_v20_apply, idx_20, val_main_v19_apply, zero_3, zero_add, coe_sum]
  refine Finset.sum_congr rfl fun k _ => ?_
  rw [idx_19, val_main_v18_apply, at_12 H, at_17 H, Ideal.mulf_def, ← EReal.coe_mul, mul_comm]

end Cert.InBwd
end
-- ==== Proof.InEquation.lean ====
/-
  Over real arguments the projection's gradient launch computes the reference's results: the padded columns drop out of the
  inner products, each row's gradient is a real, and the gain's gradient is the sum over every row.
-/
module

public import proofs.«01_k».proof.Proof.InFound
public import proofs.«01_k».proof.Proof.InRef

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.ValueIdx Idealize.ShloMosaic.StableHlo
open Cert.Kernel3Ideal Cert.Kernel3Ideal.Gen
open Cert.AttnBwd (coe_sum)

variable (m : (ℓ : Loc nD τ sig) → Buf (Elt Ideal) ℓ) (c : Dev nD)
  {X : Fin 16384 → Fin 1024 → ℝ} {γ : Fin 1024 → ℝ} {W : Fin 1024 → Fin 7328 → ℝ} {D : Fin 16384 → Fin 7328 → ℝ} {G : Fin 16384 → Fin 1024 → ℝ}
  (H : Holds (a0 m c) (a1 m c) (a2 m c) (a3 m c) (a4 m c) X γ W D G) (t : Fin cfg0.N) (r : Fin 512) (n : Fin 1024)

include H

/-- The gradient of the normalised input of a tile's row. -/
theorem dh_row : dh (ins m c t) (ix2 r n) = (hid W D (trow t r) n : EReal) := by
  refine (dh_apply (ins m c t) r n (spread fun k => a3 m c (ix2 (trow t r) k)) (fun l => (ins_dm m c t r l).trans (at_m m c _ l))
    (fun l => (ins_dc m c t r l).trans (at_c m c _ l)) (fun l => (ins_da m c t r l).trans (at_a m c _ l))).trans ?_
  refine (Finset.sum_congr rfl fun l _ => congrArg (_ * ·) ((ins_w m c t n l).trans (at_w m c n l))).trans ?_
  refine (sum_spread _ _).trans ?_
  rw [hid, coe_sum]
  refine Finset.sum_congr rfl fun k _ => ?_
  rw [H.d, H.w, EReal.coe_mul]

theorem x_row : (ins m c t).x (ix2 r n) = (X (trow t r) n : EReal) := by
  rw [ins_x, found_x]
  exact H.x _ _

theorem g_row : (ins m c t).g (ix2 r n) = (G (trow t r) n : EReal) := by
  rw [ins_g, found_g]
  exact H.g _ _

theorem n_row : (ins m c t).n (ix2 0 n) = (γ n : EReal) := by
  rw [ins_n, at_n]
  exact H.n _

/-- The reciprocal root of a tile's row. -/
theorem rn_row : rn (ins m c t).x r = (inv (X (trow t r)) : EReal) := by
  unfold rn
  simp only [x_row m c H]
  have e : ms (X (trow t r)) = (∑ k, X (trow t r) k * X (trow t r) k) * (1 / 1024) + eps := by rw [ms, div_eq_mul_one_div]
  rw [kN_eq, kE_eq, ← rsqrt_ms, e, EReal.coe_add, EReal.coe_mul, coe_sum]
  simp only [EReal.coe_mul]

theorem dx_row : dx (ins m c t) (ix2 r n) = (rowGrad (X (trow t r)) (hid W D (trow t r)) γ (G (trow t r)) n : EReal) := by
  rw [dx_apply]
  simp only [dh_row m c H, x_row m c H, g_row m c H, n_row m c H, rn_row m c H, kN_eq, ← EReal.coe_mul]
  rw [← coe_sum]
  simp only [← EReal.coe_mul, ← EReal.coe_sub, ← EReal.coe_add]
  rfl

/-- The residual gradient is the reference's. -/
theorem eq_dx : (dats m 0 c).arrAt 7 cfg0.N = Cert.Reference3Ideal.Read.val_main_v38 (F := Ideal) (a0 m c) (a1 m c) (a2 m c) (a3 m c) (a4 m c) :=
  arr_dx m c _ fun t r n => (dx_row m c H t r n).trans (ref_dx H (trow t r) n).symm

/-- The gain's gradient is the reference's. -/
theorem eq_dn : (dats m 0 c).arrAt 8 cfg0.N = Cert.Reference3Ideal.Read.val_main_v39 (F := Ideal) (a0 m c) (a2 m c) (a3 m c) := by
  refine (arr_dn m c (fun n s => ((hid W D s n * (X s n * inv (X s)) : ℝ) : EReal)) fun t r n => ?_).trans (funext fun i => ?_)
  · rw [dh_row m c H, x_row m c H, rn_row m c H, ← EReal.coe_mul, ← EReal.coe_mul]
  · have hi : i = ix2 0 (i 1) := (eq_ix2 i).trans (congrArg (fun z : Fin 1 => ix2 z (i 1)) (Subsingleton.elim (α := Fin 1) (i 0) 0))
    rw [← coe_sum]
    refine Eq.trans ?_ (congrArg _ hi).symm
    exact (ref_dn H (i 1)).symm

end Cert.InBwd
end
-- ==== Proof.InFinite.lean ====
/-
  The precondition of the projection's gradient read: every element of its five arguments is a real.
-/
module

public import proofs.«01_k».proof.Proof.Finite
public import proofs.«01_k».proof.Proof.InEquation
public import proofs.«01_k».proof.Pre_all_finite3

@[expose] public section

set_option maxRecDepth 16384

noncomputable section

namespace Cert.InBwd

open Idealize.ShloMosaic hiding ix0 ix1 ix2 ix3 ix4 ix5 eq_ix2 eq_ix3
open Idealize.ShloMosaic.TcCoe Idealize.ShloMosaic.ValueIdx Idealize.ShloMosaic.StableHlo
open Cert.Kernel3Ideal Cert.Kernel3Ideal.Gen
open Cert.AttnBwd (real_of_all)

/-- The side conditions the precondition's operations state. -/
instance preFacts : Cert.Pre_all_finite3.Facts where
  bcast_S_S16384x1024 := by decide
  reducesTo_S16384x1024_S_d0_1 := by decide
  h_S_ := h_S_
  bcast_S_S1024 := by decide
  reducesTo_S1024_S_d0 := by decide
  bcast_S_S1024x7328 := by decide
  reducesTo_S1024x7328_S_d0_1 := by decide
  bcast_S_S16384x7328 := by decide
  reducesTo_S16384x7328_S_d0_1 := by decide

/-- Arguments that satisfy the precondition hold reals. -/
theorem holds_of_finite (x0 : S16384x1024.Idx → EReal) (x1 : S1024.Idx → EReal) (x2 : S1024x7328.Idx → EReal) (x3 : S16384x7328.Idx → EReal) (x4 : S16384x1024.Idx → EReal)
    (h : Cert.Pre_all_finite3.fn (F := Ideal) x0 x1 x2 x3 x4 = fun _ => 1#1) :
    ∃ X γ W D G, Holds x0 x1 x2 x3 x4 X γ W D G := by
  have j : S_.Idx := fun a => a.elim0
  have e := congrFun h j
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  choose r0 h0 using real_of_all x0 _ _ _ j e0
  choose r1 h1 using real_of_all x1 _ _ _ j e1
  choose r2 h2 using real_of_all x2 _ _ _ j e2
  choose r3 h3 using real_of_all x3 _ _ _ j e3
  choose r4 h4 using real_of_all x4 _ _ _ j e4
  exact ⟨fun s n => r0 (ix2 s n), fun n => r1 (ix1 n), fun n l => r2 (ix2 n l), fun s l => r3 (ix2 s l), fun s n => r4 (ix2 s n),
    fun _ _ => h0 _, fun _ => h1 _, fun _ _ => h2 _, fun _ _ => h3 _, fun _ _ => h4 _⟩

end Cert.InBwd
end
-- ==== Proof.GradWPoint.lean ====
/-
  What one grid point of the weights' gradient kernel leaves in its block: the contents before it, or zero at a block's first
  point, with the product of its two tiles over their rows added.
-/
module

public import proofs.«01_k».proof.Proof.Gen.Kernel4Ideal.Frame
public import Idealize.ShloMosaic.Lib.Pointwise.Contract
public import Idealize.ShloMosaic.Lib.Pipeline.Value
public import Idealize.ShloMosaic.Lib.Pipeline.ValueKit
public import Idealize.ShloMosaic.Lib.ValueLayoutCasts
public import Idealize.ShloMosaic.Lib.IdealHost
public import Idealize.ShloMosaic.Lib.MatmulPlain

@[expose] public section

set_option maxRecDepth 16384

noncomputable section

namespace Cert.InWeight

open Idealize.ShloMosaic hiding ix0 ix1 ix2 ix3 ix4 ix5 eq_ix2 eq_ix3
open Idealize.ShloMosaic.TcCoe Idealize.ShloMosaic.Tactic Idealize.ShloMosaic.ValueIdx
open Cert.Kernel4Ideal Cert.Kernel4Ideal.Gen

section body

variable {F : FTy → Type} [FloatOps F]

theorem hz : (![0, 0] : Fin 2 → Nat) = fun _ => 0 := by
  funext a
  match a with
  | ⟨0, _⟩ => rfl
  | ⟨1, _⟩ => rfl

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (x0 x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S2048x1024) hz]

theorem out_B (hc0 : ¬cond0_0 i) (a : Vec F S1024x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S1024x1024) hz]
  simp only [View.readAt_eq_ld, harg3.read_unread, harg4.read_unread, harg5.read_unread, View.ld_unit_zero (S := S2048x1024) hz, View.ld_unit_zero (S := S1024x1024) hz]

end body

/-! ## Over the extended reals -/

theorem add_at {s : Shape} (u v : FVec Ideal s .f32) (i : s.Idx) : addf u v i = u i + v i := rfl

/-- The product over the rows. -/
theorem dot_rows (u w : FVec Ideal S2048x1024 .bf16) (a b : Fin 1024) :
    matmul dot_S2048x1024_S2048x1024_S1024x1024_0_0_1_1_n_n none u w (constant S1024x1024 .f32 0x00000000#32) (ix2 a b) = ∑ r : Fin 2048, u (ix2 r a) * w (ix2 r b) := by
  show FloatOps.matmul (F := Ideal) dot_S2048x1024_S2048x1024_S1024x1024_0_0_1_1_n_n none u w (constant S1024x1024 .f32 0x00000000#32) (ix2 a b) = _
  rw [Ideal.matmul_apply, ← Equiv.sum_comp (contrEquiv1 dot_S2048x1024_S2048x1024_S1024x1024_0_0_1_1_n_n 2048 rfl rfl).symm,
    show (constant (F := Ideal) S1024x1024 .f32 0x00000000#32 (ix2 a b) : EReal) = 0 from Ideal.ofBits_zero_f32, zero_add]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b) ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b) ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S1024x1024 .f32) (u w : Vec Ideal S2048x1024 .bf16) (a b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S1024x1024.Idx) : (k0_pay1 (F := Ideal) i : EReal) = 0 := Ideal.ofBits_zero_f32

end Cert.InWeight
end
-- ==== Proof.GradWEquation.lean ====
/-
  The weights' gradient launch: the tiles a grid point finds, each block of columns as the sum of its eight tiles' products,
  and that the array is the reference's product of the transposed rows.
-/
module

public import proofs.«01_k».proof.Proof.GradWPoint
public import proofs.«01_k».proof.Proof.Gen.Kernel4Ideal.Value
public import proofs.«01_k».proof.Proof.Gen.Reference4Ideal.Read
public import Idealize.ShloMosaic.Lib.StableHlo.RunRead
public import Idealize.ShloMosaic.Lib.KernelVsHost

@[expose] public section

set_option maxRecDepth 16384

noncomputable section

namespace Cert.InWeight

open Idealize.ShloMosaic hiding ix0 ix1 ix2 ix3 ix4 ix5 eq_ix2 eq_ix3
open Idealize.ShloMosaic.TcCoe Idealize.ShloMosaic.ValueIdx Idealize.ShloMosaic.StableHlo
open Idealize.ShloMosaic.Pipeline (Dat)
open Cert.Kernel4Ideal Cert.Kernel4Ideal.Gen

variable (m : (ℓ : Loc nD τ sig) → Buf (Elt Ideal) ℓ) (c : Dev nD)

/-- The two arguments. -/
abbrev a0 : S16384x1024.Idx → EReal := m ((c : Thread nD τ).loc main_arg0)
abbrev a1 : S16384x6144.Idx → EReal := m ((c : Thread nD τ).loc main_arg1)

theorem found_x : (V m c main_v0 : S16384x1024.Idx → EReal) = a0 m c := by
  simp only [V, List.flatten, List.append]
  after_reads_simp
  rfl

theorem found_d : (V m c main_v1 : S16384x6144.Idx → EReal) = a1 m c := by
  simp only [V, List.flatten, List.append]
  after_reads_simp
  rfl

/-- Row `r` of tile `k`, and column `b` of block `j`. -/
abbrev trow (k : Fin 8) (r : Fin 2048) : Fin 16384 := ⟨2048 * k.val + r.val, by omega⟩
abbrev bcol (j : Fin 6) (b : Fin 1024) : Fin 6144 := ⟨1024 * j.val + b.val, by omega⟩

/-- A point's tile and block. -/
abbrev tile (t : Fin cfg0.N) : Fin 8 := ⟨t.val % 8, Nat.mod_lt _ (by decide)⟩
abbrev blk (t : Fin cfg0.N) : Fin 6 := ⟨t.val / 8, by have : cfg0.N = 48 := N_0; have := t.isLt; omega⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = t.val / 8 := by decide +kernel
theorem index_2 : ∀ t : Fin grid0.N, win0_2.index t 0 = 0 ∧ win0_2.index t 1 = t.val / 8 := by decide +kernel
theorem flush_2 : ∀ t : Fin cfg0.N, (cfg0.win 2).flush t = true → t.val % 8 = 7 := by decide +kernel

variable (t : Fin cfg0.N) (r : Fin 2048) (a b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 1024 + a.val = a.val; omega

theorem in_d : iblk m c 1 t (ix2 r b) = a1 m c (ix2 (trow (tile t) r) (bcol (blk t) b)) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]; show t.val / 8 * 1024 + b.val = 1024 * (t.val / 8) + b.val; omega

/-- What tile `k` adds to an entry of block `j`. -/
def part (j : Fin 6) (a b : Fin 1024) (k : Fin 8) : EReal := ∑ r : Fin 2048, a0 m c (ix2 (trow k r) a) * a1 m c (ix2 (trow k r) (bcol j b))

theorem point_part (u w : Vec Ideal S2048x1024 .bf16) (hu : u = iblk m c 0 t) (hw : w = iblk m c 1 t) :
    (∑ r : Fin 2048, u (ix2 r a) * w (ix2 r b)) = part m c (blk t) a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c (blk t) a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c (blk t) a b (tile t) := by
  rw [outsAt0_B m c t h0, out_B, pay2_apply]
  exact congrArg (_ + ·) (point_part m c t a b _ _ rfl rfl)

/-- After tile `k` of block `j` its entries are the sums over the tiles so far. -/
theorem outs (j : Fin 6) (k : ℕ) (hk : k < 8) (h : 8 * j.val + k < cfg0.N) :
    outsAt0 m c (8 * j.val + k) h (ix2 a b) = ∑ q : Fin (k + 1), part m c j a b ⟨q.val, by omega⟩ := by
  induction k with
  | zero =>
    refine (first m c ⟨8 * j.val + 0, h⟩ a b (by show (8 * j.val + 0) % 8 = 0; omega)).trans ?_
    rw [Fin.sum_univ_one]
    refine congrArg₂ (fun j k => part m c j a b k) (Fin.ext ?_) (Fin.ext ?_)
    · show (8 * j.val + 0) / 8 = j.val; omega
    · show (8 * j.val + 0) % 8 = 0; omega
  | succ k ih =>
    refine (later m c ⟨8 * j.val + (k + 1), h⟩ a b (by show ¬(8 * j.val + (k + 1)) % 8 = 0; omega)).trans ?_
    refine Eq.trans ?_ (Fin.sum_univ_castSucc (n := k + 1) fun q => part m c j a b ⟨q.val, by omega⟩).symm
    refine congrArg₂ (· + ·) (ih (by omega) (by omega)) (congrArg₂ (fun j k => part m c j a b k) (Fin.ext ?_) (Fin.ext ?_))
    · show (8 * j.val + (k + 1)) / 8 = j.val; omega
    · show (8 * j.val + (k + 1)) % 8 = k + 1; omega

theorem sum_rows {α : Type} [AddCommMonoid α] (f : Fin 16384 → α) : (∑ k : Fin 8, ∑ r : Fin 2048, f (trow k r)) = ∑ s, f s := by
  rw [← Finset.sum_product', Finset.univ_product_univ]
  refine Fintype.sum_bijective (fun p : Fin 8 × Fin 2048 => trow p.1 p.2) ⟨fun p q h => ?_, fun s => ?_⟩ _ _ fun p => rfl
  · have e : 2048 * p.1.val + p.2.val = 2048 * q.1.val + q.2.val := congrArg Fin.val h
    have h1 := p.2.isLt
    have h2 := q.2.isLt
    exact Prod.ext (Fin.ext (by omega)) (Fin.ext (by omega))
  · refine ⟨(⟨s.val / 2048, by omega⟩, ⟨s.val % 2048, by omega⟩), Fin.ext ?_⟩
    show 2048 * (s.val / 2048) + s.val % 2048 = s.val
    omega

/-- The array: each entry a sum over every row. -/
theorem arr_w : (dats m 0 c).arrAt 2 cfg0.N = fun i : S1024x6144.Idx => ∑ s, a0 m c (ix2 s (i 0)) * a1 m c (ix2 s (i 1)) := by
  refine (dats m 0 c).arrAt_eq_of_covers 2 _ (by decide +kernel) fun t hfl y => ?_
  have ht := flush_2 t hfl
  obtain ⟨a, b, rfl⟩ : ∃ (a : Fin 1024) (b : Fin 1024), y = ix2 a b := ⟨y 0, y 1, eq_ix2 y⟩
  blk_simp
  rw [after0_2]
  have e : t.val = 8 * (blk t).val + 7 := by show t.val = 8 * (t.val / 8) + 7; omega
  have hl := t.isLt
  have g : outsAt0 m c t.val t.isLt (ix2 a b) = ∑ q : Fin 8, part m c (blk t) a b q := by
    refine Eq.trans ?_ (outs m c a b (blk t) 7 (by decide) (by omega))
    congr 1
  refine g.trans ((sum_rows fun s => a0 m c (ix2 s a) * a1 m c (ix2 s (bcol (blk t) b))).trans ?_)
  refine congrArg₂ (fun (x : Fin 1024) (y : Fin 6144) => ∑ s, a0 m c (ix2 s x) * a1 m c (ix2 s y)) (Fin.ext ?_) (Fin.ext ?_)
  · blk_simp; rw [(index_2 _).1]; show a.val = 0 * 1024 + a.val; omega
  · blk_simp; rw [(index_2 _).2]; show 1024 * (t.val / 8) + b.val = t.val / 8 * 1024 + b.val; omega

/-- The weights' gradient is the reference's. -/
theorem eq_w : (dats m 0 c).arrAt 2 cfg0.N = Cert.Reference4Ideal.Read.val_main_v1 (F := Ideal) (a0 m c) (a1 m c) := by
  refine (arr_w m c).trans (funext fun i => ?_)
  refine Eq.trans ?_ (Cert.Reference4Ideal.Read.val_main_v1_apply (a0 m c) (a1 m c) i).symm
  refine Finset.sum_congr rfl fun s _ => congrArg₂ (fun x y : EReal => x * y) ?_ (congrArg (a1 m c) ?_)
  · refine Eq.trans (congrArg (a0 m c) ?_) (Cert.Reference4Ideal.Read.val_main_v0_apply (F := Ideal) (a0 m c) _).symm
    exact funext fun z => Fin.ext (by match z with | ⟨0, _⟩ => rfl | ⟨1, _⟩ => rfl)
  · exact funext fun z => Fin.ext (by match z with | ⟨0, _⟩ => rfl | ⟨1, _⟩ => rfl)

end Cert.InWeight
end
-- ==== Proof.ProjPoint.lean ====
/-
  What one grid point of the input projection's kernel computes over the extended reals: the normalised rows, and their
  product with the weights; and the two results' arrays, row by row.
-/
module

public import proofs.«01_k».proof.Proof.InNorm
public import proofs.«01_k».proof.Proof.Gen.Kernel5Ideal.Value
public import Idealize.ShloMosaic.Lib.MatmulPlain
public import Idealize.ShloMosaic.Lib.Pipeline.Value
public import Idealize.ShloMosaic.Lib.Pipeline.ValueKit
public import Idealize.ShloMosaic.Lib.ValueLayoutCasts
public import Idealize.ShloMosaic.Lib.IdealHost
public import Idealize.ShloMosaic.Lib.StableHlo.RunRead
public import Idealize.ShloMosaic.Lib.KernelVsHost

@[expose] public section

set_option maxRecDepth 16384

noncomputable section

namespace Cert.InFwd

open Idealize.ShloMosaic hiding ix0 ix1 ix2 ix3 ix4 ix5 eq_ix2 eq_ix3
open Idealize.ShloMosaic.TcCoe Idealize.ShloMosaic.ValueIdx Idealize.ShloMosaic.StableHlo
open Idealize.ShloMosaic.Pipeline (Dat)
open Cert.Kernel5Ideal Cert.Kernel5Ideal.Gen
open Cert.InBwd (kN kE)

theorem hz : (![0, 0] : Fin 2 → Nat) = fun _ => 0 := by
  funext a
  match a with
  | ⟨0, _⟩ => rfl
  | ⟨1, _⟩ => rfl

/-! ## A grid point -/

theorem out_3 (x0 : Vec Ideal S512x1024 .f32) (x1 : Vec Ideal S1x1024 .f32) (x2 : Vec Ideal S1024x8192 .bf16) : out0_3 x0 x1 x2 = k0_pay2 x0 x1 x2 := by
  unfold out0_3
  rw [View.canon_cons_unit_zero (S := S512x8192) hz]
  simp only [View.ld_unit_zero (S := S512x1024) hz, View.ld_unit_zero (S := S1x1024) hz, View.ld_unit_zero (S := S1024x8192) hz]

theorem out_4 (x0 : Vec Ideal S512x1024 .f32) (x1 : Vec Ideal S1x1024 .f32) (x2 : Vec Ideal S1024x8192 .bf16) : out0_4 x0 x1 x2 = k0_pay1 x0 x1 := by
  unfold out0_4
  rw [View.canon_cons_unit_zero (S := S512x1024) hz]
  simp only [View.ld_unit_zero (S := S512x1024) hz, View.ld_unit_zero (S := S1x1024) hz]

theorem mul_at {s : Shape} (u v : FVec Ideal s .f32) (i : s.Idx) : mulf u v i = u i * v i := rfl
theorem add_at {s : Shape} (u v : FVec Ideal s .f32) (i : s.Idx) : addf u v i = u i + v i := rfl
theorem rsqrt_at {s : Shape} (u : FVec Ideal s .f32) (i : s.Idx) : rsqrt u i = Ideal.rsqrt (u i) := rfl
theorem narrow_at {s : Shape} (u : FVec Ideal s .f32) (i : s.Idx) : (truncf .bf16 u bitsLt_bf16_f32 i : EReal) = u i := rfl

variable (r : Fin 512)

/-- A row's sum, as a column. -/
theorem rowsum (z : FVec Ideal S512x1024 .f32) :
    shapeCast S512x1 (multiReduction .add [1] S512 z 0x00000000#32 reduces_S512x1024_S512 (.inl rfl) rfl) shapeCasts_S512_S512x1 (ix2 r 0)
      = ∑ n : Fin 1024, z (ix2 r n) := by
  refine (shapeCast_a_a1_apply _ _ r 0).trans ((Ideal.multiReduction_add_single z _ _ _ _ _).trans ?_)
  refine Finset.sum_congr rfl fun j _ => congrArg z (funext fun a => Fin.ext ?_)
  match a with
  | ⟨0, _⟩ => rfl
  | ⟨1, _⟩ => rfl

theorem spread_col (v : Vec Ideal S512x1 .f32) (n : Fin 1024) : broadcastTo S512x1024 v broadcasts_S512x1_S512x1024 (ix2 r n) = v (ix2 r 0) :=
  broadcastTo_apply _ _ (ix2 r n) (ix2 r 0) (fun a => by match a with | ⟨0, _⟩ => rfl | ⟨1, _⟩ => rfl)

theorem spread_row (v : Vec Ideal S1x1024 .f32) (n : Fin 1024) : broadcastTo S512x1024 v broadcasts_S1x1024_S512x1024 (ix2 r n) = v (ix2 0 n) :=
  broadcastTo_apply _ _ (ix2 r n) (ix2 0 n) (fun a => by match a with | ⟨0, _⟩ => rfl | ⟨1, _⟩ => rfl)

theorem dot_w (u : FVec Ideal S512x1024 .bf16) (w : FVec Ideal S1024x8192 .bf16) (l : Fin 8192) :
    matmul dot_S512x1024_S1024x8192_S512x8192_1_0_0_1_n_n none u w (constant S512x8192 .f32 0x00000000#32) (ix2 r l) = ∑ n : Fin 1024, u (ix2 r n) * w (ix2 n l) := by
  show FloatOps.matmul (F := Ideal) (DotDims.plain 512 1024 8192) none u w (constant S512x8192 .f32 0x00000000#32) (ix2 r l) = _
  rw [Ideal.matmul_plain_apply, show (constant (F := Ideal) S512x8192 .f32 0x00000000#32 (ix2 r l) : EReal) = 0 from Ideal.ofBits_zero_f32, zero_add]

/-- A normalised entry: the entry, its row, and the gain at the column. -/
def norm (x : Fin 1024 → EReal) (γ : EReal) (n : Fin 1024) : EReal := x n * Ideal.rsqrt ((∑ k, x k * x k) * kN + kE) * γ

theorem pay1_apply (x : Vec Ideal S512x1024 .f32) (g : Vec Ideal S1x1024 .f32) (n : Fin 1024) :
    k0_pay1 x g (ix2 r n) = norm (fun k => x (ix2 r k)) (g (ix2 0 n)) n := by
  unfold k0_pay1
  simp only [shapeCast_self]
  refine (narrow_at _ _).trans ((mul_at _ _ _).trans (congrArg₂ (· * ·) ((mul_at _ _ _).trans (congrArg (x (ix2 r n) * ·) ((spread_col r _ n).trans ?_))) (spread_row r _ n)))
  exact (rsqrt_at _ _).trans (congrArg Ideal.rsqrt ((add_at _ _ _).trans (congrArg₂ (· + ·) ((mul_at _ _ _).trans (congrArg₂ (· * ·) (rowsum r _) rfl)) rfl)))

theorem pay2_apply (x : Vec Ideal S512x1024 .f32) (g : Vec Ideal S1x1024 .f32) (w : Vec Ideal S1024x8192 .bf16) (l : Fin 8192) :
    k0_pay2 x g w (ix2 r l) = ∑ n : Fin 1024, norm (fun k => x (ix2 r k)) (g (ix2 0 n)) n * w (ix2 n l) := by
  unfold k0_pay2
  simp only [shapeCast_self]
  refine (narrow_at _ _).trans ((dot_w r _ _ l).trans ?_)
  exact Finset.sum_congr rfl fun n _ => congrArg (· * w (ix2 n l)) (pay1_apply r x g n)

/-! ## The blocks and the arrays -/

variable (m : (ℓ : Loc nD τ sig) → Buf (Elt Ideal) ℓ) (c : Dev nD)

/-- The three arguments. -/
abbrev a0 : S16384x1024.Idx → EReal := m ((c : Thread nD τ).loc main_arg0)
abbrev a1 : S1024.Idx → EReal := m ((c : Thread nD τ).loc main_arg1)
abbrev a2 : S1024x8192.Idx → EReal := m ((c : Thread nD τ).loc main_arg2)

theorem found_x : (V m c main_arg0 : S16384x1024.Idx → EReal) = a0 m c := by
  simp only [V, List.flatten, List.append]
  after_reads_simp

theorem found_g : (V m c main_v0 : S1x1024.Idx → EReal) = broadcastInDim S1x1024 ![1] bcast_S1024_S1x1024_1 (a1 m c) := by
  simp only [V, List.flatten, List.append]
  after_reads_simp

theorem found_w : (V m c main_v1 : S1024x8192.Idx → EReal) = a2 m c := by
  simp only [V, List.flatten, List.append]
  after_reads_simp
  rfl

/-- Row `r` of tile `t`. -/
abbrev trow (t : Fin cfg0.N) (r : Fin 512) : Fin 16384 := ⟨512 * t.val + r.val, by have : cfg0.N = 32 := N_0; have := t.isLt; omega⟩

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = t.val ∧ win0_4.index t 1 = 0 := by decide +kernel

variable (t : Fin cfg0.N) (n : Fin 1024)

theorem in_x : iblk m c 0 t (ix2 r n) = a0 m c (ix2 (trow t r) n) := by
  rw [← found_x]
  blk_simp [iblk]
  refine congrArg (V m c main_arg0) (funext fun a => Fin.ext ?_)
  match a with
  | ⟨0, _⟩ => blk_simp; rw [(index_0 _).1]; show t.val * 512 + r.val = 512 * t.val + r.val; omega
  | ⟨1, _⟩ => blk_simp; rw [(index_0 _).2]; show 0 * 1024 + n.val = n.val; omega

theorem in_g : iblk m c 1 t (ix2 0 n) = a1 m c (ix1 n) := by
  have e : (V m c main_v0 : S1x1024.Idx → EReal) (ix2 0 n) = a1 m c (ix1 n) := by
    rw [found_g]
    exact broadcastInDim_apply _ bcast_S1024_S1x1024_1 (a1 m c) (ix2 0 n) (ix1 n) (fun a => by match a with | ⟨0, _⟩ => rfl)
  rw [← e]
  blk_simp [iblk]
  refine congrArg (V m c main_v0) (funext fun a => Fin.ext ?_)
  match a with
  | ⟨0, _⟩ => blk_simp; rw [(index_1 _).1]
  | ⟨1, _⟩ => blk_simp; rw [(index_1 _).2]; show 0 * 1024 + n.val = n.val; omega

theorem in_w (l : Fin 8192) : iblk m c 2 t (ix2 n l) = a2 m c (ix2 n l) := by
  rw [← found_w]
  blk_simp [iblk]
  refine congrArg (V m c main_v1) (funext fun a => Fin.ext ?_)
  match a with
  | ⟨0, _⟩ => blk_simp; rw [(index_2 _).1]; show 0 * 1024 + n.val = n.val; omega
  | ⟨1, _⟩ => blk_simp; rw [(index_2 _).2]; show 0 * 8192 + l.val = l.val; omega

/-- A normalised row of the input. -/
def hidden (s : Fin 16384) (n : Fin 1024) : EReal := norm (fun k => a0 m c (ix2 s k)) (a1 m c (ix1 n)) n

theorem point_row : norm (fun k => iblk m c 0 t (ix2 r k)) (iblk m c 1 t (ix2 0 n)) n = hidden m c (trow t r) n := by
  unfold hidden
  refine congrArg₂ (fun x g => norm x g n) (funext fun k => in_x r m c t k) (in_g m c t n)

/-- The array of the normalised rows. -/
theorem arr_xn : (dats m 0 c).arrAt 4 cfg0.N = fun i : S16384x1024.Idx => hidden m c (i 0) (i 1) := by
  refine (dats m 0 c).arrAt_eq_of_covers 4 _ (by decide +kernel) fun t _ y => ?_
  blk_simp
  rw [after0_4, out_4]
  obtain ⟨r, n, rfl⟩ : ∃ (r : Fin 512) (n : Fin 1024), y = ix2 r n := ⟨y 0, y 1, eq_ix2 y⟩
  refine ((pay1_apply r _ _ n).trans (point_row r m c t n)).trans (congrArg₂ (hidden m c) (Fin.ext ?_) (Fin.ext ?_))
  · blk_simp; rw [(index_4 _).1]; show 512 * t.val + r.val = t.val * 512 + r.val; omega
  · blk_simp; rw [(index_4 _).2]; show n.val = 0 * 1024 + n.val; omega

/-- The array of the projection. -/
theorem arr_proj : (dats m 0 c).arrAt 3 cfg0.N = fun i : S16384x8192.Idx => ∑ n, hidden m c (i 0) n * a2 m c (ix2 n (i 1)) := by
  refine (dats m 0 c).arrAt_eq_of_covers 3 _ (by decide +kernel) fun t _ y => ?_
  blk_simp
  rw [after0_3, out_3]
  obtain ⟨r, l, rfl⟩ : ∃ (r : Fin 512) (l : Fin 8192), y = ix2 r l := ⟨y 0, y 1, eq_ix2 y⟩
  refine (pay2_apply r _ _ _ l).trans ?_
  refine (Finset.sum_congr rfl fun n _ => congrArg₂ (· * ·) (point_row r m c t n) (in_w m c t n l)).trans ?_
  refine congrArg₂ (fun (s : Fin 16384) (l : Fin 8192) => ∑ n, hidden m c s n * a2 m c (ix2 n l)) (Fin.ext ?_) (Fin.ext ?_)
  · blk_simp; rw [(index_3 _).1]; show 512 * t.val + r.val = t.val * 512 + r.val; omega
  · blk_simp; rw [(index_3 _).2]; show l.val = 0 * 8192 + l.val; omega

end Cert.InFwd
end
-- ==== Proof.ProjRef.lean ====
/-
  The reference of the input projection read at an index: the normalised rows and the projection; and that the launch's
  arrays hold them.
-/
module

public import proofs.«01_k».proof.Proof.ProjPoint
public import proofs.«01_k».proof.Proof.Gen.Reference5Ideal.Read

@[expose] public section

set_option maxRecDepth 16384

noncomputable section

namespace Cert.InFwd

open Idealize.ShloMosaic hiding ix0 ix1 ix2 ix3 ix4 ix5 eq_ix2 eq_ix3
open Idealize.ShloMosaic.TcCoe Idealize.ShloMosaic.ValueIdx Idealize.ShloMosaic.StableHlo
open Cert.Reference5Ideal Cert.Reference5Ideal.Gen Cert.Reference5Ideal.Read
open Cert.InBwd (kN kE kN_eq word_1024)

section Reference

variable (s : Fin 16384) (n : Fin 1024) (l : Fin 8192)

theorem idx_1 (k : Fin 1024) : idx_main_v1 (ix1 s) k = ix2 s k := funext fun a => Fin.ext (by match a with | ⟨0, _⟩ => rfl | ⟨1, _⟩ => rfl)
theorem idx_2 : idx_main_v2 (ix2 s 0) = ix1 s := funext fun a => Fin.ext (by match a with | ⟨0, _⟩ => rfl)
theorem idx_8 : idx_main_v8 (ix2 s n) = ix2 s 0 := funext fun a => Fin.ext (by match a with | ⟨0, _⟩ => rfl | ⟨1, _⟩ => rfl)
theorem idx_10 : idx_main_v10 (ix2 0 n) = ix1 n := funext fun a => Fin.ext (by match a with | ⟨0, _⟩ => rfl)
theorem idx_11 : idx_main_v11 (ix2 s n) = ix2 0 n := funext fun a => Fin.ext (by match a with | ⟨0, _⟩ => rfl | ⟨1, _⟩ => rfl)
theorem lidx_13 (k : Fin 1024) : lidx_main_v13 (ix2 s l) k = ix2 s k := funext fun a => Fin.ext (by match a with | ⟨0, _⟩ => rfl | ⟨1, _⟩ => rfl)
theorem ridx_13 (k : Fin 1024) : ridx_main_v13 (ix2 s l) k = ix2 k l := funext fun a => Fin.ext (by match a with | ⟨0, _⟩ => rfl | ⟨1, _⟩ => rfl)

theorem zero_0 (i : S_.Idx) : val_main_cst (F := Ideal) i = 0 := Ideal.ofBits_zero_f32
theorem at_3 (i : S16384x1.Idx) : val_main_v3 (F := Ideal) i = ((1024 : ℝ) : EReal) := by
  rw [val_main_v3_apply, val_main_cst_0_apply]; exact word_1024
theorem at_5 (i : S16384x1.Idx) : val_main_v5 (F := Ideal) i = kE := by
  rw [val_main_v5_apply, val_main_cst_1_apply]; rfl

variable (x0 : S16384x1024.Idx → EReal) (x1 : S1024.Idx → EReal) (x2 : S1024x8192.Idx → EReal)

theorem at_6 : val_main_v6 (F := Ideal) x0 (ix2 s 0) = (∑ k, x0 (ix2 s k) * x0 (ix2 s k)) * kN + kE := by
  rw [val_main_v6_apply, val_main_v4_apply, at_3, at_5, val_main_v2_apply, idx_2, val_main_v1_apply, zero_0, zero_add, kN_eq]
  simp only [idx_1, val_main_v0_apply, Ideal.addf_def, Ideal.mulf_def, Ideal.hostDivf_def]
  rw [Ideal.div_coe (by norm_num)]

/-- The normalised rows. -/
theorem at_12 : val_main_v12 (F := Ideal) x0 x1 (ix2 s n) = norm (fun k => x0 (ix2 s k)) (x1 (ix1 n)) n := by
  rw [val_main_v12_apply, val_main_v9_apply, val_main_v8_apply, idx_8, val_main_v7_apply, at_6, val_main_v11_apply, idx_11, val_main_v10_apply, idx_10,
    Ideal.hostUnary_rsqrt_def]
  rfl

theorem ref_xn : val_main_v15 (F := Ideal) x0 x1 (ix2 s n) = norm (fun k => x0 (ix2 s k)) (x1 (ix1 n)) n :=
  (val_main_v15_apply (F := Ideal) x0 x1 (ix2 s n)).trans (at_12 s n x0 x1)

/-- The projection. -/
theorem ref_proj : val_main_v14 (F := Ideal) x0 x1 x2 (ix2 s l) = ∑ n, norm (fun k => x0 (ix2 s k)) (x1 (ix1 n)) n * x2 (ix2 n l) := by
  refine (val_main_v14_apply (F := Ideal) x0 x1 x2 (ix2 s l)).trans ((val_main_v13_apply x0 x1 x2 (ix2 s l)).trans ?_)
  refine Finset.sum_congr rfl fun k _ => ?_
  rw [lidx_13, ridx_13, at_12]

end Reference

variable (m : (ℓ : Loc Cert.Kernel5Ideal.nD Cert.Kernel5Ideal.τ Cert.Kernel5Ideal.sig) → Buf (Elt Ideal) ℓ) (c : Dev Cert.Kernel5Ideal.nD)

/-- The projection is the reference's. -/
theorem eq_proj : (Cert.Kernel5Ideal.Gen.dats m 0 c).arrAt 3 Cert.Kernel5Ideal.cfg0.N = val_main_v14 (F := Ideal) (a0 m c) (a1 m c) (a2 m c) := by
  refine (arr_proj m c).trans (funext fun i => ?_)
  obtain ⟨s, l, rfl⟩ : ∃ (s : Fin 16384) (l : Fin 8192), i = ix2 s l := ⟨i 0, i 1, eq_ix2 i⟩
  exact (ref_proj s l (a0 m c) (a1 m c) (a2 m c)).symm

/-- The normalised rows are the reference's. -/
theorem eq_xn : (Cert.Kernel5Ideal.Gen.dats m 0 c).arrAt 4 Cert.Kernel5Ideal.cfg0.N = val_main_v15 (F := Ideal) (a0 m c) (a1 m c) := by
  refine (arr_xn m c).trans (funext fun i => ?_)
  obtain ⟨s, n, rfl⟩ : ∃ (s : Fin 16384) (n : Fin 1024), i = ix2 s n := ⟨i 0, i 1, eq_ix2 i⟩
  exact (ref_xn s n (a0 m c) (a1 m c)).symm

end Cert.InFwd
end
-- ==== Proof.GradWConv.lean ====
/-
  The gradient of the convolution branch's input weights, one block: what a grid point leaves in it, the tiles the point finds, the block as the
  sum of its eight tiles' products, and that it is the reference's product of the transposed rows.
-/
module

public import proofs.«01_k».proof.Proof.GradWEquation
public import proofs.«01_k».proof.Proof.Gen.Kernel6Ideal.Value
public import proofs.«01_k».proof.Proof.Gen.Reference6Ideal.Read

@[expose] public section

set_option maxRecDepth 16384

noncomputable section

namespace Cert.WeightConv

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel6Ideal Cert.Kernel6Ideal.Gen

section body

variable {F : FTy → Type} [FloatOps F]

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (x0 : Vec F S2048x1024 .bf16) (x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S2048x1024) hz]

theorem out_B (hc0 : ¬cond0_0 i) (a : Vec F S1024x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S1024x1024) hz]
  simp only [View.readAt_eq_ld, harg3.read_unread, harg4.read_unread, harg5.read_unread, View.ld_unit_zero (S := S2048x1024) hz, View.ld_unit_zero (S := S1024x1024) hz]

end body

/-! ## Over the extended reals -/

/-- The product over the rows. -/
theorem dot_rows (u : FVec Ideal S2048x1024 .bf16) (w : FVec Ideal S2048x1024 .bf16) (a : Fin 1024) (b : Fin 1024) :
    matmul dot_S2048x1024_S2048x1024_S1024x1024_0_0_1_1_n_n none u w (constant S1024x1024 .f32 0x00000000#32) (ix2 a b) = ∑ r : Fin 2048, u (ix2 r a) * w (ix2 r b) := by
  show FloatOps.matmul (F := Ideal) dot_S2048x1024_S2048x1024_S1024x1024_0_0_1_1_n_n none u w (constant S1024x1024 .f32 0x00000000#32) (ix2 a b) = _
  rw [Ideal.matmul_apply, ← Equiv.sum_comp (contrEquiv1 dot_S2048x1024_S2048x1024_S1024x1024_0_0_1_1_n_n 2048 rfl rfl).symm,
    show (constant (F := Ideal) S1024x1024 .f32 0x00000000#32 (ix2 a b) : EReal) = 0 from Ideal.ofBits_zero_f32, zero_add]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b) ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b) ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S1024x1024 .f32) (u : Vec Ideal S2048x1024 .bf16) (w : Vec Ideal S2048x1024 .bf16) (a : Fin 1024) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S1024x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x1024.Idx → EReal := m ((c : Thread nD τ).loc main_arg0)
abbrev a1 : S16384x1024.Idx → EReal := m ((c : Thread nD τ).loc main_arg1)

theorem found_x : (V m c main_v0 : S16384x1024.Idx → EReal) = a0 m c := by
  simp only [V, List.flatten, List.append]
  after_reads_simp
  rfl

theorem found_d : (V m c main_v1 : S16384x1024.Idx → EReal) = a1 m c := by
  simp only [V, List.flatten, List.append]
  after_reads_simp
  rfl

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 0 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 1024) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 1024 + a.val = a.val; omega

theorem in_d : iblk m c 1 t (ix2 r b) = a1 m c (ix2 (trow (tile t) r) b) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]; show 0 * 1024 + b.val = b.val; omega

/-- What tile `k` adds to an entry. -/
def part (a : Fin 1024) (b : Fin 1024) (k : Fin 8) : EReal := ∑ r : Fin 2048, a0 m c (ix2 (trow k r) a) * a1 m c (ix2 (trow k r) b)

theorem point_part (u : Vec Ideal S2048x1024 .bf16) (w : Vec Ideal S2048x1024 .bf16) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S1024x1024.Idx => ∑ s, a0 m c (ix2 s (i 0)) * a1 m c (ix2 s (i 1)) := by
  refine (dats m 0 c).arrAt_eq_of_covers 2 _ (by decide +kernel) fun t hfl y => ?_
  have ht := flush_2 t hfl
  obtain ⟨a, b, rfl⟩ : ∃ (a : Fin 1024) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s b)).trans ?_)
  refine congrArg₂ (fun (x : Fin 1024) (y : Fin 1024) => ∑ s, a0 m c (ix2 s x) * a1 m c (ix2 s y)) (Fin.ext ?_) (Fin.ext ?_)
  · blk_simp; rw [(index_2 _).1]; show a.val = 0 * 1024 + a.val; omega
  · blk_simp; rw [(index_2 _).2]; show b.val = 0 * 1024 + b.val; omega

/-- The weights' gradient is the reference's. -/
theorem eq_w : (dats m 0 c).arrAt 2 cfg0.N = Cert.Reference6Ideal.Read.val_main_v1 (F := Ideal) (a0 m c) (a1 m c) := by
  refine (arr_w m c).trans (funext fun i => ?_)
  refine Eq.trans ?_ (Cert.Reference6Ideal.Read.val_main_v1_apply (a0 m c) (a1 m c) i).symm
  refine Finset.sum_congr rfl fun s _ => congrArg₂ (fun x y : EReal => x * y) ?_ (congrArg (a1 m c) ?_)
  · refine Eq.trans (congrArg (a0 m c) ?_) (Cert.Reference6Ideal.Read.val_main_v0_apply (F := Ideal) (a0 m c) _).symm
    exact funext fun z => Fin.ext (by match z with | ⟨0, _⟩ => rfl | ⟨1, _⟩ => rfl)
  · exact funext fun z => Fin.ext (by match z with | ⟨0, _⟩ => rfl | ⟨1, _⟩ => rfl)

end Cert.WeightConv
end
-- ==== Proof.GradWBrAttn.lean ====
/-
  The gradient of the attention branch's output weights, one block: what a grid point leaves in it, the tiles the point finds, the block as the
  sum of its eight tiles' products, and that it is the reference's product of the transposed rows with columns 0 to 1023 of the second argument.
-/
module

public import proofs.«01_k».proof.Proof.GradWEquation
public import proofs.«01_k».proof.Proof.Gen.Kernel7Ideal.Value
public import proofs.«01_k».proof.Proof.Gen.Reference7Ideal.Read

@[expose] public section

set_option maxRecDepth 16384

noncomputable section

namespace Cert.WeightBrAttn

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel7Ideal Cert.Kernel7Ideal.Gen

section body

variable {F : FTy → Type} [FloatOps F]

variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .f32) (harg5 : arg5.IsWhole)
  (x0 : Vec F S2048x1024 .bf16) (x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S2048x1024) hz]

theorem out_B (hc0 : ¬cond0_0 i) (a : Vec F S1024x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S1024x1024) hz]
  simp only [View.readAt_eq_ld, harg3.read_unread, harg4.read_unread, harg5.read_unread, View.ld_unit_zero (S := S2048x1024) hz, View.ld_unit_zero (S := S1024x1024) hz]

end body

/-! ## Over the extended reals -/

/-- The product over the rows. -/
theorem dot_rows (u : FVec Ideal S2048x1024 .bf16) (w : FVec Ideal S2048x1024 .bf16) (a : Fin 1024) (b : Fin 1024) :
    matmul dot_S2048x1024_S2048x1024_S1024x1024_0_0_1_1_n_n none u w (constant S1024x1024 .f32 0x00000000#32) (ix2 a b) = ∑ r : Fin 2048, u (ix2 r a) * w (ix2 r b) := by
  show FloatOps.matmul (F := Ideal) dot_S2048x1024_S2048x1024_S1024x1024_0_0_1_1_n_n none u w (constant S1024x1024 .f32 0x00000000#32) (ix2 a b) = _
  rw [Ideal.matmul_apply, ← Equiv.sum_comp (contrEquiv1 dot_S2048x1024_S2048x1024_S1024x1024_0_0_1_1_n_n 2048 rfl rfl).symm,
    show (constant (F := Ideal) S1024x1024 .f32 0x00000000#32 (ix2 a b) : EReal) = 0 from Ideal.ofBits_zero_f32, zero_add]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b) ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b) ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S1024x1024 .f32) (u : Vec Ideal S2048x1024 .bf16) (w : Vec Ideal S2048x1024 .bf16) (a : Fin 1024) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S1024x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x1024.Idx → EReal := m ((c : Thread nD τ).loc main_arg0)
abbrev a1 : S16384x3072.Idx → EReal := m ((c : Thread nD τ).loc main_arg1)

theorem found_x : (V m c main_v0 : S16384x1024.Idx → EReal) = a0 m c := by
  simp only [V, List.flatten, List.append]
  after_reads_simp
  rfl

theorem found_d : (V m c main_v1 : S16384x3072.Idx → EReal) = a1 m c := by
  simp only [V, List.flatten, List.append]
  after_reads_simp
  rfl

/-- Column `b` of the block, in the second argument. -/
abbrev dcol (b : Fin 1024) : Fin 3072 := ⟨b.val, by omega⟩

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 0 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 1024) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 1024 + a.val = a.val; omega

theorem in_d : iblk m c 1 t (ix2 r b) = a1 m c (ix2 (trow (tile t) r) (dcol b)) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]; show 0 * 1024 + b.val = b.val; omega

/-- What tile `k` adds to an entry. -/
def part (a : Fin 1024) (b : Fin 1024) (k : Fin 8) : EReal := ∑ r : Fin 2048, a0 m c (ix2 (trow k r) a) * a1 m c (ix2 (trow k r) (dcol b))

theorem point_part (u : Vec Ideal S2048x1024 .bf16) (w : Vec Ideal S2048x1024 .bf16) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S1024x1024.Idx => ∑ s, a0 m c (ix2 s (i 0)) * a1 m c (ix2 s (dcol (i 1))) := by
  refine (dats m 0 c).arrAt_eq_of_covers 2 _ (by decide +kernel) fun t hfl y => ?_
  have ht := flush_2 t hfl
  obtain ⟨a, b, rfl⟩ : ∃ (a : Fin 1024) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s (dcol b))).trans ?_)
  refine congrArg₂ (fun (x : Fin 1024) (y : Fin 1024) => ∑ s, a0 m c (ix2 s x) * a1 m c (ix2 s (dcol y))) (Fin.ext ?_) (Fin.ext ?_)
  · blk_simp; rw [(index_2 _).1]; show a.val = 0 * 1024 + a.val; omega
  · blk_simp; rw [(index_2 _).2]; show b.val = 0 * 1024 + b.val; omega

/-- The weights' gradient is the reference's. -/
theorem eq_w : (dats m 0 c).arrAt 2 cfg0.N = Cert.Reference7Ideal.Read.val_main_v2 (F := Ideal) (a0 m c) (a1 m c) := by
  refine (arr_w m c).trans (funext fun i => ?_)
  refine Eq.trans ?_ (Cert.Reference7Ideal.Read.val_main_v2_apply (a0 m c) (a1 m c) i).symm
  refine Finset.sum_congr rfl fun s _ => congrArg₂ (fun x y : EReal => x * y) ?_ ?_
  · refine Eq.trans (congrArg (a0 m c) ?_) (Cert.Reference7Ideal.Read.val_main_v0_apply (F := Ideal) (a0 m c) _).symm
    exact funext fun z => Fin.ext (by match z with | ⟨0, _⟩ => rfl | ⟨1, _⟩ => rfl)
  · refine Eq.trans (congrArg (a1 m c) ?_) (Cert.Reference7Ideal.Read.val_main_v1_apply (F := Ideal) (a1 m c) _).symm
    exact funext fun z => Fin.ext (by match z with | ⟨0, _⟩ => rfl | ⟨1, _⟩ => rfl)

end Cert.WeightBrAttn
end
-- ==== Proof.GradWBrConv.lean ====
/-
  The gradient of the convolution branch's output weights, one block: what a grid point leaves in it, the tiles the point finds, the block as the
  sum of its eight tiles' products, and that it is the reference's product of the transposed rows with columns 1024 to 2047 of the second argument.
-/
module

public import proofs.«01_k».proof.Proof.GradWEquation
public import proofs.«01_k».proof.Proof.Gen.Kernel8Ideal.Value
public import proofs.«01_k».proof.Proof.Gen.Reference8Ideal.Read

@[expose] public section

set_option maxRecDepth 16384

noncomputable section

namespace Cert.WeightBrConv

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel8Ideal Cert.Kernel8Ideal.Gen

section body

variable {F : FTy → Type} [FloatOps F]

variable (c : Dev nD) (i : grid0.Coords) (arg3 : Memref sig .tc .vmem S2048x512 .bf16) (harg3 : arg3.IsWhole)
  (arg4 : Memref sig .tc .vmem S2048x1024 .bf16) (harg4 : arg4.IsWhole) (arg5 : Memref sig .tc .vmem S512x1024 .f32) (harg5 : arg5.IsWhole)
  (x0 : Vec F S2048x512 .bf16) (x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S2048x512) hz, View.ld_unit_zero (S := S2048x1024) hz]

theorem out_B (hc0 : ¬cond0_0 i) (a : Vec F S512x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S512x1024) hz]
  simp only [View.readAt_eq_ld, harg3.read_unread, harg4.read_unread, harg5.read_unread, View.ld_unit_zero (S := S2048x512) hz, View.ld_unit_zero (S := S2048x1024) hz, View.ld_unit_zero (S := S512x1024) hz]

end body

/-! ## Over the extended reals -/

/-- The product over the rows. -/
theorem dot_rows (u : FVec Ideal S2048x512 .bf16) (w : FVec Ideal S2048x1024 .bf16) (a : Fin 512) (b : Fin 1024) :
    matmul dot_S2048x512_S2048x1024_S512x1024_0_0_1_1_n_n none u w (constant S512x1024 .f32 0x00000000#32) (ix2 a b) = ∑ r : Fin 2048, u (ix2 r a) * w (ix2 r b) := by
  show FloatOps.matmul (F := Ideal) dot_S2048x512_S2048x1024_S512x1024_0_0_1_1_n_n none u w (constant S512x1024 .f32 0x00000000#32) (ix2 a b) = _
  rw [Ideal.matmul_apply, ← Equiv.sum_comp (contrEquiv1 dot_S2048x512_S2048x1024_S512x1024_0_0_1_1_n_n 2048 rfl rfl).symm,
    show (constant (F := Ideal) S512x1024 .f32 0x00000000#32 (ix2 a b) : EReal) = 0 from Ideal.ofBits_zero_f32, zero_add]
  refine Finset.sum_congr rfl fun k _ => ?_
  have hk := contrEquiv1_symm_val dot_S2048x512_S2048x1024_S512x1024_0_0_1_1_n_n 2048 rfl rfl k
  have el : dot_S2048x512_S2048x1024_S512x1024_0_0_1_1_n_n.lhsIdx (ix2 a b) ((contrEquiv1 dot_S2048x512_S2048x1024_S512x1024_0_0_1_1_n_n 2048 rfl rfl).symm k) = ix2 k a := by
    funext z; apply Fin.ext
    match z with
    | ⟨0, _⟩ => exact hk
    | ⟨1, _⟩ => rfl
  have er : dot_S2048x512_S2048x1024_S512x1024_0_0_1_1_n_n.rhsIdx (ix2 a b) ((contrEquiv1 dot_S2048x512_S2048x1024_S512x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S512x1024 .f32) (u : Vec Ideal S2048x512 .bf16) (w : Vec Ideal S2048x1024 .bf16) (a : Fin 512) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S512x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x512.Idx → EReal := m ((c : Thread nD τ).loc main_arg0)
abbrev a1 : S16384x3072.Idx → EReal := m ((c : Thread nD τ).loc main_arg1)

theorem found_x : (V m c main_v0 : S16384x512.Idx → EReal) = a0 m c := by
  simp only [V, List.flatten, List.append]
  after_reads_simp
  rfl

theorem found_d : (V m c main_v1 : S16384x3072.Idx → EReal) = a1 m c := by
  simp only [V, List.flatten, List.append]
  after_reads_simp
  rfl

/-- Column `b` of the block, in the second argument. -/
abbrev dcol (b : Fin 1024) : Fin 3072 := ⟨1024 + b.val, by omega⟩

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 1 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 512) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 512 + a.val = a.val; omega

theorem in_d : iblk m c 1 t (ix2 r b) = a1 m c (ix2 (trow (tile t) r) (dcol b)) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]

/-- What tile `k` adds to an entry. -/
def part (a : Fin 512) (b : Fin 1024) (k : Fin 8) : EReal := ∑ r : Fin 2048, a0 m c (ix2 (trow k r) a) * a1 m c (ix2 (trow k r) (dcol b))

theorem point_part (u : Vec Ideal S2048x512 .bf16) (w : Vec Ideal S2048x1024 .bf16) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S512x1024.Idx => ∑ s, a0 m c (ix2 s (i 0)) * a1 m c (ix2 s (dcol (i 1))) := by
  refine (dats m 0 c).arrAt_eq_of_covers 2 _ (by decide +kernel) fun t hfl y => ?_
  have ht := flush_2 t hfl
  obtain ⟨a, b, rfl⟩ : ∃ (a : Fin 512) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s (dcol b))).trans ?_)
  refine congrArg₂ (fun (x : Fin 512) (y : Fin 1024) => ∑ s, a0 m c (ix2 s x) * a1 m c (ix2 s (dcol y))) (Fin.ext ?_) (Fin.ext ?_)
  · blk_simp; rw [(index_2 _).1]; show a.val = 0 * 512 + a.val; omega
  · blk_simp; rw [(index_2 _).2]; show b.val = 0 * 1024 + b.val; omega

/-- The weights' gradient is the reference's. -/
theorem eq_w : (dats m 0 c).arrAt 2 cfg0.N = Cert.Reference8Ideal.Read.val_main_v2 (F := Ideal) (a0 m c) (a1 m c) := by
  refine (arr_w m c).trans (funext fun i => ?_)
  refine Eq.trans ?_ (Cert.Reference8Ideal.Read.val_main_v2_apply (a0 m c) (a1 m c) i).symm
  refine Finset.sum_congr rfl fun s _ => congrArg₂ (fun x y : EReal => x * y) ?_ ?_
  · refine Eq.trans (congrArg (a0 m c) ?_) (Cert.Reference8Ideal.Read.val_main_v0_apply (F := Ideal) (a0 m c) _).symm
    exact funext fun z => Fin.ext (by match z with | ⟨0, _⟩ => rfl | ⟨1, _⟩ => rfl)
  · refine Eq.trans (congrArg (a1 m c) ?_) (Cert.Reference8Ideal.Read.val_main_v1_apply (F := Ideal) (a1 m c) _).symm
    exact funext fun z => Fin.ext (by match z with | ⟨0, _⟩ => rfl | ⟨1, _⟩ => rfl)

end Cert.WeightBrConv
end
-- ==== Proof.GradWBrMem.lean ====
/-
  The gradient of the memory branch's output weights, one block: what a grid point leaves in it, the tiles the point finds, the block as the
  sum of its eight tiles' products, and that it is the reference's product of the transposed rows with columns 2048 to 3071 of the second argument.
-/
module

public import proofs.«01_k».proof.Proof.GradWEquation
public import proofs.«01_k».proof.Proof.Gen.Kernel9Ideal.Value
public import proofs.«01_k».proof.Proof.Gen.Reference9Ideal.Read

@[expose] public section

set_option maxRecDepth 16384

noncomputable section

namespace Cert.WeightBrMem

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel9Ideal Cert.Kernel9Ideal.Gen

section body

variable {F : FTy → Type} [FloatOps F]

variable (c : Dev nD) (i : grid0.Coords) (arg3 : Memref sig .tc .vmem S2048x512 .bf16) (harg3 : arg3.IsWhole)
  (arg4 : Memref sig .tc .vmem S2048x1024 .bf16) (harg4 : arg4.IsWhole) (arg5 : Memref sig .tc .vmem S512x1024 .f32) (harg5 : arg5.IsWhole)
  (x0 : Vec F S2048x512 .bf16) (x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S2048x512) hz, View.ld_unit_zero (S := S2048x1024) hz]

theorem out_B (hc0 : ¬cond0_0 i) (a : Vec F S512x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S512x1024) hz]
  simp only [View.readAt_eq_ld, harg3.read_unread, harg4.read_unread, harg5.read_unread, View.ld_unit_zero (S := S2048x512) hz, View.ld_unit_zero (S := S2048x1024) hz, View.ld_unit_zero (S := S512x1024) hz]

end body

/-! ## Over the extended reals -/

/-- The product over the rows. -/
theorem dot_rows (u : FVec Ideal S2048x512 .bf16) (w : FVec Ideal S2048x1024 .bf16) (a : Fin 512) (b : Fin 1024) :
    matmul dot_S2048x512_S2048x1024_S512x1024_0_0_1_1_n_n none u w (constant S512x1024 .f32 0x00000000#32) (ix2 a b) = ∑ r : Fin 2048, u (ix2 r a) * w (ix2 r b) := by
  show FloatOps.matmul (F := Ideal) dot_S2048x512_S2048x1024_S512x1024_0_0_1_1_n_n none u w (constant S512x1024 .f32 0x00000000#32) (ix2 a b) = _
  rw [Ideal.matmul_apply, ← Equiv.sum_comp (contrEquiv1 dot_S2048x512_S2048x1024_S512x1024_0_0_1_1_n_n 2048 rfl rfl).symm,
    show (constant (F := Ideal) S512x1024 .f32 0x00000000#32 (ix2 a b) : EReal) = 0 from Ideal.ofBits_zero_f32, zero_add]
  refine Finset.sum_congr rfl fun k _ => ?_
  have hk := contrEquiv1_symm_val dot_S2048x512_S2048x1024_S512x1024_0_0_1_1_n_n 2048 rfl rfl k
  have el : dot_S2048x512_S2048x1024_S512x1024_0_0_1_1_n_n.lhsIdx (ix2 a b) ((contrEquiv1 dot_S2048x512_S2048x1024_S512x1024_0_0_1_1_n_n 2048 rfl rfl).symm k) = ix2 k a := by
    funext z; apply Fin.ext
    match z with
    | ⟨0, _⟩ => exact hk
    | ⟨1, _⟩ => rfl
  have er : dot_S2048x512_S2048x1024_S512x1024_0_0_1_1_n_n.rhsIdx (ix2 a b) ((contrEquiv1 dot_S2048x512_S2048x1024_S512x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S512x1024 .f32) (u : Vec Ideal S2048x512 .bf16) (w : Vec Ideal S2048x1024 .bf16) (a : Fin 512) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S512x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x512.Idx → EReal := m ((c : Thread nD τ).loc main_arg0)
abbrev a1 : S16384x3072.Idx → EReal := m ((c : Thread nD τ).loc main_arg1)

theorem found_x : (V m c main_v0 : S16384x512.Idx → EReal) = a0 m c := by
  simp only [V, List.flatten, List.append]
  after_reads_simp
  rfl

theorem found_d : (V m c main_v1 : S16384x3072.Idx → EReal) = a1 m c := by
  simp only [V, List.flatten, List.append]
  after_reads_simp
  rfl

/-- Column `b` of the block, in the second argument. -/
abbrev dcol (b : Fin 1024) : Fin 3072 := ⟨2048 + b.val, by omega⟩

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 2 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 512) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 512 + a.val = a.val; omega

theorem in_d : iblk m c 1 t (ix2 r b) = a1 m c (ix2 (trow (tile t) r) (dcol b)) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]

/-- What tile `k` adds to an entry. -/
def part (a : Fin 512) (b : Fin 1024) (k : Fin 8) : EReal := ∑ r : Fin 2048, a0 m c (ix2 (trow k r) a) * a1 m c (ix2 (trow k r) (dcol b))

theorem point_part (u : Vec Ideal S2048x512 .bf16) (w : Vec Ideal S2048x1024 .bf16) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S512x1024.Idx => ∑ s, a0 m c (ix2 s (i 0)) * a1 m c (ix2 s (dcol (i 1))) := by
  refine (dats m 0 c).arrAt_eq_of_covers 2 _ (by decide +kernel) fun t hfl y => ?_
  have ht := flush_2 t hfl
  obtain ⟨a, b, rfl⟩ : ∃ (a : Fin 512) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s (dcol b))).trans ?_)
  refine congrArg₂ (fun (x : Fin 512) (y : Fin 1024) => ∑ s, a0 m c (ix2 s x) * a1 m c (ix2 s (dcol y))) (Fin.ext ?_) (Fin.ext ?_)
  · blk_simp; rw [(index_2 _).1]; show a.val = 0 * 512 + a.val; omega
  · blk_simp; rw [(index_2 _).2]; show b.val = 0 * 1024 + b.val; omega

/-- The weights' gradient is the reference's. -/
theorem eq_w : (dats m 0 c).arrAt 2 cfg0.N = Cert.Reference9Ideal.Read.val_main_v2 (F := Ideal) (a0 m c) (a1 m c) := by
  refine (arr_w m c).trans (funext fun i => ?_)
  refine Eq.trans ?_ (Cert.Reference9Ideal.Read.val_main_v2_apply (a0 m c) (a1 m c) i).symm
  refine Finset.sum_congr rfl fun s _ => congrArg₂ (fun x y : EReal => x * y) ?_ ?_
  · refine Eq.trans (congrArg (a0 m c) ?_) (Cert.Reference9Ideal.Read.val_main_v0_apply (F := Ideal) (a0 m c) _).symm
    exact funext fun z => Fin.ext (by match z with | ⟨0, _⟩ => rfl | ⟨1, _⟩ => rfl)
  · refine Eq.trans (congrArg (a1 m c) ?_) (Cert.Reference9Ideal.Read.val_main_v1_apply (F := Ideal) (a1 m c) _).symm
    exact funext fun z => Fin.ext (by match z with | ⟨0, _⟩ => rfl | ⟨1, _⟩ => rfl)

end Cert.WeightBrMem
end
-- ==== Proof.GradWOut.lean ====
/-
  The gradient of the output weights, one block: what a grid point leaves in it, the tiles the point finds, the block as the
  sum of its eight tiles' products, and that it is the reference's product of the transposed rows.
-/
module

public import proofs.«01_k».proof.Proof.GradWEquation
public import proofs.«01_k».proof.Proof.Gen.Kernel10Ideal.Value
public import proofs.«01_k».proof.Proof.Gen.Reference10Ideal.Read

@[expose] public section

set_option maxRecDepth 16384

noncomputable section

namespace Cert.WeightOut

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel10Ideal Cert.Kernel10Ideal.Gen

section body

variable {F : FTy → Type} [FloatOps F]

variable (c : Dev nD) (i : grid0.Coords) (arg3 : Memref sig .tc .vmem S2048x1024 .bf16) (harg3 : arg3.IsWhole)
  (arg4 : Memref sig .tc .vmem S2048x1024 .f32) (harg4 : arg4.IsWhole) (arg5 : Memref sig .tc .vmem S1024x1024 .f32) (harg5 : arg5.IsWhole)
  (x0 : Vec F S2048x1024 .bf16) (x1 : Vec F S2048x1024 .f32)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S2048x1024) hz]

theorem out_B (hc0 : ¬cond0_0 i) (a : Vec F S1024x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S1024x1024) hz]
  simp only [View.readAt_eq_ld, harg3.read_unread, harg4.read_unread, harg5.read_unread, View.ld_unit_zero (S := S2048x1024) hz, View.ld_unit_zero (S := S1024x1024) hz]

end body

/-! ## Over the extended reals -/

/-- The product over the rows. -/
theorem dot_rows (u : FVec Ideal S2048x1024 .bf16) (w : FVec Ideal S2048x1024 .bf16) (a : Fin 1024) (b : Fin 1024) :
    matmul dot_S2048x1024_S2048x1024_S1024x1024_0_0_1_1_n_n none u w (constant S1024x1024 .f32 0x00000000#32) (ix2 a b) = ∑ r : Fin 2048, u (ix2 r a) * w (ix2 r b) := by
  show FloatOps.matmul (F := Ideal) dot_S2048x1024_S2048x1024_S1024x1024_0_0_1_1_n_n none u w (constant S1024x1024 .f32 0x00000000#32) (ix2 a b) = _
  rw [Ideal.matmul_apply, ← Equiv.sum_comp (contrEquiv1 dot_S2048x1024_S2048x1024_S1024x1024_0_0_1_1_n_n 2048 rfl rfl).symm,
    show (constant (F := Ideal) S1024x1024 .f32 0x00000000#32 (ix2 a b) : EReal) = 0 from Ideal.ofBits_zero_f32, zero_add]
  refine Finset.sum_congr rfl fun k _ => ?_
  have hk := contrEquiv1_symm_val dot_S2048x1024_S2048x1024_S1024x1024_0_0_1_1_n_n 2048 rfl rfl k
  have el : dot_S2048x1024_S2048x1024_S1024x1024_0_0_1_1_n_n.lhsIdx (ix2 a b) ((contrEquiv1 dot_S2048x1024_S2048x1024_S1024x1024_0_0_1_1_n_n 2048 rfl rfl).symm k) = ix2 k a := by
    funext z; apply Fin.ext
    match z with
    | ⟨0, _⟩ => exact hk
    | ⟨1, _⟩ => rfl
  have er : dot_S2048x1024_S2048x1024_S1024x1024_0_0_1_1_n_n.rhsIdx (ix2 a b) ((contrEquiv1 dot_S2048x1024_S2048x1024_S1024x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S1024x1024 .f32) (u : Vec Ideal S2048x1024 .bf16) (w : Vec Ideal S2048x1024 .f32) (a : Fin 1024) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S1024x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x1024.Idx → EReal := m ((c : Thread nD τ).loc main_arg0)
abbrev a1 : S16384x1024.Idx → EReal := m ((c : Thread nD τ).loc main_arg1)

theorem found_x : (V m c main_v0 : S16384x1024.Idx → EReal) = a0 m c := by
  simp only [V, List.flatten, List.append]
  after_reads_simp
  rfl

theorem found_d : (V m c main_arg1 : S16384x1024.Idx → EReal) = a1 m c := by
  simp only [V, List.flatten, List.append]
  after_reads_simp

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 0 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 1024) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 1024 + a.val = a.val; omega

theorem in_d : iblk m c 1 t (ix2 r b) = a1 m c (ix2 (trow (tile t) r) b) := by
  rw [← found_d]
  blk_simp [iblk]
  refine congrArg (V m c main_arg1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]; show 0 * 1024 + b.val = b.val; omega

/-- What tile `k` adds to an entry. -/
def part (a : Fin 1024) (b : Fin 1024) (k : Fin 8) : EReal := ∑ r : Fin 2048, a0 m c (ix2 (trow k r) a) * a1 m c (ix2 (trow k r) b)

theorem point_part (u : Vec Ideal S2048x1024 .bf16) (w : Vec Ideal S2048x1024 .f32) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S1024x1024.Idx => ∑ s, a0 m c (ix2 s (i 0)) * a1 m c (ix2 s (i 1)) := by
  refine (dats m 0 c).arrAt_eq_of_covers 2 _ (by decide +kernel) fun t hfl y => ?_
  have ht := flush_2 t hfl
  obtain ⟨a, b, rfl⟩ : ∃ (a : Fin 1024) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s b)).trans ?_)
  refine congrArg₂ (fun (x : Fin 1024) (y : Fin 1024) => ∑ s, a0 m c (ix2 s x) * a1 m c (ix2 s y)) (Fin.ext ?_) (Fin.ext ?_)
  · blk_simp; rw [(index_2 _).1]; show a.val = 0 * 1024 + a.val; omega
  · blk_simp; rw [(index_2 _).2]; show b.val = 0 * 1024 + b.val; omega

/-- The weights' gradient is the reference's. -/
theorem eq_w : (dats m 0 c).arrAt 2 cfg0.N = Cert.Reference10Ideal.Read.val_main_v1 (F := Ideal) (a0 m c) (a1 m c) := by
  refine (arr_w m c).trans (funext fun i => ?_)
  refine Eq.trans ?_ (Cert.Reference10Ideal.Read.val_main_v1_apply (a0 m c) (a1 m c) i).symm
  refine Finset.sum_congr rfl fun s _ => congrArg₂ (fun x y : EReal => x * y) ?_ (congrArg (a1 m c) ?_)
  · refine Eq.trans (congrArg (a0 m c) ?_) (Cert.Reference10Ideal.Read.val_main_v0_apply (F := Ideal) (a0 m c) _).symm
    exact funext fun z => Fin.ext (by match z with | ⟨0, _⟩ => rfl | ⟨1, _⟩ => rfl)
  · exact funext fun z => Fin.ext (by match z with | ⟨0, _⟩ => rfl | ⟨1, _⟩ => rfl)

end Cert.WeightOut
end
-- ==== Proof.GradWUq.lean ====
/-
  The gradient of the queries' weights, one block: what a grid point leaves in it, the tiles the point finds, the block as the
  sum of its eight tiles' products, and that it is the reference's product of the transposed rows.
-/
module

public import proofs.«01_k».proof.Proof.GradWEquation
public import proofs.«01_k».proof.Proof.Gen.Kernel11Ideal.Value
public import proofs.«01_k».proof.Proof.Gen.Reference11Ideal.Read

@[expose] public section

set_option maxRecDepth 16384

noncomputable section

namespace Cert.WeightUq

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel11Ideal Cert.Kernel11Ideal.Gen

section body

variable {F : FTy → Type} [FloatOps F]

variable (c : Dev nD) (i : grid0.Coords) (arg3 : Memref sig .tc .vmem S2048x384 .bf16) (harg3 : arg3.IsWhole)
  (arg4 : Memref sig .tc .vmem S2048x1024 .bf16) (harg4 : arg4.IsWhole) (arg5 : Memref sig .tc .vmem S384x1024 .f32) (harg5 : arg5.IsWhole)
  (x0 : Vec F S2048x384 .bf16) (x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S384x1024) hz, View.readCov_unit_zero (S := S384x1024) _ hz]
  simp only [View.readAt_eq_ld, harg3.read_unread, harg4.read_unread, View.ld_unit_zero (S := S2048x384) hz, View.ld_unit_zero (S := S2048x1024) hz]

theorem out_B (hc0 : ¬cond0_0 i) (a : Vec F S384x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S384x1024) hz]
  simp only [View.readAt_eq_ld, harg3.read_unread, harg4.read_unread, harg5.read_unread, View.ld_unit_zero (S := S2048x384) hz, View.ld_unit_zero (S := S2048x1024) hz, View.ld_unit_zero (S := S384x1024) hz]

end body

/-! ## Over the extended reals -/

/-- The product over the rows. -/
theorem dot_rows (u : FVec Ideal S2048x384 .bf16) (w : FVec Ideal S2048x1024 .bf16) (a : Fin 384) (b : Fin 1024) :
    matmul dot_S2048x384_S2048x1024_S384x1024_0_0_1_1_n_n none u w (constant S384x1024 .f32 0x00000000#32) (ix2 a b) = ∑ r : Fin 2048, u (ix2 r a) * w (ix2 r b) := by
  show FloatOps.matmul (F := Ideal) dot_S2048x384_S2048x1024_S384x1024_0_0_1_1_n_n none u w (constant S384x1024 .f32 0x00000000#32) (ix2 a b) = _
  rw [Ideal.matmul_apply, ← Equiv.sum_comp (contrEquiv1 dot_S2048x384_S2048x1024_S384x1024_0_0_1_1_n_n 2048 rfl rfl).symm,
    show (constant (F := Ideal) S384x1024 .f32 0x00000000#32 (ix2 a b) : EReal) = 0 from Ideal.ofBits_zero_f32, zero_add]
  refine Finset.sum_congr rfl fun k _ => ?_
  have hk := contrEquiv1_symm_val dot_S2048x384_S2048x1024_S384x1024_0_0_1_1_n_n 2048 rfl rfl k
  have el : dot_S2048x384_S2048x1024_S384x1024_0_0_1_1_n_n.lhsIdx (ix2 a b) ((contrEquiv1 dot_S2048x384_S2048x1024_S384x1024_0_0_1_1_n_n 2048 rfl rfl).symm k) = ix2 k a := by
    funext z; apply Fin.ext
    match z with
    | ⟨0, _⟩ => exact hk
    | ⟨1, _⟩ => rfl
  have er : dot_S2048x384_S2048x1024_S384x1024_0_0_1_1_n_n.rhsIdx (ix2 a b) ((contrEquiv1 dot_S2048x384_S2048x1024_S384x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S384x1024 .f32) (u : Vec Ideal S2048x384 .bf16) (w : Vec Ideal S2048x1024 .bf16) (a : Fin 384) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S384x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x384.Idx → EReal := m ((c : Thread nD τ).loc main_arg0)
abbrev a1 : S16384x1024.Idx → EReal := m ((c : Thread nD τ).loc main_arg1)

theorem found_x : (V m c main_v0 : S16384x384.Idx → EReal) = a0 m c := by
  simp only [V, List.flatten, List.append]
  after_reads_simp
  rfl

theorem found_d : (V m c main_v1 : S16384x1024.Idx → EReal) = a1 m c := by
  simp only [V, List.flatten, List.append]
  after_reads_simp
  rfl

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 0 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 384) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 384 + a.val = a.val; omega

theorem in_d : iblk m c 1 t (ix2 r b) = a1 m c (ix2 (trow (tile t) r) b) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]; show 0 * 1024 + b.val = b.val; omega

/-- What tile `k` adds to an entry. -/
def part (a : Fin 384) (b : Fin 1024) (k : Fin 8) : EReal := ∑ r : Fin 2048, a0 m c (ix2 (trow k r) a) * a1 m c (ix2 (trow k r) b)

theorem point_part (u : Vec Ideal S2048x384 .bf16) (w : Vec Ideal S2048x1024 .bf16) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S384x1024.Idx => ∑ s, a0 m c (ix2 s (i 0)) * a1 m c (ix2 s (i 1)) := by
  refine (dats m 0 c).arrAt_eq_of_covers 2 _ (by decide +kernel) fun t hfl y => ?_
  have ht := flush_2 t hfl
  obtain ⟨a, b, rfl⟩ : ∃ (a : Fin 384) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s b)).trans ?_)
  refine congrArg₂ (fun (x : Fin 384) (y : Fin 1024) => ∑ s, a0 m c (ix2 s x) * a1 m c (ix2 s y)) (Fin.ext ?_) (Fin.ext ?_)
  · blk_simp; rw [(index_2 _).1]; show a.val = 0 * 384 + a.val; omega
  · blk_simp; rw [(index_2 _).2]; show b.val = 0 * 1024 + b.val; omega

/-- The weights' gradient is the reference's. -/
theorem eq_w : (dats m 0 c).arrAt 2 cfg0.N = Cert.Reference11Ideal.Read.val_main_v1 (F := Ideal) (a0 m c) (a1 m c) := by
  refine (arr_w m c).trans (funext fun i => ?_)
  refine Eq.trans ?_ (Cert.Reference11Ideal.Read.val_main_v1_apply (a0 m c) (a1 m c) i).symm
  refine Finset.sum_congr rfl fun s _ => congrArg₂ (fun x y : EReal => x * y) ?_ (congrArg (a1 m c) ?_)
  · refine Eq.trans (congrArg (a0 m c) ?_) (Cert.Reference11Ideal.Read.val_main_v0_apply (F := Ideal) (a0 m c) _).symm
    exact funext fun z => Fin.ext (by match z with | ⟨0, _⟩ => rfl | ⟨1, _⟩ => rfl)
  · exact funext fun z => Fin.ext (by match z with | ⟨0, _⟩ => rfl | ⟨1, _⟩ => rfl)

end Cert.WeightUq
end
-- ==== Proof.GradWUk.lean ====
/-
  The gradient of the keys' weights, one block: what a grid point leaves in it, the tiles the point finds, the block as the
  sum of its eight tiles' products, and that it is the reference's product of the transposed rows.
-/
module

public import proofs.«01_k».proof.Proof.GradWEquation
public import proofs.«01_k».proof.Proof.Gen.Kernel12Ideal.Value
public import proofs.«01_k».proof.Proof.Gen.Reference12Ideal.Read

@[expose] public section

set_option maxRecDepth 16384

noncomputable section

namespace Cert.WeightUk

open Idealize.ShloMosaic hiding ix0 ix1 ix2 ix3 ix4 ix5 eq_ix2 eq_ix3
open Idealize.ShloMosaic.TcCoe Idealize.ShloMosaic.Tactic Idealize.ShloMosaic.ValueIdx Idealize.ShloMosaic.StableHlo
open Idealize.ShloMosaic.Pipeline (Dat)
open Cert.InWeight (hz add_at trow sum_rows)
open Cert.Kernel12Ideal Cert.Kernel12Ideal.Gen

section body

variable {F : FTy → Type} [FloatOps F]

variable (c : Dev nD) (i : grid0.Coords) (arg3 : Memref sig .tc .vmem S2048x256 .bf16) (harg3 : arg3.IsWhole)
  (arg4 : Memref sig .tc .vmem S2048x1024 .bf16) (harg4 : arg4.IsWhole) (arg5 : Memref sig .tc .vmem S256x1024 .f32) (harg5 : arg5.IsWhole)
  (x0 : Vec F S2048x256 .bf16) (x1 : Vec F S2048x1024 .bf16)

theorem out_A (hc0 : cond0_0 i) : out0_A_2 c i arg3 harg3 arg4 harg4 arg5 harg5 hc0 x0 x1 = k0_pay2 k0_pay1 x0 x1 := by
  unfold out0_A_2
  rw [View.read_writes_eq_canon _ _ _ (cover0_A_2 c i arg3 harg3 arg4 harg4 arg5 harg5 hc0 x0 x1)]
  unfold kernelRun0_A
  dsimp only
  sl_unfold_words
  rw [View.canon_cons_unit_zero (S := S256x1024) hz, View.readCov_unit_zero (S := S256x1024) _ hz]
  simp only [View.readAt_eq_ld, harg3.read_unread, harg4.read_unread, View.ld_unit_zero (S := S2048x256) hz, View.ld_unit_zero (S := S2048x1024) hz]

theorem out_B (hc0 : ¬cond0_0 i) (a : Vec F S256x1024 .f32) : out0_B_2 c i arg3 harg3 arg4 harg4 arg5 harg5 hc0 x0 x1 a = k0_pay2 a x0 x1 := by
  unfold out0_B_2
  rw [View.read_writes_eq_canon _ _ _ (cover0_B_2 c i arg3 harg3 arg4 harg4 arg5 harg5 hc0 x0 x1 a)]
  unfold kernelRun0_B
  dsimp only
  sl_unfold_words
  rw [View.canon_cons_unit_zero (S := S256x1024) hz]
  simp only [View.readAt_eq_ld, harg3.read_unread, harg4.read_unread, harg5.read_unread, View.ld_unit_zero (S := S2048x256) hz, View.ld_unit_zero (S := S2048x1024) hz, View.ld_unit_zero (S := S256x1024) hz]

end body

/-! ## Over the extended reals -/

/-- The product over the rows. -/
theorem dot_rows (u : FVec Ideal S2048x256 .bf16) (w : FVec Ideal S2048x1024 .bf16) (a : Fin 256) (b : Fin 1024) :
    matmul dot_S2048x256_S2048x1024_S256x1024_0_0_1_1_n_n none u w (constant S256x1024 .f32 0x00000000#32) (ix2 a b) = ∑ r : Fin 2048, u (ix2 r a) * w (ix2 r b) := by
  show FloatOps.matmul (F := Ideal) dot_S2048x256_S2048x1024_S256x1024_0_0_1_1_n_n none u w (constant S256x1024 .f32 0x00000000#32) (ix2 a b) = _
  rw [Ideal.matmul_apply, ← Equiv.sum_comp (contrEquiv1 dot_S2048x256_S2048x1024_S256x1024_0_0_1_1_n_n 2048 rfl rfl).symm,
    show (constant (F := Ideal) S256x1024 .f32 0x00000000#32 (ix2 a b) : EReal) = 0 from Ideal.ofBits_zero_f32, zero_add]
  refine Finset.sum_congr rfl fun k _ => ?_
  have hk := contrEquiv1_symm_val dot_S2048x256_S2048x1024_S256x1024_0_0_1_1_n_n 2048 rfl rfl k
  have el : dot_S2048x256_S2048x1024_S256x1024_0_0_1_1_n_n.lhsIdx (ix2 a b) ((contrEquiv1 dot_S2048x256_S2048x1024_S256x1024_0_0_1_1_n_n 2048 rfl rfl).symm k) = ix2 k a := by
    funext z; apply Fin.ext
    match z with
    | ⟨0, _⟩ => exact hk
    | ⟨1, _⟩ => rfl
  have er : dot_S2048x256_S2048x1024_S256x1024_0_0_1_1_n_n.rhsIdx (ix2 a b) ((contrEquiv1 dot_S2048x256_S2048x1024_S256x1024_0_0_1_1_n_n 2048 rfl rfl).symm k) = ix2 k b := by
    funext z; apply Fin.ext
    match z with
    | ⟨0, _⟩ => exact hk
    | ⟨1, _⟩ => rfl
  rw [el, er]

theorem pay2_apply (z : Vec Ideal S256x1024 .f32) (u : Vec Ideal S2048x256 .bf16) (w : Vec Ideal S2048x1024 .bf16) (a : Fin 256) (b : Fin 1024) :
    k0_pay2 z u w (ix2 a b) = z (ix2 a b) + ∑ r : Fin 2048, u (ix2 r a) * w (ix2 r b) := by
  unfold k0_pay2
  simp only [shapeCast_self]
  exact (add_at _ _ _).trans (congrArg (z (ix2 a b) + ·) (dot_rows u w a b))

theorem pay1_apply (i : S256x1024.Idx) : (k0_pay1 (F := Ideal) i : EReal) = 0 := Ideal.ofBits_zero_f32

/-! ## The launch -/

variable (m : (ℓ : Loc nD τ sig) → Buf (Elt Ideal) ℓ) (c : Dev nD)

/-- The two arguments. -/
abbrev a0 : S16384x256.Idx → EReal := m ((c : Thread nD τ).loc main_arg0)
abbrev a1 : S16384x1024.Idx → EReal := m ((c : Thread nD τ).loc main_arg1)

theorem found_x : (V m c main_v0 : S16384x256.Idx → EReal) = a0 m c := by
  simp only [V, List.flatten, List.append]
  after_reads_simp
  rfl

theorem found_d : (V m c main_v1 : S16384x1024.Idx → EReal) = a1 m c := by
  simp only [V, List.flatten, List.append]
  after_reads_simp
  rfl

/-- A point's tile. -/
abbrev tile (t : Fin cfg0.N) : Fin 8 := ⟨t.val % 8, Nat.mod_lt _ (by decide)⟩

theorem index_0 : ∀ t : Fin grid0.N, win0_0.index t 0 = t.val % 8 ∧ win0_0.index t 1 = 0 := by decide +kernel
theorem index_1 : ∀ t : Fin grid0.N, win0_1.index t 0 = t.val % 8 ∧ win0_1.index t 1 = 0 := by decide +kernel
theorem index_2 : ∀ t : Fin grid0.N, win0_2.index t 0 = 0 ∧ win0_2.index t 1 = 0 := by decide +kernel
theorem flush_2 : ∀ t : Fin cfg0.N, (cfg0.win 2).flush t = true → t.val % 8 = 7 := by decide +kernel

variable (t : Fin cfg0.N) (r : Fin 2048) (a : Fin 256) (b : Fin 1024)

theorem in_x : iblk m c 0 t (ix2 r a) = a0 m c (ix2 (trow (tile t) r) a) := by
  rw [← found_x]
  blk_simp [iblk]
  refine congrArg (V m c main_v0) (funext fun z => Fin.ext ?_)
  match z with
  | ⟨0, _⟩ => blk_simp; rw [(index_0 _).1]; show t.val % 8 * 2048 + r.val = 2048 * (t.val % 8) + r.val; omega
  | ⟨1, _⟩ => blk_simp; rw [(index_0 _).2]; show 0 * 256 + a.val = a.val; omega

theorem in_d : iblk m c 1 t (ix2 r b) = a1 m c (ix2 (trow (tile t) r) b) := by
  rw [← found_d]
  blk_simp [iblk]
  refine congrArg (V m c main_v1) (funext fun z => Fin.ext ?_)
  match z with
  | ⟨0, _⟩ => blk_simp; rw [(index_1 _).1]; show t.val % 8 * 2048 + r.val = 2048 * (t.val % 8) + r.val; omega
  | ⟨1, _⟩ => blk_simp; rw [(index_1 _).2]; show 0 * 1024 + b.val = b.val; omega

/-- What tile `k` adds to an entry. -/
def part (a : Fin 256) (b : Fin 1024) (k : Fin 8) : EReal := ∑ r : Fin 2048, a0 m c (ix2 (trow k r) a) * a1 m c (ix2 (trow k r) b)

theorem point_part (u : Vec Ideal S2048x256 .bf16) (w : Vec Ideal S2048x1024 .bf16) (hu : u = iblk m c 0 t) (hw : w = iblk m c 1 t) :
    (∑ r : Fin 2048, u (ix2 r a) * w (ix2 r b)) = part m c a b (tile t) := by
  subst hu hw
  exact Finset.sum_congr rfl fun r _ => congrArg₂ (fun x y : EReal => x * y) (in_x m c t r a) (in_d m c t r b)

theorem first (h0 : t.val % 8 = 0) : outsAt0 m c t.val t.isLt (ix2 a b) = part m c a b (tile t) := by
  rw [outsAt0_A m c t h0, out_A, pay2_apply, pay1_apply, zero_add]
  exact point_part m c t a b _ _ rfl rfl

theorem later (h0 : ¬t.val % 8 = 0) :
    outsAt0 m c t.val t.isLt (ix2 a b) = outsAt0 m c (t.val - 1) (Nat.lt_of_le_of_lt (Nat.sub_le _ _) t.isLt) (ix2 a b) + part m c a b (tile t) := by
  rw [outsAt0_B m c t h0, out_B, pay2_apply]
  exact congrArg (_ + ·) (point_part m c t a b _ _ rfl rfl)

/-- After tile `k` the entries are the sums over the tiles so far. -/
theorem outs (k : ℕ) (hk : k < 8) (h : k < cfg0.N) :
    outsAt0 m c k h (ix2 a b) = ∑ q : Fin (k + 1), part m c a b ⟨q.val, by omega⟩ := by
  induction k with
  | zero =>
    refine (first m c ⟨0, h⟩ a b rfl).trans ?_
    rw [Fin.sum_univ_one]
    rfl
  | succ k ih =>
    refine (later m c ⟨k + 1, h⟩ a b (by show ¬(k + 1) % 8 = 0; omega)).trans ?_
    refine Eq.trans ?_ (Fin.sum_univ_castSucc (n := k + 1) fun q => part m c a b ⟨q.val, by omega⟩).symm
    refine congrArg₂ (· + ·) (ih (by omega) (by omega)) (congrArg (part m c a b) (Fin.ext ?_))
    show (k + 1) % 8 = k + 1
    omega

/-- The array: each entry a sum over every row. -/
theorem arr_w : (dats m 0 c).arrAt 2 cfg0.N = fun i : S256x1024.Idx => ∑ s, a0 m c (ix2 s (i 0)) * a1 m c (ix2 s (i 1)) := by
  refine (dats m 0 c).arrAt_eq_of_covers 2 _ (by decide +kernel) fun t hfl y => ?_
  have ht := flush_2 t hfl
  obtain ⟨a, b, rfl⟩ : ∃ (a : Fin 256) (b : Fin 1024), y = ix2 a b := ⟨y 0, y 1, eq_ix2 y⟩
  blk_simp
  rw [after0_2]
  have e : t.val = 7 := by have hl : t.val < 8 := t.isLt; omega
  have g : outsAt0 m c t.val t.isLt (ix2 a b) = ∑ q : Fin 8, part m c a b q := by
    refine Eq.trans ?_ (outs m c a b 7 (by decide) (by decide))
    congr 1
  refine g.trans ((sum_rows fun s => a0 m c (ix2 s a) * a1 m c (ix2 s b)).trans ?_)
  refine congrArg₂ (fun (x : Fin 256) (y : Fin 1024) => ∑ s, a0 m c (ix2 s x) * a1 m c (ix2 s y)) (Fin.ext ?_) (Fin.ext ?_)
  · blk_simp; rw [(index_2 _).1]; show a.val = 0 * 256 + a.val; omega
  · blk_simp; rw [(index_2 _).2]; show b.val = 0 * 1024 + b.val; omega

/-- The weights' gradient is the reference's. -/
theorem eq_w : (dats m 0 c).arrAt 2 cfg0.N = Cert.Reference12Ideal.Read.val_main_v1 (F := Ideal) (a0 m c) (a1 m c) := by
  refine (arr_w m c).trans (funext fun i => ?_)
  refine Eq.trans ?_ (Cert.Reference12Ideal.Read.val_main_v1_apply (a0 m c) (a1 m c) i).symm
  refine Finset.sum_congr rfl fun s _ => congrArg₂ (fun x y : EReal => x * y) ?_ (congrArg (a1 m c) ?_)
  · refine Eq.trans (congrArg (a0 m c) ?_) (Cert.Reference12Ideal.Read.val_main_v0_apply (F := Ideal) (a0 m c) _).symm
    exact funext fun z => Fin.ext (by match z with | ⟨0, _⟩ => rfl | ⟨1, _⟩ => rfl)
  · exact funext fun z => Fin.ext (by match z with | ⟨0, _⟩ => rfl | ⟨1, _⟩ => rfl)

end Cert.WeightUk
end
-- ==== Proof.lean ====
/-
  The certificate of twelve launches, the attention's backward and forward, the input projection's backward, its weights'
  gradient and its forward, and the gradients of seven other weights: the programs and the references run and leave their
  arguments as they were. Over the extended reals, on finite arguments, the attention's backward launch computes the
  reference's three gradients, its forward launch the reference's output and log-sum-exp, and the projection's backward
  launch the reference's residual gradient and gain's gradient; and on any arguments the weights' gradient launches compute
  the references' products, and the projection's forward launch the reference's projection and normalised rows.
-/
module

public import proofs.«01_k».proof.Defs
public import proofs.«01_k».proof.Proof.Run
public import proofs.«01_k».proof.Proof.Equation
public import proofs.«01_k».proof.Proof.Finite
public import proofs.«01_k».proof.Proof.Same
public import proofs.«01_k».proof.Proof.FwdMain
public import proofs.«01_k».proof.Proof.FwdEquation
public import proofs.«01_k».proof.Proof.FwdFinite
public import proofs.«01_k».proof.Proof.FwdSame
public import proofs.«01_k».proof.Proof.Gen.Kernel
public import proofs.«01_k».proof.Proof.Gen.Kernel2
public import proofs.«01_k».proof.Proof.Gen.Reference2Ideal.Run
public import proofs.«01_k».proof.Proof.Gen.Reference2Ideal.Read
public import proofs.«01_k».proof.Proof.InFinite
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.GradWEquation
public import proofs.«01_k».proof.Proof.ProjRef
public import proofs.«01_k».proof.Proof.GradWConv
public import proofs.«01_k».proof.Proof.GradWBrAttn
public import proofs.«01_k».proof.Proof.GradWBrConv
public import proofs.«01_k».proof.Proof.GradWBrMem
public import proofs.«01_k».proof.Proof.GradWOut
public import proofs.«01_k».proof.Proof.GradWUq
public import proofs.«01_k».proof.Proof.GradWUk
public import proofs.«01_k».proof.Proof.Gen.Kernel4
public import proofs.«01_k».proof.Proof.Gen.Kernel5
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem
open Cert.AttnBwd

/-! ## The backward launch -/

/-- The kernel as written. -/
theorem frame_kernel : Cert.quiescent_Kernel := fun m ρ _ => by
  show θ_run Cert.Kernel.defs (onTc Cert.Kernel.main) _ _
  rw [defs_eq, main_eq]
  exact (θ_run Cert.KernelIdeal.defs _ _).mono (fun _ h => h) (run_frame (F := Bits) m ρ)

/-- Its idealization. -/
theorem frame_ideal : Cert.quiescent_KernelIdeal := fun m ρ _ => run_frame (F := Ideal) m ρ

theorem frame_ideal_pre : Cert.quiescent_KernelIdeal_pre_all_finite := fun m ρ _ => run_frame (F := Ideal) m ρ

/-- The reference; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference_pre : Cert.quiescent_ReferenceIdeal_pre_all_finite := fun m ρ _ =>
  frame_reference m ρ trivial

/-- The launch's results are the reference's. -/
theorem value : Cert.algebraic_KernelIdeal_ReferenceIdeal_pre_all_finite := by
  intro m g m' g' hpre hargs
  refine ⟨fun c => outDq m c, fun c => (state m c Cert.KernelIdeal.cfg0.N).fk, fun c => (state m c Cert.KernelIdeal.cfg0.N).fv, ?_, ?_⟩
  · exact (θ_run Cert.KernelIdeal.defs _ _).mono (fun r h c => ⟨((h.1 c).1).trans (arr_dq m c), (h.1 c).2.1, (h.1 c).2.2, h.2.1 c⟩)
      (θ_run_and (run_results (F := Ideal) m g) (run_frame (F := Ideal) m g))
  · refine (θ_run Cert.ReferenceIdeal.defs _ _).mono (fun r h c => ?_) (Cert.ReferenceIdeal.Value.run (F := Ideal) m' g')
    obtain ⟨r0, r1, r2, rest⟩ := h c
    obtain ⟨e0, e1, e2, e3⟩ := hargs c
    obtain ⟨Q, K, W, C, H⟩ := holds_of_finite _ _ _ _ (hpre c)
    refine ⟨r0.trans ?_, r1.trans ?_, r2.trans ?_, rest⟩
    · rw [Cert.ReferenceIdeal.Read.val_main_v56_eq, e0, e1, e2, e3]
      exact (eq_dq m c H).symm
    · rw [Cert.ReferenceIdeal.Read.val_main_v59_eq, e0, e1, e2, e3]
      exact (eq_dk m c H).symm
    · rw [Cert.ReferenceIdeal.Read.val_main_v62_eq, e0, e1, e3]
      exact (eq_dv m c H).symm

/-! ## The forward launch -/

/-- The kernel as written. -/
theorem frame_kernel2 : Cert.quiescent_Kernel2 := fun m ρ _ => by
  show θ_run Cert.Kernel2.defs (onTc Cert.Kernel2.main) _ _
  rw [Cert.AttnFwd.defs_eq, Cert.AttnFwd.main_eq]
  exact (θ_run Cert.Kernel2Ideal.defs _ _).mono (fun _ h => h) (Cert.AttnFwd.run_frame (F := Bits) m ρ)

/-- Its idealization. -/
theorem frame_ideal2 : Cert.quiescent_Kernel2Ideal := fun m ρ _ => Cert.AttnFwd.run_frame (F := Ideal) m ρ

theorem frame_ideal2_pre : Cert.quiescent_Kernel2Ideal_pre_all_finite2 := fun m ρ _ => Cert.AttnFwd.run_frame (F := Ideal) m ρ

/-- The reference; it declares no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem frame_reference2_pre : Cert.quiescent_Reference2Ideal_pre_all_finite2 := fun m ρ _ =>
  frame_reference2 m ρ trivial

/-- The launch's output and log-sum-exp are the reference's. -/
theorem value2 : Cert.algebraic_Kernel2Ideal_Reference2Ideal_pre_all_finite2 := by
  intro m g m' g' hpre hargs
  refine ⟨fun c => (Cert.AttnFwd.dats m 0 c).arrAt 4 Cert.Kernel2Ideal.cfg0.N, fun c => (Cert.AttnFwd.dats m 0 c).arrAt 5 Cert.Kernel2Ideal.cfg0.N, ?_, ?_⟩
  · exact (θ_run Cert.Kernel2Ideal.defs _ _).mono (fun r h c => ⟨(h.1 c).1, (h.1 c).2, h.2.1 c⟩)
      (θ_run_and (Cert.AttnFwd.run_results (F := Ideal) m g) (Cert.AttnFwd.run_frame (F := Ideal) m g))
  · refine (θ_run Cert.Reference2Ideal.defs _ _).mono (fun r h c => ?_) (Cert.Reference2Ideal.Value.run (F := Ideal) m' g')
    obtain ⟨r0, r1, rest⟩ := h c
    obtain ⟨e0, e1, e2, e3, e4⟩ := hargs c
    obtain ⟨⟨Q, K, W, H⟩, h3, h4⟩ := Cert.AttnFwd.holds_of_finite _ _ _ _ _ (hpre c)
    refine ⟨r0.trans ?_, r1.trans ?_, rest⟩
    · rw [Cert.Reference2Ideal.Read.val_main_v26_eq, e0, e1, e2]
      exact (Cert.AttnFwd.eq_out m c H h3 h4).symm
    · rw [Cert.Reference2Ideal.Read.val_main_v24_eq, e0, e1]
      exact (Cert.AttnFwd.eq_lse m c H h3 h4).symm

/-! ## The projection's gradient -/

/-- The kernel as written. -/
theorem frame_kernel3 : Cert.quiescent_Kernel3 := fun m ρ _ => Cert.Kernel3.Gen.frame m ρ

/-- Its idealization. -/
theorem frame_ideal3 : Cert.quiescent_Kernel3Ideal := fun m ρ _ => Cert.Kernel3Ideal.Gen.frame m ρ

theorem frame_ideal3_pre : Cert.quiescent_Kernel3Ideal_pre_all_finite3 := fun m ρ _ => Cert.Kernel3Ideal.Gen.frame m ρ

/-- The reference; it declares no semaphore. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference3_pre : Cert.quiescent_Reference3Ideal_pre_all_finite3 := fun m ρ _ =>
  frame_reference3 m ρ trivial

/-- The launch's residual gradient and gain's gradient are the reference's. -/
theorem value3 : Cert.algebraic_Kernel3Ideal_Reference3Ideal_pre_all_finite3 := by
  intro m g m' g' hpre hargs
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N, ?_, ?_⟩
  · exact Cert.Kernel3Ideal.Value.run_blocks (F := Ideal) m g
  · refine (θ_run Cert.Reference3Ideal.defs _ _).mono (fun r h c => ?_) (Cert.Reference3Ideal.Value.run (F := Ideal) m' g')
    obtain ⟨r0, r1, rest⟩ := h c
    obtain ⟨e0, e1, e2, e3, e4⟩ := hargs c
    obtain ⟨X, γ, W, D, G, H⟩ := Cert.InBwd.holds_of_finite _ _ _ _ _ (hpre c)
    refine ⟨r0.trans ?_, r1.trans ?_, rest⟩
    · rw [Cert.Reference3Ideal.Read.val_main_v38_eq, e0, e1, e2, e3, e4]
      exact (Cert.InBwd.eq_dx m c H).symm
    · rw [Cert.Reference3Ideal.Read.val_main_v39_eq, e0, e2, e3]
      exact (Cert.InBwd.eq_dn m c H).symm

/-! ## The gradient of the projection's weights -/

/-- The kernel as written. -/
theorem frame_kernel4 : Cert.quiescent_Kernel4 := fun m ρ _ => Cert.Kernel4.Gen.frame m ρ

/-- Its idealization. -/
theorem frame_ideal4 : Cert.quiescent_Kernel4Ideal := fun m ρ _ => Cert.Kernel4Ideal.Gen.frame m ρ

/-- The reference; it declares no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The launch's gradient is the reference's. -/
theorem value4 : Cert.algebraic_Kernel4Ideal_Reference4Ideal := by
  intro m g m' g' _ hargs
  refine ⟨fun c => (Cert.Kernel4Ideal.Gen.dats m 0 c).arrAt 2 Cert.Kernel4Ideal.cfg0.N, ?_, ?_⟩
  · exact Cert.Kernel4Ideal.Value.run_blocks (F := Ideal) m g
  · refine (θ_run Cert.Reference4Ideal.defs _ _).mono (fun r h c => ?_) (Cert.Reference4Ideal.Value.run (F := Ideal) m' g')
    obtain ⟨r0, rest⟩ := h c
    obtain ⟨e0, e1⟩ := hargs c
    refine ⟨r0.trans ?_, rest⟩
    rw [Cert.Reference4Ideal.Read.val_main_v1_eq, e0, e1]
    exact (Cert.InWeight.eq_w m c).symm

/-! ## The projection -/

/-- The kernel as written. -/
theorem frame_kernel5 : Cert.quiescent_Kernel5 := fun m ρ _ => Cert.Kernel5.Gen.frame m ρ

/-- Its idealization. -/
theorem frame_ideal5 : Cert.quiescent_Kernel5Ideal := fun m ρ _ => Cert.Kernel5Ideal.Gen.frame m ρ

/-- The reference; it declares no semaphore. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The launch's projection and normalised rows are the reference's. -/
theorem value5 : Cert.algebraic_Kernel5Ideal_Reference5Ideal := by
  intro m g m' g' _ hargs
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N, ?_, ?_⟩
  · exact Cert.Kernel5Ideal.Value.run_blocks (F := Ideal) m g
  · refine (θ_run Cert.Reference5Ideal.defs _ _).mono (fun r h c => ?_) (Cert.Reference5Ideal.Value.run (F := Ideal) m' g')
    obtain ⟨r0, r1, rest⟩ := h c
    obtain ⟨e0, e1, e2⟩ := hargs c
    refine ⟨r0.trans ?_, r1.trans ?_, rest⟩
    · rw [Cert.Reference5Ideal.Read.val_main_v14_eq, e0, e1, e2]
      exact (Cert.InFwd.eq_proj m c).symm
    · rw [Cert.Reference5Ideal.Read.val_main_v15_eq, e0, e1]
      exact (Cert.InFwd.eq_xn m c).symm

/-! ## The gradient of the convolution branch's input weights -/

/-- The kernel as written. -/
theorem frame_kernel6 : Cert.quiescent_Kernel6 := fun m ρ _ => Cert.Kernel6.Gen.frame m ρ

/-- Its idealization. -/
theorem frame_ideal6 : Cert.quiescent_Kernel6Ideal := fun m ρ _ => Cert.Kernel6Ideal.Gen.frame m ρ

/-- The reference; it declares no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The launch's gradient is the reference's. -/
theorem value6 : Cert.algebraic_Kernel6Ideal_Reference6Ideal := by
  intro m g m' g' _ hargs
  refine ⟨fun c => (Cert.Kernel6Ideal.Gen.dats m 0 c).arrAt 2 Cert.Kernel6Ideal.cfg0.N, ?_, ?_⟩
  · exact Cert.Kernel6Ideal.Value.run_blocks (F := Ideal) m g
  · refine (θ_run Cert.Reference6Ideal.defs _ _).mono (fun r h c => ?_) (Cert.Reference6Ideal.Value.run (F := Ideal) m' g')
    obtain ⟨r0, rest⟩ := h c
    obtain ⟨e0, e1⟩ := hargs c
    refine ⟨r0.trans ?_, rest⟩
    rw [Cert.Reference6Ideal.Read.val_main_v1_eq, e0, e1]
    exact (Cert.WeightConv.eq_w m c).symm

/-! ## The gradient of the attention branch's output weights -/

/-- The kernel as written. -/
theorem frame_kernel7 : Cert.quiescent_Kernel7 := fun m ρ _ => Cert.Kernel7.Gen.frame m ρ

/-- Its idealization. -/
theorem frame_ideal7 : Cert.quiescent_Kernel7Ideal := fun m ρ _ => Cert.Kernel7Ideal.Gen.frame m ρ

/-- The reference; it declares no semaphore. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The launch's gradient is the reference's. -/
theorem value7 : Cert.algebraic_Kernel7Ideal_Reference7Ideal := by
  intro m g m' g' _ hargs
  refine ⟨fun c => (Cert.Kernel7Ideal.Gen.dats m 0 c).arrAt 2 Cert.Kernel7Ideal.cfg0.N, ?_, ?_⟩
  · exact Cert.Kernel7Ideal.Value.run_blocks (F := Ideal) m g
  · refine (θ_run Cert.Reference7Ideal.defs _ _).mono (fun r h c => ?_) (Cert.Reference7Ideal.Value.run (F := Ideal) m' g')
    obtain ⟨r0, rest⟩ := h c
    obtain ⟨e0, e1⟩ := hargs c
    refine ⟨r0.trans ?_, rest⟩
    rw [Cert.Reference7Ideal.Read.val_main_v2_eq, e0, e1]
    exact (Cert.WeightBrAttn.eq_w m c).symm

/-! ## The gradient of the convolution branch's output weights -/

/-- The kernel as written. -/
theorem frame_kernel8 : Cert.quiescent_Kernel8 := fun m ρ _ => Cert.Kernel8.Gen.frame m ρ

/-- Its idealization. -/
theorem frame_ideal8 : Cert.quiescent_Kernel8Ideal := fun m ρ _ => Cert.Kernel8Ideal.Gen.frame m ρ

/-- The reference; it declares no semaphore. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The launch's gradient is the reference's. -/
theorem value8 : Cert.algebraic_Kernel8Ideal_Reference8Ideal := by
  intro m g m' g' _ hargs
  refine ⟨fun c => (Cert.Kernel8Ideal.Gen.dats m 0 c).arrAt 2 Cert.Kernel8Ideal.cfg0.N, ?_, ?_⟩
  · exact Cert.Kernel8Ideal.Value.run_blocks (F := Ideal) m g
  · refine (θ_run Cert.Reference8Ideal.defs _ _).mono (fun r h c => ?_) (Cert.Reference8Ideal.Value.run (F := Ideal) m' g')
    obtain ⟨r0, rest⟩ := h c
    obtain ⟨e0, e1⟩ := hargs c
    refine ⟨r0.trans ?_, rest⟩
    rw [Cert.Reference8Ideal.Read.val_main_v2_eq, e0, e1]
    exact (Cert.WeightBrConv.eq_w m c).symm

/-! ## The gradient of the memory branch's output weights -/

/-- The kernel as written. -/
theorem frame_kernel9 : Cert.quiescent_Kernel9 := fun m ρ _ => Cert.Kernel9.Gen.frame m ρ

/-- Its idealization. -/
theorem frame_ideal9 : Cert.quiescent_Kernel9Ideal := fun m ρ _ => Cert.Kernel9Ideal.Gen.frame m ρ

/-- The reference; it declares no semaphore. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The launch's gradient is the reference's. -/
theorem value9 : Cert.algebraic_Kernel9Ideal_Reference9Ideal := by
  intro m g m' g' _ hargs
  refine ⟨fun c => (Cert.Kernel9Ideal.Gen.dats m 0 c).arrAt 2 Cert.Kernel9Ideal.cfg0.N, ?_, ?_⟩
  · exact Cert.Kernel9Ideal.Value.run_blocks (F := Ideal) m g
  · refine (θ_run Cert.Reference9Ideal.defs _ _).mono (fun r h c => ?_) (Cert.Reference9Ideal.Value.run (F := Ideal) m' g')
    obtain ⟨r0, rest⟩ := h c
    obtain ⟨e0, e1⟩ := hargs c
    refine ⟨r0.trans ?_, rest⟩
    rw [Cert.Reference9Ideal.Read.val_main_v2_eq, e0, e1]
    exact (Cert.WeightBrMem.eq_w m c).symm

/-! ## The gradient of the output weights -/

/-- The kernel as written. -/
theorem frame_kernel10 : Cert.quiescent_Kernel10 := fun m ρ _ => Cert.Kernel10.Gen.frame m ρ

/-- Its idealization. -/
theorem frame_ideal10 : Cert.quiescent_Kernel10Ideal := fun m ρ _ => Cert.Kernel10Ideal.Gen.frame m ρ

/-- The reference; it declares no semaphore. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The launch's gradient is the reference's. -/
theorem value10 : Cert.algebraic_Kernel10Ideal_Reference10Ideal := by
  intro m g m' g' _ hargs
  refine ⟨fun c => (Cert.Kernel10Ideal.Gen.dats m 0 c).arrAt 2 Cert.Kernel10Ideal.cfg0.N, ?_, ?_⟩
  · exact Cert.Kernel10Ideal.Value.run_blocks (F := Ideal) m g
  · refine (θ_run Cert.Reference10Ideal.defs _ _).mono (fun r h c => ?_) (Cert.Reference10Ideal.Value.run (F := Ideal) m' g')
    obtain ⟨r0, rest⟩ := h c
    obtain ⟨e0, e1⟩ := hargs c
    refine ⟨r0.trans ?_, rest⟩
    rw [Cert.Reference10Ideal.Read.val_main_v1_eq, e0, e1]
    exact (Cert.WeightOut.eq_w m c).symm

/-! ## The gradient of the queries' weights -/

/-- The kernel as written. -/
theorem frame_kernel11 : Cert.quiescent_Kernel11 := fun m ρ _ => Cert.Kernel11.Gen.frame m ρ

/-- Its idealization. -/
theorem frame_ideal11 : Cert.quiescent_Kernel11Ideal := fun m ρ _ => Cert.Kernel11Ideal.Gen.frame m ρ

/-- The reference; it declares no semaphore. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The launch's gradient is the reference's. -/
theorem value11 : Cert.algebraic_Kernel11Ideal_Reference11Ideal := by
  intro m g m' g' _ hargs
  refine ⟨fun c => (Cert.Kernel11Ideal.Gen.dats m 0 c).arrAt 2 Cert.Kernel11Ideal.cfg0.N, ?_, ?_⟩
  · exact Cert.Kernel11Ideal.Value.run_blocks (F := Ideal) m g
  · refine (θ_run Cert.Reference11Ideal.defs _ _).mono (fun r h c => ?_) (Cert.Reference11Ideal.Value.run (F := Ideal) m' g')
    obtain ⟨r0, rest⟩ := h c
    obtain ⟨e0, e1⟩ := hargs c
    refine ⟨r0.trans ?_, rest⟩
    rw [Cert.Reference11Ideal.Read.val_main_v1_eq, e0, e1]
    exact (Cert.WeightUq.eq_w m c).symm

/-! ## The gradient of the keys' weights -/

/-- The kernel as written. -/
theorem frame_kernel12 : Cert.quiescent_Kernel12 := fun m ρ _ => Cert.Kernel12.Gen.frame m ρ

/-- Its idealization. -/
theorem frame_ideal12 : Cert.quiescent_Kernel12Ideal := fun m ρ _ => Cert.Kernel12Ideal.Gen.frame m ρ

/-- The reference; it declares no semaphore. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The launch's gradient is the reference's. -/
theorem value12 : Cert.algebraic_Kernel12Ideal_Reference12Ideal := by
  intro m g m' g' _ hargs
  refine ⟨fun c => (Cert.Kernel12Ideal.Gen.dats m 0 c).arrAt 2 Cert.Kernel12Ideal.cfg0.N, ?_, ?_⟩
  · exact Cert.Kernel12Ideal.Value.run_blocks (F := Ideal) m g
  · refine (θ_run Cert.Reference12Ideal.defs _ _).mono (fun r h c => ?_) (Cert.Reference12Ideal.Value.run (F := Ideal) m' g')
    obtain ⟨r0, rest⟩ := h c
    obtain ⟨e0, e1⟩ := hargs c
    refine ⟨r0.trans ?_, rest⟩
    rw [Cert.Reference12Ideal.Read.val_main_v1_eq, e0, e1]
    exact (Cert.WeightUk.eq_w m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    preFacts, Cert.AttnFwd.preFacts, Cert.InBwd.preFacts,
    frame_kernel, frame_ideal, frame_ideal_pre, frame_reference, frame_reference_pre,
    frame_kernel2, frame_ideal2, frame_ideal2_pre, frame_reference2, frame_reference2_pre,
    frame_kernel3, frame_ideal3, frame_ideal3_pre, frame_reference3, frame_reference3_pre,
    frame_kernel4, frame_ideal4, frame_reference4, frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    trivial, value, trivial, value2, trivial, value3, trivial, value4, trivial, value5,
    trivial, value6, trivial, value7, trivial, value8, trivial, value9, trivial, value10, trivial, value11, trivial, value12⟩

end Cert.Proof

end
